-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)) (v4 : (c : Dev Cert.KernelIdeal.nD) → Buf (Elt Ideal) ((c.tc : Thread Cert.KernelIdeal.nD Cert.KernelIdeal.τ).loc Cert.KernelIdeal.main_v3_4)) (v5 : (c : Dev Cert.KernelIdeal.nD) → Buf (Elt Ideal) ((c.tc : Thread Cert.KernelIdeal.nD Cert.KernelIdeal.τ).loc Cert.KernelIdeal.main_v3_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_v3_4) = v4 c
          ∧ r.2.mem ((c.tc : Thread Cert.KernelIdeal.nD Cert.KernelIdeal.τ).loc Cert.KernelIdeal.main_v3_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3_0) = v0 c
          ∧ r.2.mem ((c.tc : Thread Cert.ReferenceIdeal.nD Cert.ReferenceIdeal.τ).loc Cert.ReferenceIdeal.main_v3_1) = v1 c
          ∧ r.2.mem ((c.tc : Thread Cert.ReferenceIdeal.nD Cert.ReferenceIdeal.τ).loc Cert.ReferenceIdeal.main_v3_2) = v2 c
          ∧ r.2.mem ((c.tc : Thread Cert.ReferenceIdeal.nD Cert.ReferenceIdeal.τ).loc Cert.ReferenceIdeal.main_v3_3) = v3 c
          ∧ r.2.mem ((c.tc : Thread Cert.ReferenceIdeal.nD Cert.ReferenceIdeal.τ).loc Cert.ReferenceIdeal.main_v3_4) = v4 c
          ∧ r.2.mem ((c.tc : Thread Cert.ReferenceIdeal.nD Cert.ReferenceIdeal.τ).loc Cert.ReferenceIdeal.main_v3_5) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S8x1536x16384 : Shape := ⟨3, ![8, 1536, 16384]⟩
abbrev S2112x16384 : Shape := ⟨2, ![2112, 16384]⟩
abbrev S17x128 : Shape := ⟨2, ![17, 128]⟩
abbrev S1536 : Shape := ⟨1, ![1536]⟩
abbrev S512 : Shape := ⟨1, ![512]⟩
abbrev S_ : Shape := ⟨0, ![]⟩

class Facts : Prop where
  bcast_S_S8x1536x16384 : S_.BroadcastsInDim S8x1536x16384 (![] : Fin 0 → Fin S8x1536x16384.rank)
  reducesTo_S8x1536x16384_S_d0_1_2 : S8x1536x16384.ReducesTo [0, 1, 2] S_
  h_S_ : 0 < S_.numel
  bcast_S_S1536 : S_.BroadcastsInDim S1536 (![] : Fin 0 → Fin S1536.rank)
  reducesTo_S1536_S_d0 : S1536.ReducesTo [0] S_

variable [Facts]

def fn {F : FTy → Type} [FloatOps F] (main_arg0 : FVec F S8x1536x16384 .bf16) (main_arg1 : FVec F S2112x16384 .fp8e4m3) (main_arg2 : FVec F S17x128 .f32) (main_arg3 : FVec F S1536 .bf16) (main_arg4 : FVec F S512 .bf16) : IVec S_ 1 :=
  let main_v0 : FVec F S8x1536x16384 .bf16 := Host.absf main_arg0
  let main_cst : FVec F S_ .bf16 := constant S_ .bf16 0x7F7F#16
  let main_v1 : FVec F S8x1536x16384 .bf16 := broadcastInDim S8x1536x16384 ![] bcast_S_S8x1536x16384 main_cst
  let main_v2 : IVec S8x1536x16384 1 := cmpf .ole main_v0 main_v1
  let main_c : IVec S_ 1 := constantI S_ 1 1#1
  let main_v3 : IVec S_ 1 := (fun x v => Host.reduce IntOp.andi x v reducesTo_S8x1536x16384_S_d0_1_2 h_S_) main_v2 main_c
  let main_v4 : FVec F S1536 .bf16 := Host.absf main_arg3
  let main_cst_0 : FVec F S_ .bf16 := constant S_ .bf16 0x7F7F#16
  let main_v5 : FVec F S1536 .bf16 := broadcastInDim S1536 ![] bcast_S_S1536 main_cst_0
  let main_v6 : IVec S1536 1 := cmpf .ole main_v4 main_v5
  let main_c_1 : IVec S_ 1 := constantI S_ 1 1#1
  let main_v7 : IVec S_ 1 := (fun x v => Host.reduce IntOp.andi x v reducesTo_S1536_S_d0 h_S_) main_v6 main_c_1
  let main_v8 : IVec S_ 1 := andi main_v3 main_v7
  main_v8
-- ==== Kernel.lean ====
abbrev S8x1536x16384 : Shape := ⟨3, ![8, 1536, 16384]⟩
abbrev S2112x16384 : Shape := ⟨2, ![2112, 16384]⟩
abbrev S17x128 : Shape := ⟨2, ![17, 128]⟩
abbrev S1536 : Shape := ⟨1, ![1536]⟩
abbrev S512 : Shape := ⟨1, ![512]⟩
abbrev S12288x16384 : Shape := ⟨2, ![12288, 16384]⟩
abbrev S1x1536 : Shape := ⟨2, ![1, 1536]⟩
abbrev S1x512 : Shape := ⟨2, ![1, 512]⟩
abbrev S12288x1536 : Shape := ⟨2, ![12288, 1536]⟩
abbrev S12288x12 : Shape := ⟨2, ![12288, 12]⟩
abbrev S12288x512 : Shape := ⟨2, ![12288, 512]⟩
abbrev S12288x64 : Shape := ⟨2, ![12288, 64]⟩
abbrev S12288x128 : Shape := ⟨2, ![12288, 128]⟩
abbrev S1024x1024 : Shape := ⟨2, ![1024, 1024]⟩
abbrev S2112x1024 : Shape := ⟨2, ![2112, 1024]⟩
abbrev S1024x1536 : Shape := ⟨2, ![1024, 1536]⟩
abbrev S1024x12 : Shape := ⟨2, ![1024, 12]⟩
abbrev S1024x512 : Shape := ⟨2, ![1024, 512]⟩
abbrev S1024x64 : Shape := ⟨2, ![1024, 64]⟩
abbrev S1024x128 : Shape := ⟨2, ![1024, 128]⟩
abbrev S1024x2112 : Shape := ⟨2, ![1024, 2112]⟩
abbrev S1024 : Shape := ⟨1, ![1024]⟩
abbrev S1024x1 : Shape := ⟨2, ![1024, 1]⟩
abbrev S1x256 : Shape := ⟨2, ![1, 256]⟩
abbrev S1024x256 : Shape := ⟨2, ![1024, 256]⟩
abbrev S1x1 : Shape := ⟨2, ![1, 1]⟩
abbrev S1x128 : Shape := ⟨2, ![1, 128]⟩
abbrev S128x128 : Shape := ⟨2, ![128, 128]⟩
abbrev S64x128 : Shape := ⟨2, ![64, 128]⟩

abbrev nBuf : Space → Nat
  | .hbm => 14
  | .vmem => 21
  | .smem => 1
  | _ => 0

abbrev bufTy : (tb : Table) → Fin (tcTables nBuf tb) → BufTy
  | .hbm, ⟨0, _⟩ => ⟨S8x1536x16384, .bf16⟩
  | .hbm, ⟨1, _⟩ => ⟨S2112x16384, .fp8e4m3⟩
  | .hbm, ⟨2, _⟩ => ⟨S17x128, .f32⟩
  | .hbm, ⟨3, _⟩ => ⟨S1536, .bf16⟩
  | .hbm, ⟨4, _⟩ => ⟨S512, .bf16⟩
  | .hbm, ⟨5, _⟩ => ⟨S12288x16384, .bf16⟩
  | .hbm, ⟨6, _⟩ => ⟨S1x1536, .bf16⟩
  | .hbm, ⟨7, _⟩ => ⟨S1x512, .bf16⟩
  | .hbm, ⟨8, _⟩ => ⟨S12288x1536, .fp8e4m3⟩
  | .hbm, ⟨9, _⟩ => ⟨S12288x12, .f32⟩
  | .hbm, ⟨10, _⟩ => ⟨S12288x512, .bf16⟩
  | .hbm, ⟨11, _⟩ => ⟨S12288x64, .bf16⟩
  | .hbm, ⟨12, _⟩ => ⟨S12288x16384, .fp8e4m3⟩
  | .hbm, ⟨13, _⟩ => ⟨S12288x128, .f32⟩
  | .local _ .vmem, ⟨0, _⟩ => ⟨S1024x1024, .bf16⟩
  | .local _ .vmem, ⟨1, _⟩ => ⟨S1024x1024, .bf16⟩
  | .local _ .vmem, ⟨2, _⟩ => ⟨S2112x1024, .fp8e4m3⟩
  | .local _ .vmem, ⟨3, _⟩ => ⟨S2112x1024, .fp8e4m3⟩
  | .local _ .vmem, ⟨4, _⟩ => ⟨S1x1536, .bf16⟩
  | .local _ .vmem, ⟨5, _⟩ => ⟨S1x512, .bf16⟩
  | .local _ .vmem, ⟨6, _⟩ => ⟨S1024x1536, .fp8e4m3⟩
  | .local _ .vmem, ⟨7, _⟩ => ⟨S1024x1536, .fp8e4m3⟩
  | .local _ .vmem, ⟨8, _⟩ => ⟨S1024x12, .f32⟩
  | .local _ .vmem, ⟨9, _⟩ => ⟨S1024x12, .f32⟩
  | .local _ .vmem, ⟨10, _⟩ => ⟨S1024x512, .bf16⟩
  | .local _ .vmem, ⟨11, _⟩ => ⟨S1024x512, .bf16⟩
  | .local _ .vmem, ⟨12, _⟩ => ⟨S1024x64, .bf16⟩
  | .local _ .vmem, ⟨13, _⟩ => ⟨S1024x64, .bf16⟩
  | .local _ .vmem, ⟨14, _⟩ => ⟨S1024x1024, .fp8e4m3⟩
  | .local _ .vmem, ⟨15, _⟩ => ⟨S1024x1024, .fp8e4m3⟩
  | .local _ .vmem, ⟨16, _⟩ => ⟨S1024x128, .f32⟩
  | .local _ .vmem, ⟨17, _⟩ => ⟨S1024x128, .f32⟩
  | .local _ .vmem, ⟨18, _⟩ => ⟨S1024x1024, .bf16⟩
  | .local _ .vmem, ⟨19, _⟩ => ⟨S2112x1024, .bf16⟩
  | .local _ .vmem, ⟨20, _⟩ => ⟨S1024x2112, .f32⟩
  | .local _ .smem, ⟨0, _⟩ => ⟨S17x128, .f32⟩
  | _, _ => ⟨S8x1536x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .smem, ⟨0, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v3_4 : Ref sig .tc := ⟨.hbm, 12, rfl⟩
abbrev main_v3_5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_stg2_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨2, ![12, 16], ![false, false]⟩

def k0_off1 (i : grid0.Coords) (c0_i32_15 : BitVec 32) : Fin 2 → Nat :=
  let c0_16 : Index := 0#32
  let arg1 : BitVec 32 := BitVec.ofNat 32 (i 1).val
  let c8_i32_14 : BitVec 32 := 8#32
  let v65 : BitVec 32 := Scalar.muli arg1 c8_i32_14
  let v66 : BitVec 32 := Scalar.addi v65 c0_i32_15
  let v67 : Index := Scalar.indexCast v66
  ![0, v67.toNat]
def k0_off2 (i : grid0.Coords) (c0_i32_22 : BitVec 32) : Fin 2 → Nat :=
  let c1 : Index := 1#32
  let arg1 : BitVec 32 := BitVec.ofNat 32 (i 1).val
  let c8_i32_21 : BitVec 32 := 8#32
  let v78 : BitVec 32 := Scalar.muli arg1 c8_i32_21
  let v79 : BitVec 32 := Scalar.addi v78 c0_i32_22
  let v80 : Index := Scalar.indexCast v79
  ![1, v80.toNat]
def k0_off3 (i : grid0.Coords) (c0_i32_27 : BitVec 32) : Fin 2 → Nat :=
  let c2 : Index := 2#32
  let arg1 : BitVec 32 := BitVec.ofNat 32 (i 1).val
  let c8_i32_26 : BitVec 32 := 8#32
  let v91 : BitVec 32 := Scalar.muli arg1 c8_i32_26
  let v92 : BitVec 32 := Scalar.addi v91 c0_i32_27
  let v93 : Index := Scalar.indexCast v92
  ![2, v93.toNat]
def k0_off4 (i : grid0.Coords) (c0_i32_32 : BitVec 32) : Fin 2 → Nat :=
  let c3 : Index := 3#32
  let arg1 : BitVec 32 := BitVec.ofNat 32 (i 1).val
  let c8_i32_31 : BitVec 32 := 8#32
  let v104 : BitVec 32 := Scalar.muli arg1 c8_i32_31
  let v105 : BitVec 32 := Scalar.addi v104 c0_i32_32
  let v106 : Index := Scalar.indexCast v105
  ![3, v106.toNat]
def k0_off5 (i : grid0.Coords) (c0_i32_37 : BitVec 32) : Fin 2 → Nat :=
  let c4 : Index := 4#32
  let arg1 : BitVec 32 := BitVec.ofNat 32 (i 1).val
  let c8_i32_36 : BitVec 32 := 8#32
  let v117 : BitVec 32 := Scalar.muli arg1 c8_i32_36
  let v118 : BitVec 32 := Scalar.addi v117 c0_i32_37
  let v119 : Index := Scalar.indexCast v118
  ![4, v119.toNat]
def k0_off6 (i : grid0.Coords) (c0_i32_42 : BitVec 32) : Fin 2 → Nat :=
  let c5 : Index := 5#32
  let arg1 : BitVec 32 := BitVec.ofNat 32 (i 1).val
  let c8_i32_41 : BitVec 32 := 8#32
  let v130 : BitVec 32 := Scalar.muli arg1 c8_i32_41
  let v131 : BitVec 32 := Scalar.addi v130 c0_i32_42
  let v132 : Index := Scalar.indexCast v131
  ![5, v132.toNat]
def k0_off7 (i : grid0.Coords) (c0_i32_47 : BitVec 32) : Fin 2 → Nat :=
  let c6 : Index := 6#32
  let arg1 : BitVec 32 := BitVec.ofNat 32 (i 1).val
  let c8_i32_46 : BitVec 32 := 8#32
  let v143 : BitVec 32 := Scalar.muli arg1 c8_i32_46
  let v144 : BitVec 32 := Scalar.addi v143 c0_i32_47
  let v145 : Index := Scalar.indexCast v144
  ![6, v145.toNat]
def k0_off8 (i : grid0.Coords) (c0_i32_52 : BitVec 32) : Fin 2 → Nat :=
  let c7 : Index := 7#32
  let arg1 : BitVec 32 := BitVec.ofNat 32 (i 1).val
  let c8_i32_51 : BitVec 32 := 8#32
  let v156 : BitVec 32 := Scalar.muli arg1 c8_i32_51
  let v157 : BitVec 32 := Scalar.addi v156 c0_i32_52
  let v158 : Index := Scalar.indexCast v157
  ![7, v158.toNat]
def k0_off9 (i : grid0.Coords) (c0_i32_57 : BitVec 32) : Fin 2 → Nat :=
  let c8 : Index := 8#32
  let arg1 : BitVec 32 := BitVec.ofNat 32 (i 1).val
  let c8_i32_56 : BitVec 32 := 8#32
  let v169 : BitVec 32 := Scalar.muli arg1 c8_i32_56
  let v170 : BitVec 32 := Scalar.addi v169 c0_i32_57
  let v171 : Index := Scalar.indexCast v170
  ![8, v171.toNat]
def k0_off10 (i : grid0.Coords) (c0_i32_62 : BitVec 32) : Fin 2 → Nat :=
  let c9 : Index := 9#32
  let arg1 : BitVec 32 := BitVec.ofNat 32 (i 1).val
  let c8_i32_61 : BitVec 32 := 8#32
  let v182 : BitVec 32 := Scalar.muli arg1 c8_i32_61
  let v183 : BitVec 32 := Scalar.addi v182 c0_i32_62
  let v184 : Index := Scalar.indexCast v183
  ![9, v184.toNat]
def k0_off11 (i : grid0.Coords) (c0_i32_67 : BitVec 32) : Fin 2 → Nat :=
  let c10 : Index := 10#32
  let arg1 : BitVec 32 := BitVec.ofNat 32 (i 1).val
  let c8_i32_66 : BitVec 32 := 8#32
  let v195 : BitVec 32 := Scalar.muli arg1 c8_i32_66
  let v196 : BitVec 32 := Scalar.addi v195 c0_i32_67
  let v197 : Index := Scalar.indexCast v196
  ![10, v197.toNat]
def k0_off12 (i : grid0.Coords) (c0_i32_72 : BitVec 32) : Fin 2 → Nat :=
  let c11 : Index := 11#32
  let arg1 : BitVec 32 := BitVec.ofNat 32 (i 1).val
  let c8_i32_71 : BitVec 32 := 8#32
  let v208 : BitVec 32 := Scalar.muli arg1 c8_i32_71
  let v209 : BitVec 32 := Scalar.addi v208 c0_i32_72
  let v210 : Index := Scalar.indexCast v209
  ![11, v210.toNat]
def k0_off13 (i : grid0.Coords) (c0_i32_77 : BitVec 32) : Fin 2 → Nat :=
  let c12 : Index := 12#32
  let arg1 : BitVec 32 := BitVec.ofNat 32 (i 1).val
  let c8_i32_76 : BitVec 32 := 8#32
  let v221 : BitVec 32 := Scalar.muli arg1 c8_i32_76
  let v222 : BitVec 32 := Scalar.addi v221 c0_i32_77
  let v223 : Index := Scalar.indexCast v222
  ![12, v223.toNat]
def k0_off14 (i : grid0.Coords) (c0_i32_82 : BitVec 32) : Fin 2 → Nat :=
  let c13 : Index := 13#32
  let arg1 : BitVec 32 := BitVec.ofNat 32 (i 1).val
  let c8_i32_81 : BitVec 32 := 8#32
  let v234 : BitVec 32 := Scalar.muli arg1 c8_i32_81
  let v235 : BitVec 32 := Scalar.addi v234 c0_i32_82
  let v236 : Index := Scalar.indexCast v235
  ![13, v236.toNat]
def k0_off15 (i : grid0.Coords) (c0_i32_87 : BitVec 32) : Fin 2 → Nat :=
  let c14 : Index := 14#32
  let arg1 : BitVec 32 := BitVec.ofNat 32 (i 1).val
  let c8_i32_86 : BitVec 32 := 8#32
  let v247 : BitVec 32 := Scalar.muli arg1 c8_i32_86
  let v248 : BitVec 32 := Scalar.addi v247 c0_i32_87
  let v249 : Index := Scalar.indexCast v248
  ![14, v249.toNat]
def k0_off16 (i : grid0.Coords) (c0_i32_92 : BitVec 32) : Fin 2 → Nat :=
  let c15 : Index := 15#32
  let arg1 : BitVec 32 := BitVec.ofNat 32 (i 1).val
  let c8_i32_91 : BitVec 32 := 8#32
  let v260 : BitVec 32 := Scalar.muli arg1 c8_i32_91
  let v261 : BitVec 32 := Scalar.addi v260 c0_i32_92
  let v262 : Index := Scalar.indexCast v261
  ![15, v262.toNat]
def k0_off17 (i : grid0.Coords) (c0_i32_97 : BitVec 32) : Fin 2 → Nat :=
  let c16 : Index := 16#32
  let arg1 : BitVec 32 := BitVec.ofNat 32 (i 1).val
  let c8_i32_96 : BitVec 32 := 8#32
  let v273 : BitVec 32 := Scalar.muli arg1 c8_i32_96
  let v274 : BitVec 32 := Scalar.addi v273 c0_i32_97
  let v275 : Index := Scalar.indexCast v274
  ![16, v275.toNat]
def k0_cond3 (i : grid0.Coords) : BitVec 1 :=
  let arg1 : BitVec 32 := BitVec.ofNat 32 (i 1).val
  let c15_i32 : BitVec 32 := 15#32
  let v2277 : BitVec 1 := Scalar.cmpi .eq arg1 c15_i32
  let v2278 : BitVec 32 := Scalar.extui v2277
  let c0_i32_1093 : BitVec 32 := 0#32
  let v2279 : BitVec 1 := Scalar.cmpi .ne v2278 c0_i32_1093
  v2279

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2112x1024 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .smem S17x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x1536 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x12 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1024x64 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1024x1024 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1024x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== ReferenceIdeal.lean ====
abbrev S8x1536x16384 : Shape := ⟨3, ![8, 1536, 16384]⟩
abbrev S2112x16384 : Shape := ⟨2, ![2112, 16384]⟩
abbrev S17x128 : Shape := ⟨2, ![17, 128]⟩
abbrev S1536 : Shape := ⟨1, ![1536]⟩
abbrev S512 : Shape := ⟨1, ![512]⟩
abbrev S12288x16384 : Shape := ⟨2, ![12288, 16384]⟩
abbrev S1x1536 : Shape := ⟨2, ![1, 1536]⟩
abbrev S1x512 : Shape := ⟨2, ![1, 512]⟩
abbrev S12288x1536 : Shape := ⟨2, ![12288, 1536]⟩
abbrev S12288x12 : Shape := ⟨2, ![12288, 12]⟩
abbrev S12288x512 : Shape := ⟨2, ![12288, 512]⟩
abbrev S12288x64 : Shape := ⟨2, ![12288, 64]⟩
abbrev S12288x128 : Shape := ⟨2, ![12288, 128]⟩
abbrev S12288x128x128 : Shape := ⟨3, ![12288, 128, 128]⟩
abbrev S12288x128x1 : Shape := ⟨3, ![12288, 128, 1]⟩
abbrev S17x1x128 : Shape := ⟨3, ![17, 1, 128]⟩
abbrev S17x128x128 : Shape := ⟨3, ![17, 128, 128]⟩
abbrev S2176x128 : Shape := ⟨2, ![2176, 128]⟩
abbrev S2112x128 : Shape := ⟨2, ![2112, 128]⟩
abbrev S2112x128x1 : Shape := ⟨3, ![2112, 128, 1]⟩
abbrev S2112x128x128 : Shape := ⟨3, ![2112, 128, 128]⟩
abbrev S12288x2112 : Shape := ⟨2, ![12288, 2112]⟩
abbrev S12288 : Shape := ⟨1, ![12288]⟩
abbrev S12288x1 : Shape := ⟨2, ![12288, 1]⟩
abbrev S12288x12x128 : Shape := ⟨3, ![12288, 12, 128]⟩
abbrev S12288x12x1 : Shape := ⟨3, ![12288, 12, 1]⟩

abbrev nBuf : Space → Nat
  | .hbm => 14
  | .vmem => 11
  | .smem => 0
  | _ => 0

abbrev bufTy : (tb : Table) → Fin (tcTables nBuf tb) → BufTy
  | .hbm, ⟨0, _⟩ => ⟨S8x1536x16384, .bf16⟩
  | .hbm, ⟨1, _⟩ => ⟨S2112x16384, .fp8e4m3⟩
  | .hbm, ⟨2, _⟩ => ⟨S17x128, .f32⟩
  | .hbm, ⟨3, _⟩ => ⟨S1536, .bf16⟩
  | .hbm, ⟨4, _⟩ => ⟨S512, .bf16⟩
  | .hbm, ⟨5, _⟩ => ⟨S12288x16384, .bf16⟩
  | .hbm, ⟨6, _⟩ => ⟨S1x1536, .bf16⟩
  | .hbm, ⟨7, _⟩ => ⟨S1x512, .bf16⟩
  | .hbm, ⟨8, _⟩ => ⟨S12288x1536, .fp8e4m3⟩
  | .hbm, ⟨9, _⟩ => ⟨S12288x12, .f32⟩
  | .hbm, ⟨10, _⟩ => ⟨S12288x512, .bf16⟩
  | .hbm, ⟨11, _⟩ => ⟨S12288x64, .bf16⟩
  | .hbm, ⟨12, _⟩ => ⟨S12288x16384, .fp8e4m3⟩
  | .hbm, ⟨13, _⟩ => ⟨S12288x128, .f32⟩
  | .local _ .vmem, ⟨0, _⟩ => ⟨S12288x16384, .bf16⟩
  | .local _ .vmem, ⟨1, _⟩ => ⟨S2112x16384, .fp8e4m3⟩
  | .local _ .vmem, ⟨2, _⟩ => ⟨S17x128, .f32⟩
  | .local _ .vmem, ⟨3, _⟩ => ⟨S1x1536, .bf16⟩
  | .local _ .vmem, ⟨4, _⟩ => ⟨S1x512, .bf16⟩
  | .local _ .vmem, ⟨5, _⟩ => ⟨S12288x1536, .fp8e4m3⟩
  | .local _ .vmem, ⟨6, _⟩ => ⟨S12288x12, .f32⟩
  | .local _ .vmem, ⟨7, _⟩ => ⟨S12288x512, .bf16⟩
  | .local _ .vmem, ⟨8, _⟩ => ⟨S12288x64, .bf16⟩
  | .local _ .vmem, ⟨9, _⟩ => ⟨S12288x16384, .fp8e4m3⟩
  | .local _ .vmem, ⟨10, _⟩ => ⟨S12288x128, .f32⟩
  | _, _ => ⟨S8x1536x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v3_4 : Ref sig .tc := ⟨.hbm, 12, rfl⟩
abbrev main_v3_5 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S12288x16384 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2112x16384 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S17x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S12288x1536 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S12288x12 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S12288x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S12288x64 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S12288x16384 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S12288x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Proof.IRuns.lean ====
module

public import proofs.«01_k».proof.Proof.Gen.KernelIdeal.Frame
public import proofs.«01_k».proof.Proof.Gen.KernelIdeal.Skeleton

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 16) — by arithmetic of the point. -/
theorem hcond0_0 : ∀ t : Fin cfg0.N, cond0_0 (grid0.coords t) ↔ t.val % 16 = 0 :=
  (fun t => by
    have ht : t.val < 192 := Nat.lt_of_lt_of_eq t.isLt N_0
    have e0 : (grid0.coords t 0).val = t.val / 16 % 12 := Pipeline.Grid.coords_val t 0 (by decide) rfl
    have e1 : (grid0.coords t 1).val = t.val / 1 % 16 := Pipeline.Grid.coords_val t 1 (by decide) rfl
    simp only [cond0_0, e0, e1]
    word_cmp
   : ∀ t : Fin grid0.N, cond0_0 (grid0.coords t) ↔ t.val % 16 = 0)

/-- The condition of the body's `scf.if` 1 (`k0_h2`), from the grid coordinates (the skeleton's scalar
    chain substituted). -/
abbrev cond0_1 (i : grid0.Coords) : Prop := (Scalar.cmpi .ne (Scalar.extui (Scalar.cmpi .sgt (BitVec.ofNat 32 (i 1).val) 0#32)) 0#32) = 1#1
/-- It holds at the points whose coordinates have 1 ≤ i1 — decided over the grid. -/
theorem hcond0_1 : ∀ t : Fin cfg0.N, cond0_1 (grid0.coords t) ↔ 1 ≤ t.val % 16 :=
  (by decide +kernel : ∀ t : Fin grid0.N, cond0_1 (grid0.coords t) ↔ 1 ≤ t.val % 16)

/-- The condition of the body's `scf.if` 2 (`k0_h3`), from the grid coordinates (the skeleton's scalar
    chain substituted). -/
abbrev cond0_2 (i : grid0.Coords) : Prop := k0_cond3 i = 1#1
/-- It holds at the points ≡ 15 (mod 16) — by arithmetic of the point. -/
theorem hcond0_2 : ∀ t : Fin cfg0.N, cond0_2 (grid0.coords t) ↔ t.val % 16 = 15 :=
  (fun t => by
    have ht : t.val < 192 := Nat.lt_of_lt_of_eq t.isLt N_0
    have e0 : (grid0.coords t 0).val = t.val / 16 % 12 := Pipeline.Grid.coords_val t 0 (by decide) rfl
    have e1 : (grid0.coords t 1).val = t.val / 1 % 16 := Pipeline.Grid.coords_val t 1 (by decide) rfl
    simp only [cond0_2, k0_cond3, e0, e1]
    word_cmp
   : ∀ t : Fin grid0.N, cond0_2 (grid0.coords t) ↔ t.val % 16 = 15)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1024x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2112x1024 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .smem S17x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1536 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x1536 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x12 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x512 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1024x64 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1024x1024 .fp8e4m3 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1024x128 .f32 := win0_10.stage (cfg0.slots t 10)
abbrev hs0_10 (t : Fin cfg0.N) : (ms0_10 t).IsWhole := hstage0_10 ((cfg0.slots t 10).cast nbuf0_10)
/-- The scratch operands: whole scoped buffers of the kernel's own, passed beside the windows. -/
abbrev scM0_0 : Memref sig .tc .vmem S1024x1024 .bf16 := Memref.whole cc0_scratch0
abbrev scM0_1 : Memref sig .tc .vmem S2112x1024 .bf16 := Memref.whole cc0_scratch1
abbrev scM0_2 : Memref sig .tc .vmem S1024x2112 .f32 := Memref.whole cc0_scratch2
/-- The scratch `arg15` the kernel carries between points, as a view: what it holds is stated through it. -/
abbrev VS0_2 : View sig .tc .vmem S1024x2112 .f32 := scM0_2.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.KernelIdeal.Gen

end
-- ==== Proof.IRunA.lean ====
module

public import proofs.«01_k».proof.Proof.IRuns

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 5204000 in
/-- The body run once in case A, on whole staging memrefs: what each output and each scratch buffer is left with, as the pieces written (last first). -/
noncomputable def kernelRun0_A (c : Dev nD) (i : grid0.Coords) (arg2 : Memref sig .tc .vmem S1024x1024 .bf16) (harg2 : arg2.IsWhole) (arg3 : Memref sig .tc .vmem S2112x1024 .fp8e4m3) (harg3 : arg3.IsWhole) (arg4 : Memref sig .tc .smem S17x128 .f32) (harg4 : arg4.IsWhole) (arg5 : Memref sig .tc .vmem S1x1536 .bf16) (harg5 : arg5.IsWhole) (arg6 : Memref sig .tc .vmem S1x512 .bf16) (harg6 : arg6.IsWhole) (arg7 : Memref sig .tc .vmem S1024x1536 .fp8e4m3) (harg7 : arg7.IsWhole) (arg8 : Memref sig .tc .vmem S1024x12 .f32) (harg8 : arg8.IsWhole) (arg9 : Memref sig .tc .vmem S1024x512 .bf16) (harg9 : arg9.IsWhole) (arg10 : Memref sig .tc .vmem S1024x64 .bf16) (harg10 : arg10.IsWhole) (arg11 : Memref sig .tc .vmem S1024x1024 .fp8e4m3) (harg11 : arg11.IsWhole) (arg12 : Memref sig .tc .vmem S1024x128 .f32) (harg12 : arg12.IsWhole) (arg13 : Memref sig .tc .vmem S1024x1024 .bf16) (harg13 : arg13.IsWhole) (arg14 : Memref sig .tc .vmem S2112x1024 .bf16) (harg14 : arg14.IsWhole) (arg15 : Memref sig .tc .vmem S1024x2112 .f32) (harg15 : arg15.IsWhole) (hc0 : cond0_0 i) (hc1 : ¬cond0_1 i) (hc2 : ¬cond0_2 i)
    (x0 : Vec F S1024x1024 .bf16) (x1 : Vec F S2112x1024 .fp8e4m3) (x2 : Vec F S17x128 .f32) (x3 : Vec F S1x1536 .bf16) (x4 : Vec F S1x512 .bf16) (x10 : Vec F S1024x128 .f32) :
    Σ' (LO9 : List (View.Piece (Elt F) S1024x1024 .fp8e4m3)), Σ' (LO10 : List (View.Piece (Elt F) S1024x128 .f32)), Σ' (LS2 : List (View.Piece (Elt F) S1024x2112 .f32)), Σ' (LT0 : List (View.Piece (Elt F) S1024x1024 .bf16)), { LT1 : List (View.Piece (Elt F) S2112x1024 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ owns (c : Thread nD τ) arg12 fullShare x10 ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ f, arg11.view.loc (c : Thread nD τ) ↦[arg11.view.set]{fullShare} arg11.view.writes (Elt F) f LO9) ∗ (∃ f, arg12.view.loc (c : Thread nD τ) ↦[arg12.view.set]{fullShare} arg12.view.writes (Elt F) f LO10) ∗ (∃ f, arg13.view.loc (c : Thread nD τ) ↦[arg13.view.set]{fullShare} arg13.view.writes (Elt F) f LT0) ∗ (∃ f, arg14.view.loc (c : Thread nD τ) ↦[arg14.view.set]{fullShare} arg14.view.writes (Elt F) f LT1) ∗ (∃ f, arg15.view.loc (c : Thread nD τ) ↦[arg15.view.set]{fullShare} arg15.view.writes (Elt F) f LS2)) -∗ K ⟨⟩))
          ⊢ wp frame (wpE (defs₀ (F := F)) Variants.none c none) E (cc0_mla_first_projection i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, ?_, fun E K => ?run⟩
  case run =>
    simp only [cc0_mla_first_projection_eq_skeleton]; unfold cc0_mla_first_projection_skel
    simp only [k0_part73_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%f10, %hf10, H10⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg12.eq_unread hf10
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]; · iexists _; iexact H9
    isplitl [H10]; · iexists _; iexact H10
    isplitl [HS0]; · iexists _; iexact HS0
    isplitl [HS1]; · iexists _; iexact HS1
    iexists _; iexact HS2

end Cert.KernelIdeal.Gen

end
-- ==== Proof.IRunB.lean ====
module

public import proofs.«01_k».proof.Proof.IRunA

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 5208000 in
/-- The body run once in case B, on whole staging memrefs: what each output and each scratch buffer is left with, as the pieces written (last first). -/
noncomputable def kernelRun0_B (c : Dev nD) (i : grid0.Coords) (arg2 : Memref sig .tc .vmem S1024x1024 .bf16) (harg2 : arg2.IsWhole) (arg3 : Memref sig .tc .vmem S2112x1024 .fp8e4m3) (harg3 : arg3.IsWhole) (arg4 : Memref sig .tc .smem S17x128 .f32) (harg4 : arg4.IsWhole) (arg5 : Memref sig .tc .vmem S1x1536 .bf16) (harg5 : arg5.IsWhole) (arg6 : Memref sig .tc .vmem S1x512 .bf16) (harg6 : arg6.IsWhole) (arg7 : Memref sig .tc .vmem S1024x1536 .fp8e4m3) (harg7 : arg7.IsWhole) (arg8 : Memref sig .tc .vmem S1024x12 .f32) (harg8 : arg8.IsWhole) (arg9 : Memref sig .tc .vmem S1024x512 .bf16) (harg9 : arg9.IsWhole) (arg10 : Memref sig .tc .vmem S1024x64 .bf16) (harg10 : arg10.IsWhole) (arg11 : Memref sig .tc .vmem S1024x1024 .fp8e4m3) (harg11 : arg11.IsWhole) (arg12 : Memref sig .tc .vmem S1024x128 .f32) (harg12 : arg12.IsWhole) (arg13 : Memref sig .tc .vmem S1024x1024 .bf16) (harg13 : arg13.IsWhole) (arg14 : Memref sig .tc .vmem S2112x1024 .bf16) (harg14 : arg14.IsWhole) (arg15 : Memref sig .tc .vmem S1024x2112 .f32) (harg15 : arg15.IsWhole) (hc0 : ¬cond0_0 i) (hc1 : cond0_1 i) (hc2 : ¬cond0_2 i)
    (x0 : Vec F S1024x1024 .bf16) (x1 : Vec F S2112x1024 .fp8e4m3) (x2 : Vec F S17x128 .f32) (x3 : Vec F S1x1536 .bf16) (x4 : Vec F S1x512 .bf16) (x10 : Vec F S1024x128 .f32) (xs2 : Vec F S1024x2112 .f32) :
    Σ' (LO9 : List (View.Piece (Elt F) S1024x1024 .fp8e4m3)), Σ' (LO10 : List (View.Piece (Elt F) S1024x128 .f32)), Σ' (LS2 : List (View.Piece (Elt F) S1024x2112 .f32)), Σ' (LT0 : List (View.Piece (Elt F) S1024x1024 .bf16)), { LT1 : List (View.Piece (Elt F) S2112x1024 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ owns (c : Thread nD τ) arg12 fullShare x10 ∗ (∃ d, owns (c : Thread nD τ) arg13 fullShare d) ∗ (∃ d, owns (c : Thread nD τ) arg14 fullShare d) ∗ owns (c : Thread nD τ) arg15 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ f, arg11.view.loc (c : Thread nD τ) ↦[arg11.view.set]{fullShare} arg11.view.writes (Elt F) f LO9) ∗ (∃ f, arg12.view.loc (c : Thread nD τ) ↦[arg12.view.set]{fullShare} arg12.view.writes (Elt F) f LO10) ∗ (∃ f, arg13.view.loc (c : Thread nD τ) ↦[arg13.view.set]{fullShare} arg13.view.writes (Elt F) f LT0) ∗ (∃ f, arg14.view.loc (c : Thread nD τ) ↦[arg14.view.set]{fullShare} arg14.view.writes (Elt F) f LT1) ∗ (∃ f, arg15.view.loc (c : Thread nD τ) ↦[arg15.view.set]{fullShare} arg15.view.writes (Elt F) f LS2)) -∗ K ⟨⟩))
          ⊢ wp frame (wpE (defs₀ (F := F)) Variants.none c none) E (cc0_mla_first_projection i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, ?_, fun E K => ?run⟩
  case run =>
    simp only [cc0_mla_first_projection_eq_skeleton]; unfold cc0_mla_first_projection_skel
    simp only [k0_part73_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%f10, %hf10, H10⟩, ⟨%ds0, %fs0, -, HS0⟩, ⟨%ds1, %fs1, -, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg12.eq_unread hf10; obtain rfl := harg15.eq_unread hfs2
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]; · iexists _; iexact H9
    isplitl [H10]; · iexists _; iexact H10
    isplitl [HS0]; · iexists _; iexact HS0
    isplitl [HS1]; · iexists _; iexact HS1
    iexists _; iexact HS2

end Cert.KernelIdeal.Gen

end
-- ==== Proof.IRunC.lean ====
module

public import proofs.«01_k».proof.Proof.IRunB

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 5556000 in
/-- The body run once in case C, on whole staging memrefs: what each output and each scratch buffer is left with, as the pieces written (last first). -/
noncomputable def kernelRun0_C (c : Dev nD) (i : grid0.Coords) (arg2 : Memref sig .tc .vmem S1024x1024 .bf16) (harg2 : arg2.IsWhole) (arg3 : Memref sig .tc .vmem S2112x1024 .fp8e4m3) (harg3 : arg3.IsWhole) (arg4 : Memref sig .tc .smem S17x128 .f32) (harg4 : arg4.IsWhole) (arg5 : Memref sig .tc .vmem S1x1536 .bf16) (harg5 : arg5.IsWhole) (arg6 : Memref sig .tc .vmem S1x512 .bf16) (harg6 : arg6.IsWhole) (arg7 : Memref sig .tc .vmem S1024x1536 .fp8e4m3) (harg7 : arg7.IsWhole) (arg8 : Memref sig .tc .vmem S1024x12 .f32) (harg8 : arg8.IsWhole) (arg9 : Memref sig .tc .vmem S1024x512 .bf16) (harg9 : arg9.IsWhole) (arg10 : Memref sig .tc .vmem S1024x64 .bf16) (harg10 : arg10.IsWhole) (arg11 : Memref sig .tc .vmem S1024x1024 .fp8e4m3) (harg11 : arg11.IsWhole) (arg12 : Memref sig .tc .vmem S1024x128 .f32) (harg12 : arg12.IsWhole) (arg13 : Memref sig .tc .vmem S1024x1024 .bf16) (harg13 : arg13.IsWhole) (arg14 : Memref sig .tc .vmem S2112x1024 .bf16) (harg14 : arg14.IsWhole) (arg15 : Memref sig .tc .vmem S1024x2112 .f32) (harg15 : arg15.IsWhole) (hc0 : ¬cond0_0 i) (hc1 : cond0_1 i) (hc2 : cond0_2 i)
    (x0 : Vec F S1024x1024 .bf16) (x1 : Vec F S2112x1024 .fp8e4m3) (x2 : Vec F S17x128 .f32) (x3 : Vec F S1x1536 .bf16) (x4 : Vec F S1x512 .bf16) (x10 : Vec F S1024x128 .f32) (xs2 : Vec F S1024x2112 .f32) :
    Σ' (LO5 : List (View.Piece (Elt F) S1024x1536 .fp8e4m3)), Σ' (LO6 : List (View.Piece (Elt F) S1024x12 .f32)), Σ' (LO7 : List (View.Piece (Elt F) S1024x512 .bf16)), Σ' (LO8 : List (View.Piece (Elt F) S1024x64 .bf16)), Σ' (LO9 : List (View.Piece (Elt F) S1024x1024 .fp8e4m3)), Σ' (LO10 : List (View.Piece (Elt F) S1024x128 .f32)), Σ' (LS2 : List (View.Piece (Elt F) S1024x2112 .f32)), Σ' (LT0 : List (View.Piece (Elt F) S1024x1024 .bf16)), { LT1 : List (View.Piece (Elt F) S2112x1024 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ owns (c : Thread nD τ) arg12 fullShare x10 ∗ (∃ d, owns (c : Thread nD τ) arg13 fullShare d) ∗ (∃ d, owns (c : Thread nD τ) arg14 fullShare d) ∗ owns (c : Thread nD τ) arg15 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f LO5) ∗ (∃ f, arg8.view.loc (c : Thread nD τ) ↦[arg8.view.set]{fullShare} arg8.view.writes (Elt F) f LO6) ∗ (∃ f, arg9.view.loc (c : Thread nD τ) ↦[arg9.view.set]{fullShare} arg9.view.writes (Elt F) f LO7) ∗ (∃ f, arg10.view.loc (c : Thread nD τ) ↦[arg10.view.set]{fullShare} arg10.view.writes (Elt F) f LO8) ∗ (∃ f, arg11.view.loc (c : Thread nD τ) ↦[arg11.view.set]{fullShare} arg11.view.writes (Elt F) f LO9) ∗ (∃ f, arg12.view.loc (c : Thread nD τ) ↦[arg12.view.set]{fullShare} arg12.view.writes (Elt F) f LO10) ∗ (∃ f, arg13.view.loc (c : Thread nD τ) ↦[arg13.view.set]{fullShare} arg13.view.writes (Elt F) f LT0) ∗ (∃ f, arg14.view.loc (c : Thread nD τ) ↦[arg14.view.set]{fullShare} arg14.view.writes (Elt F) f LT1) ∗ (∃ f, arg15.view.loc (c : Thread nD τ) ↦[arg15.view.set]{fullShare} arg15.view.writes (Elt F) f LS2)) -∗ K ⟨⟩))
          ⊢ wp frame (wpE (defs₀ (F := F)) Variants.none c none) E (cc0_mla_first_projection i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, ?_, ?_, ?_, ?_, ?_, fun E K => ?run⟩
  case run =>
    simp only [cc0_mla_first_projection_eq_skeleton]; unfold cc0_mla_first_projection_skel
    simp only [k0_part73_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%f10, %hf10, H10⟩, ⟨%ds0, %fs0, -, HS0⟩, ⟨%ds1, %fs1, -, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg12.eq_unread hf10; obtain rfl := harg15.eq_unread hfs2
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [HS0]; · iexists _; iexact HS0
    isplitl [HS1]; · iexists _; iexact HS1
    iexists _; iexact HS2

end Cert.KernelIdeal.Gen

end
-- ==== Proof.IPay.lean ====
module

public import proofs.«01_k».proof.Proof.IRuns
public import Idealize.ShloMosaic.Lib.WholeRead
public import Idealize.ShloMosaic.Lib.ValueIdxCore
public import Idealize.ShloMosaic.Lib.Pipeline.ReadBack
public import Idealize.ShloMosaic.Lib.Pipeline.ValueKit.Tiles

@[expose] public section

set_option maxRecDepth 16384

noncomputable section

namespace Cert.KernelIdeal.Gen

open Idealize.ShloMosaic Idealize.ShloMosaic.TcCoe Idealize.ShloMosaic.Tactic
open Idealize.ShloMosaic.ValueIdx (ix2 eq_ix2)
open Idealize.SL.RA

variable {F : FTy → Type} [FloatOps F]

/-! ## One group of 128 columns -/

/-- The scale of each row of a group. -/
def gS (v : Vec F S1024x128 .bf16) : FVec F S1024x1 .f32 := k0_pay71 v
/-- The codes of a group. -/
def gC (v : Vec F S1024x128 .bf16) : FVec F S1024x128 .fp8e4m3 := k0_pay74 (k0_pay69 v) (k0_pay72 v)
/-- The dequantised entries of a group. -/
def gD (v : Vec F S1024x128 .bf16) : FVec F S1024x128 .bf16 := k0_pay75 (k0_pay69 v) (k0_pay71 v) (k0_pay72 v)

/-- The group `q` of 128 columns of a block. -/
def grp (x0 : Vec F S1024x1024 .bf16) (q : Fin 8) : Vec F S1024x128 .bf16 :=
  fun z => x0 (ix2 (n0 := 1024) (n1 := 1024) (z 0) ⟨128 * q.val + (z 1).val, by have h : (z 1).val < 128 := (z 1).isLt; omega⟩)

/-- What a function of a group makes of each group of a block, put side by side. -/
def byGrp {α : Type} (f : Vec F S1024x128 .bf16 → S1024x128.Idx → α) (x0 : Vec F S1024x1024 .bf16) : S1024x1024.Idx → α :=
  fun y => f (grp x0 ⟨(y 1).val / 128, by have h : (y 1).val < 1024 := (y 1).isLt; omega⟩)
    (ix2 (n0 := 1024) (n1 := 128) (y 0) ⟨(y 1).val % 128, Nat.mod_lt _ (by decide)⟩)

/-- A load of the columns of group `q` reads the group. -/
theorem readAt_grp (arg2 : Memref sig .tc .vmem S1024x1024 .bf16) (harg2 : arg2.IsWhole) (x0 : Vec F S1024x1024 .bf16) (q : Fin 8)
    (o : ℕ) (ho : o = 128 * q.val) (h : ∀ a, (![0, o] : Fin 2 → ℕ) a + S1024x128.size a ≤ S1024x1024.size a) :
    View.readAt (Elt F) arg2.view (Rect.unit (s := S1024x1024) ![0, o] S1024x128.size h).toLoadRect (harg2.unread x0) = grp x0 q := by
  subst ho
  funext z
  rw [Memref.IsWhole.readAt_unread]
  refine congrArg x0 (funext fun a => Fin.ext ?_)
  match a with
  | ⟨0, _⟩ => show 0 + 1 * (z 0).val = (z 0).val; omega
  | ⟨1, _⟩ => show 128 * q.val + 1 * (z 1).val = 128 * q.val + (z 1).val; omega

/-- A stored group is its part of the groups put side by side. -/
theorem piece_grp {e : EltTy} (f : Vec F S1024x128 .bf16 → Vec F S1024x128 e) (x0 : Vec F S1024x1024 .bf16) (q : Fin 8)
    (o : ℕ) (ho : o = 128 * q.val) (h : ∀ a, (![0, o] : Fin 2 → ℕ) a + S1024x128.size a ≤ S1024x1024.size a) (w : S1024x128.Idx → Elt F e)
    (hw : w = f (grp x0 q)) (x : (Rect.unit (s := S1024x1024) ![0, o] S1024x128.size h).shape.Idx) :
    w x = byGrp f x0 ((Rect.unit (s := S1024x1024) ![0, o] S1024x128.size h).emb x) := by
  subst ho hw
  have hx : (x 1).val < 128 := (x 1).isLt
  have e1 : ((Rect.unit (s := S1024x1024) ![0, 128 * q.val] S1024x128.size h).emb x 1).val = 128 * q.val + (x 1).val := by
    show 128 * q.val + 1 * (x 1).val = _; omega
  have e0 : ((Rect.unit (s := S1024x1024) ![0, 128 * q.val] S1024x128.size h).emb x 0).val = (x 0).val := by
    show 0 + 1 * (x 0).val = _; omega
  unfold byGrp
  congr 1
  · exact congrArg (grp x0) (Fin.ext (by show q.val = _ / 128; rw [e1]; omega))
  · funext a
    match a with
    | ⟨0, _⟩ => exact Fin.ext e0.symm
    | ⟨1, _⟩ => exact Fin.ext (by show (x 1).val = _ % 128; rw [e1]; omega)

/-! ## One tile of the weights -/

/-- The dequantised weights of the block of columns `k`. -/
def gW (k : Fin 16) (x1 : Vec F S2112x1024 .fp8e4m3) (x2 : Vec F S17x128 .f32) : Vec F S2112x1024 .bf16 :=
  fun y => FloatOps.mulf (FloatOps.extf .bf16 bitsLt_fp8e4m3_bf16 (x1 y))
    (FloatOps.truncf .bf16 bitsLt_bf16_f32 (x2 (ix2 (n0 := 17) (n1 := 128)
      ⟨(y 0).val / 128, by have h : (y 0).val < 2112 := (y 0).isLt; omega⟩
      ⟨8 * k.val + (y 1).val / 128, by have h : (y 1).val < 1024 := (y 1).isLt; omega⟩)))

/-- A tile of 128 rows, from its scale and its codes. -/
def tW (s : Elt F .f32) (w : Vec F S128x128 .fp8e4m3) : FVec F S128x128 .bf16 := k0_pay76 s w

/-- A tile of 64 rows, from its scale and its codes. -/
def tW64 (s : Elt F .f32) (w : Vec F S64x128 .fp8e4m3) : FVec F S64x128 .bf16 := k0_pay95 s w

/-- An entry of a tile: the code times the scale. -/
theorem tW_apply (s : Elt F .f32) (w : Vec F S128x128 .fp8e4m3) (x : S128x128.Idx) :
    tW s w x = FloatOps.mulf (FloatOps.extf .bf16 bitsLt_fp8e4m3_bf16 (w x)) (FloatOps.truncf .bf16 bitsLt_bf16_f32 s) := by
  unfold tW k0_pay76
  rw [shapeCast_self]
  rfl

/-- An entry of a tile of 64 rows: the code times the scale. -/
theorem tW64_apply (s : Elt F .f32) (w : Vec F S64x128 .fp8e4m3) (x : S64x128.Idx) :
    tW64 s w x = FloatOps.mulf (FloatOps.extf .bf16 bitsLt_fp8e4m3_bf16 (w x)) (FloatOps.truncf .bf16 bitsLt_bf16_f32 s) := by
  unfold tW64 k0_pay95
  rw [shapeCast_self]
  rfl

/-- The block of columns of a point. -/
def kOf (i : grid0.Coords) : Fin 16 := ⟨(i 1).val, (i 1).isLt⟩

/-- The column of scales that a tile in group `g` reads. -/
theorem off_toNat (i : grid0.Coords) (g : BitVec 32) (hg : g.toNat < 8) :
    (Scalar.addi (Scalar.muli (BitVec.ofNat 32 (i 1).val) 8#32) g).toNat = 8 * (kOf i).val + g.toNat := by
  have h : (i 1).val < 16 := (i 1).isLt
  show (BitVec.ofNat 32 (i 1).val * 8#32 + g).toNat = 8 * (i 1).val + g.toNat
  rw [BitVec.toNat_add, BitVec.toNat_mul, BitVec.toNat_ofNat]
  show ((i 1).val % 2 ^ 32 * 8 % 2 ^ 32 + g.toNat) % 2 ^ 32 = _
  omega

/-- A load of one scale reads it. -/
theorem readAt_scale (arg4 : Memref sig .tc .smem S17x128 .f32) (harg4 : arg4.IsWhole) (x2 : Vec F S17x128 .f32)
    (off : Fin 2 → ℕ) (h : ∀ a, off a + S1x1.size a ≤ S17x128.size a) (h1) (r : Fin 17) (q : Fin 128) (h0 : off 0 = r.val) (h2 : off 1 = q.val) :
    View.readAt (Elt F) arg4.view (Rect.unit (s := S17x128) off S1x1.size h).toLoadRect (harg4.unread x2) (Shape.Idx.first h1)
      = x2 (ix2 r q) := by
  rw [Memref.IsWhole.readAt_unread]
  refine congrArg x2 (funext fun a => Fin.ext ?_)
  match a with
  | ⟨0, _⟩ => show off 0 + 1 * 0 = r.val; omega
  | ⟨1, _⟩ => show off 1 + 1 * 0 = q.val; omega

/-- A stored tile is its part of the dequantised weights. -/
theorem piece_W {n : ℕ} (hn : n ≤ 128) (t : Elt F .f32 → Vec F ⟨2, ![n, 128]⟩ .fp8e4m3 → Vec F ⟨2, ![n, 128]⟩ .bf16)
    (ht : ∀ s w x, t s w x = FloatOps.mulf (FloatOps.extf .bf16 bitsLt_fp8e4m3_bf16 (w x)) (FloatOps.truncf .bf16 bitsLt_bf16_f32 s))
    (arg3 : Memref sig .tc .vmem S2112x1024 .fp8e4m3) (harg3 : arg3.IsWhole) (arg4 : Memref sig .tc .smem S17x128 .f32) (harg4 : arg4.IsWhole)
    (k : Fin 16) (x1 : Vec F S2112x1024 .fp8e4m3) (x2 : Vec F S17x128 .f32) (r : ℕ) (q : ℕ)
    (off : Fin 2 → ℕ) (h : ∀ a, off a + S1x1.size a ≤ S17x128.size a) (h1) (h0 : off 0 = r) (h2 : off 1 = 8 * k.val + q)
    (o1 o2 : ℕ) (ho1 : o1 = 128 * r) (ho2 : o2 = 128 * q)
    (h3 : ∀ a, (![o1, o2] : Fin 2 → ℕ) a + (⟨2, ![n, 128]⟩ : Shape).size a ≤ S2112x1024.size a) (hr : r < 17) (hq : q < 8) (v : (⟨2, ![n, 128]⟩ : Shape).Idx → Elt F .bf16)
    (hv : v = t (View.readAt (Elt F) arg4.view (Rect.unit (s := S17x128) off S1x1.size h).toLoadRect (harg4.unread x2) (Shape.Idx.first h1))
        (View.readAt (Elt F) arg3.view (Rect.unit (s := S2112x1024) ![o1, o2] (⟨2, ![n, 128]⟩ : Shape).size h3).toLoadRect (harg3.unread x1)))
    (x : (Rect.unit (s := S2112x1024) ![o1, o2] (⟨2, ![n, 128]⟩ : Shape).size h3).shape.Idx) :
    v x = gW k x1 x2 ((Rect.unit (s := S2112x1024) ![o1, o2] (⟨2, ![n, 128]⟩ : Shape).size h3).emb x) := by
  subst ho1 ho2 hv
  have hx0 : (x 0).val < n := (x 0).isLt
  have hx1 : (x 1).val < 128 := (x 1).isLt
  have e0 : ((Rect.unit (s := S2112x1024) ![128 * r, 128 * q] (⟨2, ![n, 128]⟩ : Shape).size h3).emb x 0).val = 128 * r + (x 0).val := by
    show 128 * r + 1 * (x 0).val = _; omega
  have e1 : ((Rect.unit (s := S2112x1024) ![128 * r, 128 * q] (⟨2, ![n, 128]⟩ : Shape).size h3).emb x 1).val = 128 * q + (x 1).val := by
    show 128 * q + 1 * (x 1).val = _; omega
  have hk := k.isLt
  rw [ht, readAt_scale arg4 harg4 x2 off h h1 ⟨r, hr⟩ ⟨8 * k.val + q, by omega⟩ h0 h2, Memref.IsWhole.readAt_unread]
  unfold gW
  congr 2
  refine congrArg x2 (funext fun a => Fin.ext ?_)
  match a with
  | ⟨0, _⟩ => show r = _ / 128; rw [e0]; omega
  | ⟨1, _⟩ => show 8 * k.val + q = 8 * k.val + _ / 128; rw [e1]; omega

/-! ## The scales of the block, put into their lanes -/

/-- The scales of the groups of a block in their lanes, over what the lanes held. -/
def gX (k : Fin 16) (x0 : Vec F S1024x1024 .bf16) (x10 : Vec F S1024x128 .f32) : Vec F S1024x128 .f32 :=
  fun y => if h : 8 * k.val ≤ (y 1).val ∧ (y 1).val < 8 * k.val + 8
    then gS (grp x0 ⟨(y 1).val - 8 * k.val, by omega⟩) (ix2 (n0 := 1024) (n1 := 1) (y 0) 0) else x10 y

/-- One step: the lane of group `g` takes the scale. -/
def xStep (i : grid0.Coords) (g : BitVec 32) (s : FVec F S1024x1 .f32) (X : FVec F S1024x128 .f32) : FVec F S1024x128 .f32 :=
  select (cmpi .eq (iota .tc S1024x128 32 [1] iota_S1024x128_d1_w32) (broadcast S1024x128 (Scalar.addi (Scalar.muli (BitVec.ofNat 32 (i 1).val) 8#32) g)))
    (broadcastTo S1024x128 (shapeCast S1024x1 s shapeCasts_S1024x1_S1024x1) broadcasts_S1024x1_S1024x128) X

/-! ## Stores over a whole buffer, read back -/

/-- Stores that are parts of one value and fill the buffer leave that value. -/
theorem read_of_pieces {sp : Space} {sh : Shape} {e : EltTy} (v : View sig .tc sp sh e) (f : v.ty.Contents (Elt F)) (L : List (View.Piece (Elt F) sh e))
    (G : sh.Idx → Elt F e) (hc : ∀ y, ∃ p ∈ L, y ∈ p.1.set) (h : View.PiecesOf G L) : v.read (Elt F) (v.writes (Elt F) f L) = G := by
  rw [View.read_writes_eq_canon v f L hc]
  exact funext fun y => View.canon_apply_of_pieces G L h.mem y (hc y)

/-- A load of the whole buffer after such stores reads that value. -/
theorem readCov_of_pieces {sp : Space} {sh : Shape} {e : EltTy} (v : View sig .tc sp sh e) (L : List (View.Piece (Elt F) sh e))
    (G : sh.Idx → Elt F e) (hc : ∀ y, ∃ p ∈ L, y ∈ p.1.set) (h : View.PiecesOf G L) (B : LoadRect sh) :
    v.readCov L B = fun j => G (B.idx j) := by
  rw [View.readCov_eq_canon']
  exact funext fun j => View.canon_apply_of_pieces G L h.mem (B.idx j) (hc _)

/-! ## The lanes of the scales -/

/-- One step at an entry. -/
theorem xStep_apply (i : grid0.Coords) (g : BitVec 32) (hg : g.toNat < 8) (s : FVec F S1024x1 .f32) (X : FVec F S1024x128 .f32) (y : S1024x128.Idx) :
    xStep i g s X y = if (y 1).val = 8 * (kOf i).val + g.toNat then s (ix2 (n0 := 1024) (n1 := 1) (y 0) 0) else X y := by
  have hy : (y 1).val < 128 := (y 1).isLt
  have hw := off_toNat i g hg
  unfold xStep
  rw [shapeCast_self]
  show Scalar.select (IntOp.cmpi .eq (BitVec.ofNat 32 (0 * 128 + (y 1).val)) _) (broadcastTo S1024x128 s broadcasts_S1024x1_S1024x128 y) (X y) = _
  rw [broadcastTo_apply s broadcasts_S1024x1_S1024x128 y (ix2 (n0 := 1024) (n1 := 1) (y 0) 0) (fun a => by
    match a with
    | ⟨0, _⟩ => rfl
    | ⟨1, _⟩ => rfl)]
  unfold Scalar.select IntOp.cmpi broadcast
  have e : (BitVec.ofNat 32 (0 * 128 + (y 1).val) = Scalar.addi (Scalar.muli (BitVec.ofNat 32 (i 1).val) 8#32) g) ↔ (y 1).val = 8 * (kOf i).val + g.toNat := by
    rw [← hw, ← BitVec.toNat_inj, BitVec.toNat_ofNat]; omega
  by_cases h : (y 1).val = 8 * (kOf i).val + g.toNat
  · rw [if_pos h, if_pos]
    rw [← e] at h
    show BitVec.ofBool (_ == _) = 1
    rw [beq_iff_eq.mpr h]; rfl
  · rw [if_neg h, if_neg]
    rw [← e] at h
    show ¬ BitVec.ofBool (_ == _) = 1
    rw [beq_eq_false_iff_ne.mpr h]; decide

/-- The eight steps of a block. -/
def xChain (i : grid0.Coords) (x0 : Vec F S1024x1024 .bf16) (X : FVec F S1024x128 .f32) : FVec F S1024x128 .f32 :=
  xStep i 7#32 (gS (grp x0 7)) (xStep i 6#32 (gS (grp x0 6)) (xStep i 5#32 (gS (grp x0 5)) (xStep i 4#32 (gS (grp x0 4))
    (xStep i 3#32 (gS (grp x0 3)) (xStep i 2#32 (gS (grp x0 2)) (xStep i 1#32 (gS (grp x0 1)) (xStep i 0#32 (gS (grp x0 0)) X)))))))

/-- The scales of a block in a lane of it. -/
theorem gX_at (k : Fin 16) (x0 : Vec F S1024x1024 .bf16) (x10 : Vec F S1024x128 .f32) (y : S1024x128.Idx) (q : Fin 8) (h : (y 1).val = 8 * k.val + q.val) :
    gX k x0 x10 y = gS (grp x0 q) (ix2 (n0 := 1024) (n1 := 1) (y 0) 0) := by
  unfold gX
  rw [dif_pos ⟨by omega, by omega⟩]
  have e : (⟨(y 1).val - 8 * k.val, by omega⟩ : Fin 8) = q := Fin.ext (by show (y 1).val - 8 * k.val = _; omega)
  rw [e]

/-- The eight steps put the scales in their lanes. -/
theorem xChain_eq (i : grid0.Coords) (x0 : Vec F S1024x1024 .bf16) (X : FVec F S1024x128 .f32) : xChain i x0 X = gX (kOf i) x0 X := by
  funext y
  unfold xChain
  rw [xStep_apply i _ (by decide), xStep_apply i _ (by decide), xStep_apply i _ (by decide), xStep_apply i _ (by decide),
    xStep_apply i _ (by decide), xStep_apply i _ (by decide), xStep_apply i _ (by decide), xStep_apply i _ (by decide)]
  split_ifs with h7 h6 h5 h4 h3 h2 h1 h0
  · exact (gX_at (kOf i) x0 X y 7 h7).symm
  · exact (gX_at (kOf i) x0 X y 6 h6).symm
  · exact (gX_at (kOf i) x0 X y 5 h5).symm
  · exact (gX_at (kOf i) x0 X y 4 h4).symm
  · exact (gX_at (kOf i) x0 X y 3 h3).symm
  · exact (gX_at (kOf i) x0 X y 2 h2).symm
  · exact (gX_at (kOf i) x0 X y 1 h1).symm
  · exact (gX_at (kOf i) x0 X y 0 h0).symm
  · unfold gX
    rw [dif_neg]
    rintro ⟨ha, hb⟩
    simp only [show (7#32 : BitVec 32).toNat = 7 from rfl, show (6#32 : BitVec 32).toNat = 6 from rfl, show (5#32 : BitVec 32).toNat = 5 from rfl,
      show (4#32 : BitVec 32).toNat = 4 from rfl, show (3#32 : BitVec 32).toNat = 3 from rfl, show (2#32 : BitVec 32).toNat = 2 from rfl,
      show (1#32 : BitVec 32).toNat = 1 from rfl, show (0#32 : BitVec 32).toNat = 0 from rfl] at h7 h6 h5 h4 h3 h2 h1 h0
    omega

/-! ## The word of a scale, and the groups of the normalised entries -/

/-- The word of each row's scale, from `t`, the largest absolute value over 448: the number of powers of two up to `t`, as an exponent. -/
def wordT (v10 : FVec F S1024x1 .f32) : IVec S1024x1 32 :=
  have v11 : IVec S1x256 32 := iota .tc S1x256 32 [1] iota_S1x256_d1_w32
  have v13 : IVec S1x256 32 := shli v11 (broadcast S1x256 23#32)
  have v14 : FVec F S1x256 .f32 := bitcastToFloat .f32 v13
  have v15 : FVec F S1024x256 .f32 := broadcastTo S1024x256 v10 broadcasts_S1024x1_S1024x256
  have v16 : FVec F S1024x256 .f32 := broadcastTo S1024x256 v14 broadcasts_S1x256_S1024x256
  have v18 : IVec S1024x256 32 := extui 32 (cmpf .oge v15 v16) natLt_1_32
  have v19 : IVec S1024 32 := multiReductionI .add [1] S1024 v18 0#32 reduces_S1024x256_S1024 rfl
  have v20 : IVec S1024x1 32 := shapeCast S1024x1 v19 shapeCasts_S1024_S1024x1
  have v22 : IVec S1024x1 32 := subi v20 (broadcast S1024x1 1#32)
  have v24 : IVec S1024x1 32 := shli v22 (broadcast S1024x1 23#32)
  have v26 : IVec S1024x1 32 := andi v24 (broadcast S1024x1 2139095040#32)
  have v31 : IVec S1024x1 1 := ori (cmpi .eq v26 (broadcast S1024x1 0#32)) (cmpi .eq v26 (broadcast S1024x1 2139095040#32))
  select v31 (broadcast S1024x1 1065353216#32) (addi v26 (broadcast S1024x1 8388608#32))

/-- The largest absolute value of each row of a group, over 448. -/
def tOf (v6 : FVec F S1024x128 .f32) : FVec F S1024x1 .f32 :=
  mulf (shapeCast S1024x1 (multiReduction .maximumf [1] S1024 v6 0xFF800000#32 reduces_S1024x128_S1024 (.inl rfl) rfl) shapeCasts_S1024_S1024x1)
    (broadcast S1024x1 (Scalar.ofBits .f32 0x3B124925#32))

/-- The scale of each row, from its word. -/
def sOf (w : IVec S1024x1 32) : FVec F S1024x1 .f32 := bitcastToFloat .f32 w

/-- The inverse of the scale of each row, from the word of the scale. -/
def iOf (w : IVec S1024x1 32) : FVec F S1024x1 .f32 := bitcastToFloat .f32 (subi (broadcast S1024x1 2130706432#32) w)

/-- The scale of each row of a group of normalised entries. -/
def qS (v : FVec F S1024x128 .f32) : FVec F S1024x1 .f32 := sOf (wordT (tOf (absf v)))

/-- The codes of a group of normalised entries. -/
def qC (v : FVec F S1024x128 .f32) : FVec F S1024x128 .fp8e4m3 :=
  truncf .fp8e4m3 (minimumf (broadcast S1024x128 (Scalar.ofBits .f32 0x43E00000#32)) (maximumf (broadcast S1024x128 (Scalar.ofBits .f32 0xC3E00000#32))
    (mulf v (broadcastTo S1024x128 (iOf (wordT (tOf (absf v)))) broadcasts_S1024x1_S1024x128)))) bitsLt_fp8e4m3_f32

/-- The word of a group's scale is the word of its `t`. -/
theorem gWord_eq (v : Vec F S1024x128 .bf16) : k0_pay70 v = wordT (tOf (extf .f32 (absf (k0_pay69 v)) bitsLt_bf16_f32)) := by
  sl_kernel_rfl

/-- The group `q` of 128 columns of the normalised entries. -/
def qgrp (v : FVec F S1024x1536 .f32) (q : Fin 12) : FVec F S1024x128 .f32 :=
  fun z => v (ix2 (n0 := 1024) (n1 := 1536) (z 0) ⟨128 * q.val + (z 1).val, by have h : (z 1).val < 128 := (z 1).isLt; omega⟩)

/-- A slice of 128 columns is a group. -/
theorem slice_q (v : FVec F S1024x1536 .f32) (q : Fin 12) (o : ℕ) (ho : o = 128 * q.val) (h : S1024x1536.Slices ![0, o] S1024x128) :
    extractStridedSlice S1024x128 ![0, o] v h = qgrp v q := by
  subst ho
  funext z
  refine congrArg v (funext fun a => Fin.ext ?_)
  match a with
  | ⟨0, _⟩ => show 0 + (z 0).val = (z 0).val; omega
  | ⟨1, _⟩ => rfl

/-- The codes of all groups, side by side. -/
def qCodes (v : FVec F S1024x1536 .f32) : Vec F S1024x1536 .fp8e4m3 :=
  fun y => qC (qgrp v ⟨(y 1).val / 128, by have h : (y 1).val < 1536 := (y 1).isLt; omega⟩)
    (ix2 (n0 := 1024) (n1 := 128) (y 0) ⟨(y 1).val % 128, Nat.mod_lt _ (by decide)⟩)

/-- The scales of all groups, side by side. -/
def qScales (v : FVec F S1024x1536 .f32) : Vec F S1024x12 .f32 :=
  fun y => qS (qgrp v (y 1)) (ix2 (n0 := 1024) (n1 := 1) (y 0) 0)

/-- A stored group of codes is its part of them. -/
theorem piece_q (v : FVec F S1024x1536 .f32) (q : Fin 12)
    (o : ℕ) (ho : o = 128 * q.val) (h : ∀ a, (![0, o] : Fin 2 → ℕ) a + S1024x128.size a ≤ S1024x1536.size a) (h' : S1024x1536.Slices ![0, o] S1024x128)
    (w : S1024x128.Idx → Elt F .fp8e4m3) (hw : w = qC (extractStridedSlice S1024x128 ![0, o] v h'))
    (x : (Rect.unit (s := S1024x1536) ![0, o] S1024x128.size h).shape.Idx) :
    w x = qCodes v ((Rect.unit (s := S1024x1536) ![0, o] S1024x128.size h).emb x) := by
  rw [slice_q v q o ho h'] at hw
  subst ho hw
  have hx : (x 1).val < 128 := (x 1).isLt
  have e1 : ((Rect.unit (s := S1024x1536) ![0, 128 * q.val] S1024x128.size h).emb x 1).val = 128 * q.val + (x 1).val := by
    show 128 * q.val + 1 * (x 1).val = _; omega
  have e0 : ((Rect.unit (s := S1024x1536) ![0, 128 * q.val] S1024x128.size h).emb x 0).val = (x 0).val := by
    show 0 + 1 * (x 0).val = _; omega
  unfold qCodes
  congr 1
  · refine congrArg (qgrp v) (Fin.ext ?_)
    show q.val = _ / 128
    rw [e1]; omega
  · funext a
    match a with
    | ⟨0, _⟩ => exact Fin.ext e0.symm
    | ⟨1, _⟩ => exact Fin.ext (by show (x 1).val = _ % 128; rw [e1]; omega)

/-- Twelve columns of scales side by side. -/
theorem scales_eq (v : FVec F S1024x1536 .f32)
    (h : Shape.Concatenates ((List.ofFn fun n : Fin 12 => (⟨S1024x1, qS (qgrp v n)⟩ : (s : Shape) × (s.Idx → F .f32))).map (·.1)) S1024x12 1) :
    concatenate S1024x12 1 (List.ofFn fun n : Fin 12 => (⟨S1024x1, qS (qgrp v n)⟩ : (s : Shape) × (s.Idx → F .f32))) h = qScales v := by
  funext y
  rw [concatenate_ofFn_unit_apply (s₁ := S1024x1) 1 (fun n => qS (qgrp v n)) h rfl rfl y (y 1) rfl (ix2 (n0 := 1024) (n1 := 1) (y 0) 0) (fun b hb => by
    match b with
    | ⟨0, _⟩ => rfl
    | ⟨1, _⟩ => exact absurd rfl hb)]
  rfl

/-! ## The parts of the accumulated product -/

/-- The columns of `q`. -/
def accQ (A : Vec F S1024x2112 .f32) : FVec F S1024x1536 .f32 :=
  fun y => A (ix2 (n0 := 1024) (n1 := 2112) (y 0) ⟨(y 1).val, by have h : (y 1).val < 1536 := (y 1).isLt; omega⟩)

/-- The columns of `kv`. -/
def accK (A : Vec F S1024x2112 .f32) : FVec F S1024x512 .f32 :=
  fun y => A (ix2 (n0 := 1024) (n1 := 2112) (y 0) ⟨1536 + (y 1).val, by have h : (y 1).val < 512 := (y 1).isLt; omega⟩)

/-- The columns of the rotary part. -/
def accP (A : Vec F S1024x2112 .f32) : FVec F S1024x64 .f32 :=
  fun y => A (ix2 (n0 := 1024) (n1 := 2112) (y 0) ⟨2048 + (y 1).val, by have h : (y 1).val < 64 := (y 1).isLt; omega⟩)

end Cert.KernelIdeal.Gen

end
-- ==== Proof.IOutA.lean ====
module

public import proofs.«01_k».proof.Proof.IRunC
public import proofs.«01_k».proof.Proof.IPay

@[expose] public section

set_option maxRecDepth 16384

noncomputable section

namespace Cert.KernelIdeal.Gen

open Idealize.ShloMosaic Idealize.ShloMosaic.TcCoe Idealize.ShloMosaic.Tactic
open Idealize.ShloMosaic.ValueIdx (ix2 eq_ix2)
open Idealize.SL.RA

variable {F : FTy → Type} [FloatOps F]

/-- A load of 128 columns. -/
abbrev ldG (arg2 : Memref sig .tc .vmem S1024x1024 .bf16) (harg2 : arg2.IsWhole) (x0 : Vec F S1024x1024 .bf16) (o : ℕ)
    (h : ∀ a, (![0, o] : Fin 2 → ℕ) a + S1024x128.size a ≤ S1024x1024.size a) : Vec F S1024x128 .bf16 :=
  View.readAt (Elt F) arg2.view (Rect.unit (s := S1024x1024) ![0, o] S1024x128.size h).toLoadRect (harg2.unread x0)

set_option maxHeartbeats 4000000 in
/-- The stores of the dequantised groups are parts of one value. -/
theorem piecesD (c : Dev nD) (arg2 : Memref sig .tc .vmem S1024x1024 .bf16) (harg2 : arg2.IsWhole) (x0 : Vec F S1024x1024 .bf16) :
    View.PiecesOf (byGrp gD x0) (kernelRun0_A.sl.HS0_8 c arg2 harg2 x0) := by
  unfold kernelRun0_A.sl.HS0_8
  refine ⟨piece_grp (e := .bf16) gD x0 7 896 rfl inb_S1024x1024_S1024x128_0_896 _ (Eq.trans (b := gD (ldG arg2 harg2 x0 896 inb_S1024x1024_S1024x128_0_896)) (by sl_kernel_rfl) (congrArg gD (readAt_grp arg2 harg2 x0 7 896 rfl inb_S1024x1024_S1024x128_0_896))), ?_⟩
  refine ⟨piece_grp (e := .bf16) gD x0 6 768 rfl inb_S1024x1024_S1024x128_0_768 _ (Eq.trans (b := gD (ldG arg2 harg2 x0 768 inb_S1024x1024_S1024x128_0_768)) (by sl_kernel_rfl) (congrArg gD (readAt_grp arg2 harg2 x0 6 768 rfl inb_S1024x1024_S1024x128_0_768))), ?_⟩
  refine ⟨piece_grp (e := .bf16) gD x0 5 640 rfl inb_S1024x1024_S1024x128_0_640 _ (Eq.trans (b := gD (ldG arg2 harg2 x0 640 inb_S1024x1024_S1024x128_0_640)) (by sl_kernel_rfl) (congrArg gD (readAt_grp arg2 harg2 x0 5 640 rfl inb_S1024x1024_S1024x128_0_640))), ?_⟩
  refine ⟨piece_grp (e := .bf16) gD x0 4 512 rfl inb_S1024x1024_S1024x128_0_512 _ (Eq.trans (b := gD (ldG arg2 harg2 x0 512 inb_S1024x1024_S1024x128_0_512)) (by sl_kernel_rfl) (congrArg gD (readAt_grp arg2 harg2 x0 4 512 rfl inb_S1024x1024_S1024x128_0_512))), ?_⟩
  refine ⟨piece_grp (e := .bf16) gD x0 3 384 rfl inb_S1024x1024_S1024x128_0_384 _ (Eq.trans (b := gD (ldG arg2 harg2 x0 384 inb_S1024x1024_S1024x128_0_384)) (by sl_kernel_rfl) (congrArg gD (readAt_grp arg2 harg2 x0 3 384 rfl inb_S1024x1024_S1024x128_0_384))), ?_⟩
  refine ⟨piece_grp (e := .bf16) gD x0 2 256 rfl inb_S1024x1024_S1024x128_0_256 _ (Eq.trans (b := gD (ldG arg2 harg2 x0 256 inb_S1024x1024_S1024x128_0_256)) (by sl_kernel_rfl) (congrArg gD (readAt_grp arg2 harg2 x0 2 256 rfl inb_S1024x1024_S1024x128_0_256))), ?_⟩
  refine ⟨piece_grp (e := .bf16) gD x0 1 128 rfl inb_S1024x1024_S1024x128_0_128 _ (Eq.trans (b := gD (ldG arg2 harg2 x0 128 inb_S1024x1024_S1024x128_0_128)) (by sl_kernel_rfl) (congrArg gD (readAt_grp arg2 harg2 x0 1 128 rfl inb_S1024x1024_S1024x128_0_128))), ?_⟩
  refine ⟨piece_grp (e := .bf16) gD x0 0 0 rfl inb_S1024x1024_S1024x128_0_0 _ (Eq.trans (b := gD (ldG arg2 harg2 x0 0 inb_S1024x1024_S1024x128_0_0)) (by sl_kernel_rfl) (congrArg gD (readAt_grp arg2 harg2 x0 0 0 rfl inb_S1024x1024_S1024x128_0_0))), ?_⟩
  trivial

/-- A buffer of one element has one. -/
theorem pos1 : 0 < (Rect.unit (s := S17x128) ![0, 0] S1x1.size (by decide)).shape.numel := by decide

set_option maxHeartbeats 4000000 in
/-- The stores of the tiles of the weights are parts of one value. -/
theorem piecesW (c : Dev nD) (i : grid0.Coords) (arg3 : Memref sig .tc .vmem S2112x1024 .fp8e4m3) (harg3 : arg3.IsWhole) (arg4 : Memref sig .tc .smem S17x128 .f32) (harg4 : arg4.IsWhole) (x1 : Vec F S2112x1024 .fp8e4m3) (x2 : Vec F S17x128 .f32) :
    View.PiecesOf (gW (kOf i) x1 x2) (kernelRun0_A.sl.HS1_136 c i arg3 harg3 arg4 harg4 x1 x2) := by
  unfold kernelRun0_A.sl.HS1_136
  refine ⟨piece_W (n := 64) (by decide) tW64 tW64_apply arg3 harg3 arg4 harg4 (kOf i) x1 x2 16 7 (k0_off17 i 7#32) (k0_off17_inb i 7) pos1 rfl (off_toNat i 7#32 (by decide)) 2048 896 rfl rfl inb_S2112x1024_S64x128_2048_896 (by decide) (by decide) _ (by sl_kernel_rfl), ?_⟩
  refine ⟨piece_W (n := 128) (by decide) tW tW_apply arg3 harg3 arg4 harg4 (kOf i) x1 x2 15 7 (k0_off16 i 7#32) (k0_off16_inb i 7) pos1 rfl (off_toNat i 7#32 (by decide)) 1920 896 rfl rfl inb_S2112x1024_S128x128_1920_896 (by decide) (by decide) _ (by sl_kernel_rfl), ?_⟩
  refine ⟨piece_W (n := 128) (by decide) tW tW_apply arg3 harg3 arg4 harg4 (kOf i) x1 x2 14 7 (k0_off15 i 7#32) (k0_off15_inb i 7) pos1 rfl (off_toNat i 7#32 (by decide)) 1792 896 rfl rfl inb_S2112x1024_S128x128_1792_896 (by decide) (by decide) _ (by sl_kernel_rfl), ?_⟩
  refine ⟨piece_W (n := 128) (by decide) tW tW_apply arg3 harg3 arg4 harg4 (kOf i) x1 x2 13 7 (k0_off14 i 7#32) (k0_off14_inb i 7) pos1 rfl (off_toNat i 7#32 (by decide)) 1664 896 rfl rfl inb_S2112x1024_S128x128_1664_896 (by decide) (by decide) _ (by sl_kernel_rfl), ?_⟩
  refine ⟨piece_W (n := 128) (by decide) tW tW_apply arg3 harg3 arg4 harg4 (kOf i) x1 x2 12 7 (k0_off13 i 7#32) (k0_off13_inb i 7) pos1 rfl (off_toNat i 7#32 (by decide)) 1536 896 rfl rfl inb_S2112x1024_S128x128_1536_896 (by decide) (by decide) _ (by sl_kernel_rfl), ?_⟩
  refine ⟨piece_W (n := 128) (by decide) tW tW_apply arg3 harg3 arg4 harg4 (kOf i) x1 x2 11 7 (k0_off12 i 7#32) (k0_off12_inb i 7) pos1 rfl (off_toNat i 7#32 (by decide)) 1408 896 rfl rfl inb_S2112x1024_S128x128_1408_896 (by decide) (by decide) _ (by sl_kernel_rfl), ?_⟩
  refine ⟨piece_W (n := 128) (by decide) tW tW_apply arg3 harg3 arg4 harg4 (kOf i) x1 x2 10 7 (k0_off11 i 7#32) (k0_off11_inb i 7) pos1 rfl (off_toNat i 7#32 (by decide)) 1280 896 rfl rfl inb_S2112x1024_S128x128_1280_896 (by decide) (by decide) _ (by sl_kernel_rfl), ?_⟩
  refine ⟨piece_W (n := 128) (by decide) tW tW_apply arg3 harg3 arg4 harg4 (kOf i) x1 x2 9 7 (k0_off10 i 7#32) (k0_off10_inb i 7) pos1 rfl (off_toNat i 7#32 (by decide)) 1152 896 rfl rfl inb_S2112x1024_S128x128_1152_896 (by decide) (by decide) _ (by sl_kernel_rfl), ?_⟩
  refine ⟨piece_W (n := 128) (by decide) tW tW_apply arg3 harg3 arg4 harg4 (kOf i) x1 x2 8 7 (k0_off9 i 7#32) (k0_off9_inb i 7) pos1 rfl (off_toNat i 7#32 (by decide)) 1024 896 rfl rfl inb_S2112x1024_S128x128_1024_896 (by decide) (by decide) _ (by sl_kernel_rfl), ?_⟩
  refine ⟨piece_W (n := 128) (by decide) tW tW_apply arg3 harg3 arg4 harg4 (kOf i) x1 x2 7 7 (k0_off8 i 7#32) (k0_off8_inb i 7) pos1 rfl (off_toNat i 7#32 (by decide)) 896 896 rfl rfl inb_S2112x1024_S128x128_896_896 (by decide) (by decide) _ (by sl_kernel_rfl), ?_⟩
  refine ⟨piece_W (n := 128) (by decide) tW tW_apply arg3 harg3 arg4 harg4 (kOf i) x1 x2 6 7 (k0_off7 i 7#32) (k0_off7_inb i 7) pos1 rfl (off_toNat i 7#32 (by decide)) 768 896 rfl rfl inb_S2112x1024_S128x128_768_896 (by decide) (by decide) _ (by sl_kernel_rfl), ?_⟩
  refine ⟨piece_W (n := 128) (by decide) tW tW_apply arg3 harg3 arg4 harg4 (kOf i) x1 x2 5 7 (k0_off6 i 7#32) (k0_off6_inb i 7) pos1 rfl (off_toNat i 7#32 (by decide)) 640 896 rfl rfl inb_S2112x1024_S128x128_640_896 (by decide) (by decide) _ (by sl_kernel_rfl), ?_⟩
  refine ⟨piece_W (n := 128) (by decide) tW tW_apply arg3 harg3 arg4 harg4 (kOf i) x1 x2 4 7 (k0_off5 i 7#32) (k0_off5_inb i 7) pos1 rfl (off_toNat i 7#32 (by decide)) 512 896 rfl rfl inb_S2112x1024_S128x128_512_896 (by decide) (by decide) _ (by sl_kernel_rfl), ?_⟩
  refine ⟨piece_W (n := 128) (by decide) tW tW_apply arg3 harg3 arg4 harg4 (kOf i) x1 x2 3 7 (k0_off4 i 7#32) (k0_off4_inb i 7) pos1 rfl (off_toNat i 7#32 (by decide)) 384 896 rfl rfl inb_S2112x1024_S128x128_384_896 (by decide) (by decide) _ (by sl_kernel_rfl), ?_⟩
  refine ⟨piece_W (n := 128) (by decide) tW tW_apply arg3 harg3 arg4 harg4 (kOf i) x1 x2 2 7 (k0_off3 i 7#32) (k0_off3_inb i 7) pos1 rfl (off_toNat i 7#32 (by decide)) 256 896 rfl rfl inb_S2112x1024_S128x128_256_896 (by decide) (by decide) _ (by sl_kernel_rfl), ?_⟩
  refine ⟨piece_W (n := 128) (by decide) tW tW_apply arg3 harg3 arg4 harg4 (kOf i) x1 x2 1 7 (k0_off2 i 7#32) (k0_off2_inb i 7) pos1 rfl (off_toNat i 7#32 (by decide)) 128 896 rfl rfl inb_S2112x1024_S128x128_128_896 (by decide) (by decide) _ (by sl_kernel_rfl), ?_⟩
  refine ⟨piece_W (n := 128) (by decide) tW tW_apply arg3 harg3 arg4 harg4 (kOf i) x1 x2 0 7 (k0_off1 i 7#32) (k0_off1_inb i 7) pos1 rfl (off_toNat i 7#32 (by decide)) 0 896 rfl rfl inb_S2112x1024_S128x128_0_896 (by decide) (by decide) _ (by sl_kernel_rfl), ?_⟩
  refine ⟨piece_W (n := 64) (by decide) tW64 tW64_apply arg3 harg3 arg4 harg4 (kOf i) x1 x2 16 6 (k0_off17 i 6#32) (k0_off17_inb i 6) pos1 rfl (off_toNat i 6#32 (by decide)) 2048 768 rfl rfl inb_S2112x1024_S64x128_2048_768 (by decide) (by decide) _ (by sl_kernel_rfl), ?_⟩
  refine ⟨piece_W (n := 128) (by decide) tW tW_apply arg3 harg3 arg4 harg4 (kOf i) x1 x2 15 6 (k0_off16 i 6#32) (k0_off16_inb i 6) pos1 rfl (off_toNat i 6#32 (by decide)) 1920 768 rfl rfl inb_S2112x1024_S128x128_1920_768 (by decide) (by decide) _ (by sl_kernel_rfl), ?_⟩
  refine ⟨piece_W (n := 128) (by decide) tW tW_apply arg3 harg3 arg4 harg4 (kOf i) x1 x2 14 6 (k0_off15 i 6#32) (k0_off15_inb i 6) pos1 rfl (off_toNat i 6#32 (by decide)) 1792 768 rfl rfl inb_S2112x1024_S128x128_1792_768 (by decide) (by decide) _ (by sl_kernel_rfl), ?_⟩
  refine ⟨piece_W (n := 128) (by decide) tW tW_apply arg3 harg3 arg4 harg4 (kOf i) x1 x2 13 6 (k0_off14 i 6#32) (k0_off14_inb i 6) pos1 rfl (off_toNat i 6#32 (by decide)) 1664 768 rfl rfl inb_S2112x1024_S128x128_1664_768 (by decide) (by decide) _ (by sl_kernel_rfl), ?_⟩
  refine ⟨piece_W (n := 128) (by decide) tW tW_apply arg3 harg3 arg4 harg4 (kOf i) x1 x2 12 6 (k0_off13 i 6#32) (k0_off13_inb i 6) pos1 rfl (off_toNat i 6#32 (by decide)) 1536 768 rfl rfl inb_S2112x1024_S128x128_1536_768 (by decide) (by decide) _ (by sl_kernel_rfl), ?_⟩
  refine ⟨piece_W (n := 128) (by decide) tW tW_apply arg3 harg3 arg4 harg4 (kOf i) x1 x2 11 6 (k0_off12 i 6#32) (k0_off12_inb i 6) pos1 rfl (off_toNat i 6#32 (by decide)) 1408 768 rfl rfl inb_S2112x1024_S128x128_1408_768 (by decide) (by decide) _ (by sl_kernel_rfl), ?_⟩
  refine ⟨piece_W (n := 128) (by decide) tW tW_apply arg3 harg3 arg4 harg4 (kOf i) x1 x2 10 6 (k0_off11 i 6#32) (k0_off11_inb i 6) pos1 rfl (off_toNat i 6#32 (by decide)) 1280 768 rfl rfl inb_S2112x1024_S128x128_1280_768 (by decide) (by decide) _ (by sl_kernel_rfl), ?_⟩
  refine ⟨piece_W (n := 128) (by decide) tW tW_apply arg3 harg3 arg4 harg4 (kOf i) x1 x2 9 6 (k0_off10 i 6#32) (k0_off10_inb i 6) pos1 rfl (off_toNat i 6#32 (by decide)) 1152 768 rfl rfl inb_S2112x1024_S128x128_1152_768 (by decide) (by decide) _ (by sl_kernel_rfl), ?_⟩
  refine ⟨piece_W (n := 128) (by decide) tW tW_apply arg3 harg3 arg4 harg4 (kOf i) x1 x2 8 6 (k0_off9 i 6#32) (k0_off9_inb i 6) pos1 rfl (off_toNat i 6#32 (by decide)) 1024 768 rfl rfl inb_S2112x1024_S128x128_1024_768 (by decide) (by decide) _ (by sl_kernel_rfl), ?_⟩
  refine ⟨piece_W (n := 128) (by decide) tW tW_apply arg3 harg3 arg4 harg4 (kOf i) x1 x2 7 6 (k0_off8 i 6#32) (k0_off8_inb i 6) pos1 rfl (off_toNat i 6#32 (by decide)) 896 768 rfl rfl inb_S2112x1024_S128x128_896_768 (by decide) (by decide) _ (by sl_kernel_rfl), ?_⟩
  refine ⟨piece_W (n := 128) (by decide) tW tW_apply arg3 harg3 arg4 harg4 (kOf i) x1 x2 6 6 (k0_off7 i 6#32) (k0_off7_inb i 6) pos1 rfl (off_toNat i 6#32 (by decide)) 768 768 rfl rfl inb_S2112x1024_S128x128_768_768 (by decide) (by decide) _ (by sl_kernel_rfl), ?_⟩
  refine ⟨piece_W (n := 128) (by decide) tW tW_apply arg3 harg3 arg4 harg4 (kOf i) x1 x2 5 6 (k0_off6 i 6#32) (k0_off6_inb i 6) pos1 rfl (off_toNat i 6#32 (by decide)) 640 768 rfl rfl inb_S2112x1024_S128x128_640_768 (by decide) (by decide) _ (by sl_kernel_rfl), ?_⟩
  refine ⟨piece_W (n := 128) (by decide) tW tW_apply arg3 harg3 arg4 harg4 (kOf i) x1 x2 4 6 (k0_off5 i 6#32) (k0_off5_inb i 6) pos1 rfl (off_toNat i 6#32 (by decide)) 512 768 rfl rfl inb_S2112x1024_S128x128_512_768 (by decide) (by decide) _ (by sl_kernel_rfl), ?_⟩
  refine ⟨piece_W (n := 128) (by decide) tW tW_apply arg3 harg3 arg4 harg4 (kOf i) x1 x2 3 6 (k0_off4 i 6#32) (k0_off4_inb i 6) pos1 rfl (off_toNat i 6#32 (by decide)) 384 768 rfl rfl inb_S2112x1024_S128x128_384_768 (by decide) (by decide) _ (by sl_kernel_rfl), ?_⟩
  refine ⟨piece_W (n := 128) (by decide) tW tW_apply arg3 harg3 arg4 harg4 (kOf i) x1 x2 2 6 (k0_off3 i 6#32) (k0_off3_inb i 6) pos1 rfl (off_toNat i 6#32 (by decide)) 256 768 rfl rfl inb_S2112x1024_S128x128_256_768 (by decide) (by decide) _ (by sl_kernel_rfl), ?_⟩
  refine ⟨piece_W (n := 128) (by decide) tW tW_apply arg3 harg3 arg4 harg4 (kOf i) x1 x2 1 6 (k0_off2 i 6#32) (k0_off2_inb i 6) pos1 rfl (off_toNat i 6#32 (by decide)) 128 768 rfl rfl inb_S2112x1024_S128x128_128_768 (by decide) (by decide) _ (by sl_kernel_rfl), ?_⟩
  refine ⟨piece_W (n := 128) (by decide) tW tW_apply arg3 harg3 arg4 harg4 (kOf i) x1 x2 0 6 (k0_off1 i 6#32) (k0_off1_inb i 6) pos1 rfl (off_toNat i 6#32 (by decide)) 0 768 rfl rfl inb_S2112x1024_S128x128_0_768 (by decide) (by decide) _ (by sl_kernel_rfl), ?_⟩
  refine ⟨piece_W (n := 64) (by decide) tW64 tW64_apply arg3 harg3 arg4 harg4 (kOf i) x1 x2 16 5 (k0_off17 i 5#32) (k0_off17_inb i 5) pos1 rfl (off_toNat i 5#32 (by decide)) 2048 640 rfl rfl inb_S2112x1024_S64x128_2048_640 (by decide) (by decide) _ (by sl_kernel_rfl), ?_⟩
  refine ⟨piece_W (n := 128) (by decide) tW tW_apply arg3 harg3 arg4 harg4 (kOf i) x1 x2 15 5 (k0_off16 i 5#32) (k0_off16_inb i 5) pos1 rfl (off_toNat i 5#32 (by decide)) 1920 640 rfl rfl inb_S2112x1024_S128x128_1920_640 (by decide) (by decide) _ (by sl_kernel_rfl), ?_⟩
  refine ⟨piece_W (n := 128) (by decide) tW tW_apply arg3 harg3 arg4 harg4 (kOf i) x1 x2 14 5 (k0_off15 i 5#32) (k0_off15_inb i 5) pos1 rfl (off_toNat i 5#32 (by decide)) 1792 640 rfl rfl inb_S2112x1024_S128x128_1792_640 (by decide) (by decide) _ (by sl_kernel_rfl), ?_⟩
  refine ⟨piece_W (n := 128) (by decide) tW tW_apply arg3 harg3 arg4 harg4 (kOf i) x1 x2 13 5 (k0_off14 i 5#32) (k0_off14_inb i 5) pos1 rfl (off_toNat i 5#32 (by decide)) 1664 640 rfl rfl inb_S2112x1024_S128x128_1664_640 (by decide) (by decide) _ (by sl_kernel_rfl), ?_⟩
  refine ⟨piece_W (n := 128) (by decide) tW tW_apply arg3 harg3 arg4 harg4 (kOf i) x1 x2 12 5 (k0_off13 i 5#32) (k0_off13_inb i 5) pos1 rfl (off_toNat i 5#32 (by decide)) 1536 640 rfl rfl inb_S2112x1024_S128x128_1536_640 (by decide) (by decide) _ (by sl_kernel_rfl), ?_⟩
  refine ⟨piece_W (n := 128) (by decide) tW tW_apply arg3 harg3 arg4 harg4 (kOf i) x1 x2 11 5 (k0_off12 i 5#32) (k0_off12_inb i 5) pos1 rfl (off_toNat i 5#32 (by decide)) 1408 640 rfl rfl inb_S2112x1024_S128x128_1408_640 (by decide) (by decide) _ (by sl_kernel_rfl), ?_⟩
  refine ⟨piece_W (n := 128) (by decide) tW tW_apply arg3 harg3 arg4 harg4 (kOf i) x1 x2 10 5 (k0_off11 i 5#32) (k0_off11_inb i 5) pos1 rfl (off_toNat i 5#32 (by decide)) 1280 640 rfl rfl inb_S2112x1024_S128x128_1280_640 (by decide) (by decide) _ (by sl_kernel_rfl), ?_⟩
  refine ⟨piece_W (n := 128) (by decide) tW tW_apply arg3 harg3 arg4 harg4 (kOf i) x1 x2 9 5 (k0_off10 i 5#32) (k0_off10_inb i 5) pos1 rfl (off_toNat i 5#32 (by decide)) 1152 640 rfl rfl inb_S2112x1024_S128x128_1152_640 (by decide) (by decide) _ (by sl_kernel_rfl), ?_⟩
  refine ⟨piece_W (n := 128) (by decide) tW tW_apply arg3 harg3 arg4 harg4 (kOf i) x1 x2 8 5 (k0_off9 i 5#32) (k0_off9_inb i 5) pos1 rfl (off_toNat i 5#32 (by decide)) 1024 640 rfl rfl inb_S2112x1024_S128x128_1024_640 (by decide) (by decide) _ (by sl_kernel_rfl), ?_⟩
  refine ⟨piece_W (n := 128) (by decide) tW tW_apply arg3 harg3 arg4 harg4 (kOf i) x1 x2 7 5 (k0_off8 i 5#32) (k0_off8_inb i 5) pos1 rfl (off_toNat i 5#32 (by decide)) 896 640 rfl rfl inb_S2112x1024_S128x128_896_640 (by decide) (by decide) _ (by sl_kernel_rfl), ?_⟩
  refine ⟨piece_W (n := 128) (by decide) tW tW_apply arg3 harg3 arg4 harg4 (kOf i) x1 x2 6 5 (k0_off7 i 5#32) (k0_off7_inb i 5) pos1 rfl (off_toNat i 5#32 (by decide)) 768 640 rfl rfl inb_S2112x1024_S128x128_768_640 (by decide) (by decide) _ (by sl_kernel_rfl), ?_⟩
  refine ⟨piece_W (n := 128) (by decide) tW tW_apply arg3 harg3 arg4 harg4 (kOf i) x1 x2 5 5 (k0_off6 i 5#32) (k0_off6_inb i 5) pos1 rfl (off_toNat i 5#32 (by decide)) 640 640 rfl rfl inb_S2112x1024_S128x128_640_640 (by decide) (by decide) _ (by sl_kernel_rfl), ?_⟩
  refine ⟨piece_W (n := 128) (by decide) tW tW_apply arg3 harg3 arg4 harg4 (kOf i) x1 x2 4 5 (k0_off5 i 5#32) (k0_off5_inb i 5) pos1 rfl (off_toNat i 5#32 (by decide)) 512 640 rfl rfl inb_S2112x1024_S128x128_512_640 (by decide) (by decide) _ (by sl_kernel_rfl), ?_⟩
  refine ⟨piece_W (n := 128) (by decide) tW tW_apply arg3 harg3 arg4 harg4 (kOf i) x1 x2 3 5 (k0_off4 i 5#32) (k0_off4_inb i 5) pos1 rfl (off_toNat i 5#32 (by decide)) 384 640 rfl rfl inb_S2112x1024_S128x128_384_640 (by decide) (by decide) _ (by sl_kernel_rfl), ?_⟩
  refine ⟨piece_W (n := 128) (by decide) tW tW_apply arg3 harg3 arg4 harg4 (kOf i) x1 x2 2 5 (k0_off3 i 5#32) (k0_off3_inb i 5) pos1 rfl (off_toNat i 5#32 (by decide)) 256 640 rfl rfl inb_S2112x1024_S128x128_256_640 (by decide) (by decide) _ (by sl_kernel_rfl), ?_⟩
  refine ⟨piece_W (n := 128) (by decide) tW tW_apply arg3 harg3 arg4 harg4 (kOf i) x1 x2 1 5 (k0_off2 i 5#32) (k0_off2_inb i 5) pos1 rfl (off_toNat i 5#32 (by decide)) 128 640 rfl rfl inb_S2112x1024_S128x128_128_640 (by decide) (by decide) _ (by sl_kernel_rfl), ?_⟩
  refine ⟨piece_W (n := 128) (by decide) tW tW_apply arg3 harg3 arg4 harg4 (kOf i) x1 x2 0 5 (k0_off1 i 5#32) (k0_off1_inb i 5) pos1 rfl (off_toNat i 5#32 (by decide)) 0 640 rfl rfl inb_S2112x1024_S128x128_0_640 (by decide) (by decide) _ (by sl_kernel_rfl), ?_⟩
  refine ⟨piece_W (n := 64) (by decide) tW64 tW64_apply arg3 harg3 arg4 harg4 (kOf i) x1 x2 16 4 (k0_off17 i 4#32) (k0_off17_inb i 4) pos1 rfl (off_toNat i 4#32 (by decide)) 2048 512 rfl rfl inb_S2112x1024_S64x128_2048_512 (by decide) (by decide) _ (by sl_kernel_rfl), ?_⟩
  refine ⟨piece_W (n := 128) (by decide) tW tW_apply arg3 harg3 arg4 harg4 (kOf i) x1 x2 15 4 (k0_off16 i 4#32) (k0_off16_inb i 4) pos1 rfl (off_toNat i 4#32 (by decide)) 1920 512 rfl rfl inb_S2112x1024_S128x128_1920_512 (by decide) (by decide) _ (by sl_kernel_rfl), ?_⟩
  refine ⟨piece_W (n := 128) (by decide) tW tW_apply arg3 harg3 arg4 harg4 (kOf i) x1 x2 14 4 (k0_off15 i 4#32) (k0_off15_inb i 4) pos1 rfl (off_toNat i 4#32 (by decide)) 1792 512 rfl rfl inb_S2112x1024_S128x128_1792_512 (by decide) (by decide) _ (by sl_kernel_rfl), ?_⟩
  refine ⟨piece_W (n := 128) (by decide) tW tW_apply arg3 harg3 arg4 harg4 (kOf i) x1 x2 13 4 (k0_off14 i 4#32) (k0_off14_inb i 4) pos1 rfl (off_toNat i 4#32 (by decide)) 1664 512 rfl rfl inb_S2112x1024_S128x128_1664_512 (by decide) (by decide) _ (by sl_kernel_rfl), ?_⟩
  refine ⟨piece_W (n := 128) (by decide) tW tW_apply arg3 harg3 arg4 harg4 (kOf i) x1 x2 12 4 (k0_off13 i 4#32) (k0_off13_inb i 4) pos1 rfl (off_toNat i 4#32 (by decide)) 1536 512 rfl rfl inb_S2112x1024_S128x128_1536_512 (by decide) (by decide) _ (by sl_kernel_rfl), ?_⟩
  refine ⟨piece_W (n := 128) (by decide) tW tW_apply arg3 harg3 arg4 harg4 (kOf i) x1 x2 11 4 (k0_off12 i 4#32) (k0_off12_inb i 4) pos1 rfl (off_toNat i 4#32 (by decide)) 1408 512 rfl rfl inb_S2112x1024_S128x128_1408_512 (by decide) (by decide) _ (by sl_kernel_rfl), ?_⟩
  refine ⟨piece_W (n := 128) (by decide) tW tW_apply arg3 harg3 arg4 harg4 (kOf i) x1 x2 10 4 (k0_off11 i 4#32) (k0_off11_inb i 4) pos1 rfl (off_toNat i 4#32 (by decide)) 1280 512 rfl rfl inb_S2112x1024_S128x128_1280_512 (by decide) (by decide) _ (by sl_kernel_rfl), ?_⟩
  refine ⟨piece_W (n := 128) (by decide) tW tW_apply arg3 harg3 arg4 harg4 (kOf i) x1 x2 9 4 (k0_off10 i 4#32) (k0_off10_inb i 4) pos1 rfl (off_toNat i 4#32 (by decide)) 1152 512 rfl rfl inb_S2112x1024_S128x128_1152_512 (by decide) (by decide) _ (by sl_kernel_rfl), ?_⟩
  refine ⟨piece_W (n := 128) (by decide) tW tW_apply arg3 harg3 arg4 harg4 (kOf i) x1 x2 8 4 (k0_off9 i 4#32) (k0_off9_inb i 4) pos1 rfl (off_toNat i 4#32 (by decide)) 1024 512 rfl rfl inb_S2112x1024_S128x128_1024_512 (by decide) (by decide) _ (by sl_kernel_rfl), ?_⟩
  refine ⟨piece_W (n := 128) (by decide) tW tW_apply arg3 harg3 arg4 harg4 (kOf i) x1 x2 7 4 (k0_off8 i 4#32) (k0_off8_inb i 4) pos1 rfl (off_toNat i 4#32 (by decide)) 896 512 rfl rfl inb_S2112x1024_S128x128_896_512 (by decide) (by decide) _ (by sl_kernel_rfl), ?_⟩
  refine ⟨piece_W (n := 128) (by decide) tW tW_apply arg3 harg3 arg4 harg4 (kOf i) x1 x2 6 4 (k0_off7 i 4#32) (k0_off7_inb i 4) pos1 rfl (off_toNat i 4#32 (by decide)) 768 512 rfl rfl inb_S2112x1024_S128x128_768_512 (by decide) (by decide) _ (by sl_kernel_rfl), ?_⟩
  refine ⟨piece_W (n := 128) (by decide) tW tW_apply arg3 harg3 arg4 harg4 (kOf i) x1 x2 5 4 (k0_off6 i 4#32) (k0_off6_inb i 4) pos1 rfl (off_toNat i 4#32 (by decide)) 640 512 rfl rfl inb_S2112x1024_S128x128_640_512 (by decide) (by decide) _ (by sl_kernel_rfl), ?_⟩
  refine ⟨piece_W (n := 128) (by decide) tW tW_apply arg3 harg3 arg4 harg4 (kOf i) x1 x2 4 4 (k0_off5 i 4#32) (k0_off5_inb i 4) pos1 rfl (off_toNat i 4#32 (by decide)) 512 512 rfl rfl inb_S2112x1024_S128x128_512_512 (by decide) (by decide) _ (by sl_kernel_rfl), ?_⟩
  refine ⟨piece_W (n := 128) (by decide) tW tW_apply arg3 harg3 arg4 harg4 (kOf i) x1 x2 3 4 (k0_off4 i 4#32) (k0_off4_inb i 4) pos1 rfl (off_toNat i 4#32 (by decide)) 384 512 rfl rfl inb_S2112x1024_S128x128_384_512 (by decide) (by decide) _ (by sl_kernel_rfl), ?_⟩
  refine ⟨piece_W (n := 128) (by decide) tW tW_apply arg3 harg3 arg4 harg4 (kOf i) x1 x2 2 4 (k0_off3 i 4#32) (k0_off3_inb i 4) pos1 rfl (off_toNat i 4#32 (by decide)) 256 512 rfl rfl inb_S2112x1024_S128x128_256_512 (by decide) (by decide) _ (by sl_kernel_rfl), ?_⟩
  refine ⟨piece_W (n := 128) (by decide) tW tW_apply arg3 harg3 arg4 harg4 (kOf i) x1 x2 1 4 (k0_off2 i 4#32) (k0_off2_inb i 4) pos1 rfl (off_toNat i 4#32 (by decide)) 128 512 rfl rfl inb_S2112x1024_S128x128_128_512 (by decide) (by decide) _ (by sl_kernel_rfl), ?_⟩
  refine ⟨piece_W (n := 128) (by decide) tW tW_apply arg3 harg3 arg4 harg4 (kOf i) x1 x2 0 4 (k0_off1 i 4#32) (k0_off1_inb i 4) pos1 rfl (off_toNat i 4#32 (by decide)) 0 512 rfl rfl inb_S2112x1024_S128x128_0_512 (by decide) (by decide) _ (by sl_kernel_rfl), ?_⟩
  refine ⟨piece_W (n := 64) (by decide) tW64 tW64_apply arg3 harg3 arg4 harg4 (kOf i) x1 x2 16 3 (k0_off17 i 3#32) (k0_off17_inb i 3) pos1 rfl (off_toNat i 3#32 (by decide)) 2048 384 rfl rfl inb_S2112x1024_S64x128_2048_384 (by decide) (by decide) _ (by sl_kernel_rfl), ?_⟩
  refine ⟨piece_W (n := 128) (by decide) tW tW_apply arg3 harg3 arg4 harg4 (kOf i) x1 x2 15 3 (k0_off16 i 3#32) (k0_off16_inb i 3) pos1 rfl (off_toNat i 3#32 (by decide)) 1920 384 rfl rfl inb_S2112x1024_S128x128_1920_384 (by decide) (by decide) _ (by sl_kernel_rfl), ?_⟩
  refine ⟨piece_W (n := 128) (by decide) tW tW_apply arg3 harg3 arg4 harg4 (kOf i) x1 x2 14 3 (k0_off15 i 3#32) (k0_off15_inb i 3) pos1 rfl (off_toNat i 3#32 (by decide)) 1792 384 rfl rfl inb_S2112x1024_S128x128_1792_384 (by decide) (by decide) _ (by sl_kernel_rfl), ?_⟩
  refine ⟨piece_W (n := 128) (by decide) tW tW_apply arg3 harg3 arg4 harg4 (kOf i) x1 x2 13 3 (k0_off14 i 3#32) (k0_off14_inb i 3) pos1 rfl (off_toNat i 3#32 (by decide)) 1664 384 rfl rfl inb_S2112x1024_S128x128_1664_384 (by decide) (by decide) _ (by sl_kernel_rfl), ?_⟩
  refine ⟨piece_W (n := 128) (by decide) tW tW_apply arg3 harg3 arg4 harg4 (kOf i) x1 x2 12 3 (k0_off13 i 3#32) (k0_off13_inb i 3) pos1 rfl (off_toNat i 3#32 (by decide)) 1536 384 rfl rfl inb_S2112x1024_S128x128_1536_384 (by decide) (by decide) _ (by sl_kernel_rfl), ?_⟩
  refine ⟨piece_W (n := 128) (by decide) tW tW_apply arg3 harg3 arg4 harg4 (kOf i) x1 x2 11 3 (k0_off12 i 3#32) (k0_off12_inb i 3) pos1 rfl (off_toNat i 3#32 (by decide)) 1408 384 rfl rfl inb_S2112x1024_S128x128_1408_384 (by decide) (by decide) _ (by sl_kernel_rfl), ?_⟩
  refine ⟨piece_W (n := 128) (by decide) tW tW_apply arg3 harg3 arg4 harg4 (kOf i) x1 x2 10 3 (k0_off11 i 3#32) (k0_off11_inb i 3) pos1 rfl (off_toNat i 3#32 (by decide)) 1280 384 rfl rfl inb_S2112x1024_S128x128_1280_384 (by decide) (by decide) _ (by sl_kernel_rfl), ?_⟩
  refine ⟨piece_W (n := 128) (by decide) tW tW_apply arg3 harg3 arg4 harg4 (kOf i) x1 x2 9 3 (k0_off10 i 3#32) (k0_off10_inb i 3) pos1 rfl (off_toNat i 3#32 (by decide)) 1152 384 rfl rfl inb_S2112x1024_S128x128_1152_384 (by decide) (by decide) _ (by sl_kernel_rfl), ?_⟩
  refine ⟨piece_W (n := 128) (by decide) tW tW_apply arg3 harg3 arg4 harg4 (kOf i) x1 x2 8 3 (k0_off9 i 3#32) (k0_off9_inb i 3) pos1 rfl (off_toNat i 3#32 (by decide)) 1024 384 rfl rfl inb_S2112x1024_S128x128_1024_384 (by decide) (by decide) _ (by sl_kernel_rfl), ?_⟩
  refine ⟨piece_W (n := 128) (by decide) tW tW_apply arg3 harg3 arg4 harg4 (kOf i) x1 x2 7 3 (k0_off8 i 3#32) (k0_off8_inb i 3) pos1 rfl (off_toNat i 3#32 (by decide)) 896 384 rfl rfl inb_S2112x1024_S128x128_896_384 (by decide) (by decide) _ (by sl_kernel_rfl), ?_⟩
  refine ⟨piece_W (n := 128) (by decide) tW tW_apply arg3 harg3 arg4 harg4 (kOf i) x1 x2 6 3 (k0_off7 i 3#32) (k0_off7_inb i 3) pos1 rfl (off_toNat i 3#32 (by decide)) 768 384 rfl rfl inb_S2112x1024_S128x128_768_384 (by decide) (by decide) _ (by sl_kernel_rfl), ?_⟩
  refine ⟨piece_W (n := 128) (by decide) tW tW_apply arg3 harg3 arg4 harg4 (kOf i) x1 x2 5 3 (k0_off6 i 3#32) (k0_off6_inb i 3) pos1 rfl (off_toNat i 3#32 (by decide)) 640 384 rfl rfl inb_S2112x1024_S128x128_640_384 (by decide) (by decide) _ (by sl_kernel_rfl), ?_⟩
  refine ⟨piece_W (n := 128) (by decide) tW tW_apply arg3 harg3 arg4 harg4 (kOf i) x1 x2 4 3 (k0_off5 i 3#32) (k0_off5_inb i 3) pos1 rfl (off_toNat i 3#32 (by decide)) 512 384 rfl rfl inb_S2112x1024_S128x128_512_384 (by decide) (by decide) _ (by sl_kernel_rfl), ?_⟩
  refine ⟨piece_W (n := 128) (by decide) tW tW_apply arg3 harg3 arg4 harg4 (kOf i) x1 x2 3 3 (k0_off4 i 3#32) (k0_off4_inb i 3) pos1 rfl (off_toNat i 3#32 (by decide)) 384 384 rfl rfl inb_S2112x1024_S128x128_384_384 (by decide) (by decide) _ (by sl_kernel_rfl), ?_⟩
  refine ⟨piece_W (n := 128) (by decide) tW tW_apply arg3 harg3 arg4 harg4 (kOf i) x1 x2 2 3 (k0_off3 i 3#32) (k0_off3_inb i 3) pos1 rfl (off_toNat i 3#32 (by decide)) 256 384 rfl rfl inb_S2112x1024_S128x128_256_384 (by decide) (by decide) _ (by sl_kernel_rfl), ?_⟩
  refine ⟨piece_W (n := 128) (by decide) tW tW_apply arg3 harg3 arg4 harg4 (kOf i) x1 x2 1 3 (k0_off2 i 3#32) (k0_off2_inb i 3) pos1 rfl (off_toNat i 3#32 (by decide)) 128 384 rfl rfl inb_S2112x1024_S128x128_128_384 (by decide) (by decide) _ (by sl_kernel_rfl), ?_⟩
  refine ⟨piece_W (n := 128) (by decide) tW tW_apply arg3 harg3 arg4 harg4 (kOf i) x1 x2 0 3 (k0_off1 i 3#32) (k0_off1_inb i 3) pos1 rfl (off_toNat i 3#32 (by decide)) 0 384 rfl rfl inb_S2112x1024_S128x128_0_384 (by decide) (by decide) _ (by sl_kernel_rfl), ?_⟩
  refine ⟨piece_W (n := 64) (by decide) tW64 tW64_apply arg3 harg3 arg4 harg4 (kOf i) x1 x2 16 2 (k0_off17 i 2#32) (k0_off17_inb i 2) pos1 rfl (off_toNat i 2#32 (by decide)) 2048 256 rfl rfl inb_S2112x1024_S64x128_2048_256 (by decide) (by decide) _ (by sl_kernel_rfl), ?_⟩
  refine ⟨piece_W (n := 128) (by decide) tW tW_apply arg3 harg3 arg4 harg4 (kOf i) x1 x2 15 2 (k0_off16 i 2#32) (k0_off16_inb i 2) pos1 rfl (off_toNat i 2#32 (by decide)) 1920 256 rfl rfl inb_S2112x1024_S128x128_1920_256 (by decide) (by decide) _ (by sl_kernel_rfl), ?_⟩
  refine ⟨piece_W (n := 128) (by decide) tW tW_apply arg3 harg3 arg4 harg4 (kOf i) x1 x2 14 2 (k0_off15 i 2#32) (k0_off15_inb i 2) pos1 rfl (off_toNat i 2#32 (by decide)) 1792 256 rfl rfl inb_S2112x1024_S128x128_1792_256 (by decide) (by decide) _ (by sl_kernel_rfl), ?_⟩
  refine ⟨piece_W (n := 128) (by decide) tW tW_apply arg3 harg3 arg4 harg4 (kOf i) x1 x2 13 2 (k0_off14 i 2#32) (k0_off14_inb i 2) pos1 rfl (off_toNat i 2#32 (by decide)) 1664 256 rfl rfl inb_S2112x1024_S128x128_1664_256 (by decide) (by decide) _ (by sl_kernel_rfl), ?_⟩
  refine ⟨piece_W (n := 128) (by decide) tW tW_apply arg3 harg3 arg4 harg4 (kOf i) x1 x2 12 2 (k0_off13 i 2#32) (k0_off13_inb i 2) pos1 rfl (off_toNat i 2#32 (by decide)) 1536 256 rfl rfl inb_S2112x1024_S128x128_1536_256 (by decide) (by decide) _ (by sl_kernel_rfl), ?_⟩
  refine ⟨piece_W (n := 128) (by decide) tW tW_apply arg3 harg3 arg4 harg4 (kOf i) x1 x2 11 2 (k0_off12 i 2#32) (k0_off12_inb i 2) pos1 rfl (off_toNat i 2#32 (by decide)) 1408 256 rfl rfl inb_S2112x1024_S128x128_1408_256 (by decide) (by decide) _ (by sl_kernel_rfl), ?_⟩
  refine ⟨piece_W (n := 128) (by decide) tW tW_apply arg3 harg3 arg4 harg4 (kOf i) x1 x2 10 2 (k0_off11 i 2#32) (k0_off11_inb i 2) pos1 rfl (off_toNat i 2#32 (by decide)) 1280 256 rfl rfl inb_S2112x1024_S128x128_1280_256 (by decide) (by decide) _ (by sl_kernel_rfl), ?_⟩
  refine ⟨piece_W (n := 128) (by decide) tW tW_apply arg3 harg3 arg4 harg4 (kOf i) x1 x2 9 2 (k0_off10 i 2#32) (k0_off10_inb i 2) pos1 rfl (off_toNat i 2#32 (by decide)) 1152 256 rfl rfl inb_S2112x1024_S128x128_1152_256 (by decide) (by decide) _ (by sl_kernel_rfl), ?_⟩
  refine ⟨piece_W (n := 128) (by decide) tW tW_apply arg3 harg3 arg4 harg4 (kOf i) x1 x2 8 2 (k0_off9 i 2#32) (k0_off9_inb i 2) pos1 rfl (off_toNat i 2#32 (by decide)) 1024 256 rfl rfl inb_S2112x1024_S128x128_1024_256 (by decide) (by decide) _ (by sl_kernel_rfl), ?_⟩
  refine ⟨piece_W (n := 128) (by decide) tW tW_apply arg3 harg3 arg4 harg4 (kOf i) x1 x2 7 2 (k0_off8 i 2#32) (k0_off8_inb i 2) pos1 rfl (off_toNat i 2#32 (by decide)) 896 256 rfl rfl inb_S2112x1024_S128x128_896_256 (by decide) (by decide) _ (by sl_kernel_rfl), ?_⟩
  refine ⟨piece_W (n := 128) (by decide) tW tW_apply arg3 harg3 arg4 harg4 (kOf i) x1 x2 6 2 (k0_off7 i 2#32) (k0_off7_inb i 2) pos1 rfl (off_toNat i 2#32 (by decide)) 768 256 rfl rfl inb_S2112x1024_S128x128_768_256 (by decide) (by decide) _ (by sl_kernel_rfl), ?_⟩
  refine ⟨piece_W (n := 128) (by decide) tW tW_apply arg3 harg3 arg4 harg4 (kOf i) x1 x2 5 2 (k0_off6 i 2#32) (k0_off6_inb i 2) pos1 rfl (off_toNat i 2#32 (by decide)) 640 256 rfl rfl inb_S2112x1024_S128x128_640_256 (by decide) (by decide) _ (by sl_kernel_rfl), ?_⟩
  refine ⟨piece_W (n := 128) (by decide) tW tW_apply arg3 harg3 arg4 harg4 (kOf i) x1 x2 4 2 (k0_off5 i 2#32) (k0_off5_inb i 2) pos1 rfl (off_toNat i 2#32 (by decide)) 512 256 rfl rfl inb_S2112x1024_S128x128_512_256 (by decide) (by decide) _ (by sl_kernel_rfl), ?_⟩
  refine ⟨piece_W (n := 128) (by decide) tW tW_apply arg3 harg3 arg4 harg4 (kOf i) x1 x2 3 2 (k0_off4 i 2#32) (k0_off4_inb i 2) pos1 rfl (off_toNat i 2#32 (by decide)) 384 256 rfl rfl inb_S2112x1024_S128x128_384_256 (by decide) (by decide) _ (by sl_kernel_rfl), ?_⟩
  refine ⟨piece_W (n := 128) (by decide) tW tW_apply arg3 harg3 arg4 harg4 (kOf i) x1 x2 2 2 (k0_off3 i 2#32) (k0_off3_inb i 2) pos1 rfl (off_toNat i 2#32 (by decide)) 256 256 rfl rfl inb_S2112x1024_S128x128_256_256 (by decide) (by decide) _ (by sl_kernel_rfl), ?_⟩
  refine ⟨piece_W (n := 128) (by decide) tW tW_apply arg3 harg3 arg4 harg4 (kOf i) x1 x2 1 2 (k0_off2 i 2#32) (k0_off2_inb i 2) pos1 rfl (off_toNat i 2#32 (by decide)) 128 256 rfl rfl inb_S2112x1024_S128x128_128_256 (by decide) (by decide) _ (by sl_kernel_rfl), ?_⟩
  refine ⟨piece_W (n := 128) (by decide) tW tW_apply arg3 harg3 arg4 harg4 (kOf i) x1 x2 0 2 (k0_off1 i 2#32) (k0_off1_inb i 2) pos1 rfl (off_toNat i 2#32 (by decide)) 0 256 rfl rfl inb_S2112x1024_S128x128_0_256 (by decide) (by decide) _ (by sl_kernel_rfl), ?_⟩
  refine ⟨piece_W (n := 64) (by decide) tW64 tW64_apply arg3 harg3 arg4 harg4 (kOf i) x1 x2 16 1 (k0_off17 i 1#32) (k0_off17_inb i 1) pos1 rfl (off_toNat i 1#32 (by decide)) 2048 128 rfl rfl inb_S2112x1024_S64x128_2048_128 (by decide) (by decide) _ (by sl_kernel_rfl), ?_⟩
  refine ⟨piece_W (n := 128) (by decide) tW tW_apply arg3 harg3 arg4 harg4 (kOf i) x1 x2 15 1 (k0_off16 i 1#32) (k0_off16_inb i 1) pos1 rfl (off_toNat i 1#32 (by decide)) 1920 128 rfl rfl inb_S2112x1024_S128x128_1920_128 (by decide) (by decide) _ (by sl_kernel_rfl), ?_⟩
  refine ⟨piece_W (n := 128) (by decide) tW tW_apply arg3 harg3 arg4 harg4 (kOf i) x1 x2 14 1 (k0_off15 i 1#32) (k0_off15_inb i 1) pos1 rfl (off_toNat i 1#32 (by decide)) 1792 128 rfl rfl inb_S2112x1024_S128x128_1792_128 (by decide) (by decide) _ (by sl_kernel_rfl), ?_⟩
  refine ⟨piece_W (n := 128) (by decide) tW tW_apply arg3 harg3 arg4 harg4 (kOf i) x1 x2 13 1 (k0_off14 i 1#32) (k0_off14_inb i 1) pos1 rfl (off_toNat i 1#32 (by decide)) 1664 128 rfl rfl inb_S2112x1024_S128x128_1664_128 (by decide) (by decide) _ (by sl_kernel_rfl), ?_⟩
  refine ⟨piece_W (n := 128) (by decide) tW tW_apply arg3 harg3 arg4 harg4 (kOf i) x1 x2 12 1 (k0_off13 i 1#32) (k0_off13_inb i 1) pos1 rfl (off_toNat i 1#32 (by decide)) 1536 128 rfl rfl inb_S2112x1024_S128x128_1536_128 (by decide) (by decide) _ (by sl_kernel_rfl), ?_⟩
  refine ⟨piece_W (n := 128) (by decide) tW tW_apply arg3 harg3 arg4 harg4 (kOf i) x1 x2 11 1 (k0_off12 i 1#32) (k0_off12_inb i 1) pos1 rfl (off_toNat i 1#32 (by decide)) 1408 128 rfl rfl inb_S2112x1024_S128x128_1408_128 (by decide) (by decide) _ (by sl_kernel_rfl), ?_⟩
  refine ⟨piece_W (n := 128) (by decide) tW tW_apply arg3 harg3 arg4 harg4 (kOf i) x1 x2 10 1 (k0_off11 i 1#32) (k0_off11_inb i 1) pos1 rfl (off_toNat i 1#32 (by decide)) 1280 128 rfl rfl inb_S2112x1024_S128x128_1280_128 (by decide) (by decide) _ (by sl_kernel_rfl), ?_⟩
  refine ⟨piece_W (n := 128) (by decide) tW tW_apply arg3 harg3 arg4 harg4 (kOf i) x1 x2 9 1 (k0_off10 i 1#32) (k0_off10_inb i 1) pos1 rfl (off_toNat i 1#32 (by decide)) 1152 128 rfl rfl inb_S2112x1024_S128x128_1152_128 (by decide) (by decide) _ (by sl_kernel_rfl), ?_⟩
  refine ⟨piece_W (n := 128) (by decide) tW tW_apply arg3 harg3 arg4 harg4 (kOf i) x1 x2 8 1 (k0_off9 i 1#32) (k0_off9_inb i 1) pos1 rfl (off_toNat i 1#32 (by decide)) 1024 128 rfl rfl inb_S2112x1024_S128x128_1024_128 (by decide) (by decide) _ (by sl_kernel_rfl), ?_⟩
  refine ⟨piece_W (n := 128) (by decide) tW tW_apply arg3 harg3 arg4 harg4 (kOf i) x1 x2 7 1 (k0_off8 i 1#32) (k0_off8_inb i 1) pos1 rfl (off_toNat i 1#32 (by decide)) 896 128 rfl rfl inb_S2112x1024_S128x128_896_128 (by decide) (by decide) _ (by sl_kernel_rfl), ?_⟩
  refine ⟨piece_W (n := 128) (by decide) tW tW_apply arg3 harg3 arg4 harg4 (kOf i) x1 x2 6 1 (k0_off7 i 1#32) (k0_off7_inb i 1) pos1 rfl (off_toNat i 1#32 (by decide)) 768 128 rfl rfl inb_S2112x1024_S128x128_768_128 (by decide) (by decide) _ (by sl_kernel_rfl), ?_⟩
  refine ⟨piece_W (n := 128) (by decide) tW tW_apply arg3 harg3 arg4 harg4 (kOf i) x1 x2 5 1 (k0_off6 i 1#32) (k0_off6_inb i 1) pos1 rfl (off_toNat i 1#32 (by decide)) 640 128 rfl rfl inb_S2112x1024_S128x128_640_128 (by decide) (by decide) _ (by sl_kernel_rfl), ?_⟩
  refine ⟨piece_W (n := 128) (by decide) tW tW_apply arg3 harg3 arg4 harg4 (kOf i) x1 x2 4 1 (k0_off5 i 1#32) (k0_off5_inb i 1) pos1 rfl (off_toNat i 1#32 (by decide)) 512 128 rfl rfl inb_S2112x1024_S128x128_512_128 (by decide) (by decide) _ (by sl_kernel_rfl), ?_⟩
  refine ⟨piece_W (n := 128) (by decide) tW tW_apply arg3 harg3 arg4 harg4 (kOf i) x1 x2 3 1 (k0_off4 i 1#32) (k0_off4_inb i 1) pos1 rfl (off_toNat i 1#32 (by decide)) 384 128 rfl rfl inb_S2112x1024_S128x128_384_128 (by decide) (by decide) _ (by sl_kernel_rfl), ?_⟩
  refine ⟨piece_W (n := 128) (by decide) tW tW_apply arg3 harg3 arg4 harg4 (kOf i) x1 x2 2 1 (k0_off3 i 1#32) (k0_off3_inb i 1) pos1 rfl (off_toNat i 1#32 (by decide)) 256 128 rfl rfl inb_S2112x1024_S128x128_256_128 (by decide) (by decide) _ (by sl_kernel_rfl), ?_⟩
  refine ⟨piece_W (n := 128) (by decide) tW tW_apply arg3 harg3 arg4 harg4 (kOf i) x1 x2 1 1 (k0_off2 i 1#32) (k0_off2_inb i 1) pos1 rfl (off_toNat i 1#32 (by decide)) 128 128 rfl rfl inb_S2112x1024_S128x128_128_128 (by decide) (by decide) _ (by sl_kernel_rfl), ?_⟩
  refine ⟨piece_W (n := 128) (by decide) tW tW_apply arg3 harg3 arg4 harg4 (kOf i) x1 x2 0 1 (k0_off1 i 1#32) (k0_off1_inb i 1) pos1 rfl (off_toNat i 1#32 (by decide)) 0 128 rfl rfl inb_S2112x1024_S128x128_0_128 (by decide) (by decide) _ (by sl_kernel_rfl), ?_⟩
  refine ⟨piece_W (n := 64) (by decide) tW64 tW64_apply arg3 harg3 arg4 harg4 (kOf i) x1 x2 16 0 (k0_off17 i 0#32) (k0_off17_inb i 0) pos1 rfl (off_toNat i 0#32 (by decide)) 2048 0 rfl rfl inb_S2112x1024_S64x128_2048_0 (by decide) (by decide) _ (by sl_kernel_rfl), ?_⟩
  refine ⟨piece_W (n := 128) (by decide) tW tW_apply arg3 harg3 arg4 harg4 (kOf i) x1 x2 15 0 (k0_off16 i 0#32) (k0_off16_inb i 0) pos1 rfl (off_toNat i 0#32 (by decide)) 1920 0 rfl rfl inb_S2112x1024_S128x128_1920_0 (by decide) (by decide) _ (by sl_kernel_rfl), ?_⟩
  refine ⟨piece_W (n := 128) (by decide) tW tW_apply arg3 harg3 arg4 harg4 (kOf i) x1 x2 14 0 (k0_off15 i 0#32) (k0_off15_inb i 0) pos1 rfl (off_toNat i 0#32 (by decide)) 1792 0 rfl rfl inb_S2112x1024_S128x128_1792_0 (by decide) (by decide) _ (by sl_kernel_rfl), ?_⟩
  refine ⟨piece_W (n := 128) (by decide) tW tW_apply arg3 harg3 arg4 harg4 (kOf i) x1 x2 13 0 (k0_off14 i 0#32) (k0_off14_inb i 0) pos1 rfl (off_toNat i 0#32 (by decide)) 1664 0 rfl rfl inb_S2112x1024_S128x128_1664_0 (by decide) (by decide) _ (by sl_kernel_rfl), ?_⟩
  refine ⟨piece_W (n := 128) (by decide) tW tW_apply arg3 harg3 arg4 harg4 (kOf i) x1 x2 12 0 (k0_off13 i 0#32) (k0_off13_inb i 0) pos1 rfl (off_toNat i 0#32 (by decide)) 1536 0 rfl rfl inb_S2112x1024_S128x128_1536_0 (by decide) (by decide) _ (by sl_kernel_rfl), ?_⟩
  refine ⟨piece_W (n := 128) (by decide) tW tW_apply arg3 harg3 arg4 harg4 (kOf i) x1 x2 11 0 (k0_off12 i 0#32) (k0_off12_inb i 0) pos1 rfl (off_toNat i 0#32 (by decide)) 1408 0 rfl rfl inb_S2112x1024_S128x128_1408_0 (by decide) (by decide) _ (by sl_kernel_rfl), ?_⟩
  refine ⟨piece_W (n := 128) (by decide) tW tW_apply arg3 harg3 arg4 harg4 (kOf i) x1 x2 10 0 (k0_off11 i 0#32) (k0_off11_inb i 0) pos1 rfl (off_toNat i 0#32 (by decide)) 1280 0 rfl rfl inb_S2112x1024_S128x128_1280_0 (by decide) (by decide) _ (by sl_kernel_rfl), ?_⟩
  refine ⟨piece_W (n := 128) (by decide) tW tW_apply arg3 harg3 arg4 harg4 (kOf i) x1 x2 9 0 (k0_off10 i 0#32) (k0_off10_inb i 0) pos1 rfl (off_toNat i 0#32 (by decide)) 1152 0 rfl rfl inb_S2112x1024_S128x128_1152_0 (by decide) (by decide) _ (by sl_kernel_rfl), ?_⟩
  refine ⟨piece_W (n := 128) (by decide) tW tW_apply arg3 harg3 arg4 harg4 (kOf i) x1 x2 8 0 (k0_off9 i 0#32) (k0_off9_inb i 0) pos1 rfl (off_toNat i 0#32 (by decide)) 1024 0 rfl rfl inb_S2112x1024_S128x128_1024_0 (by decide) (by decide) _ (by sl_kernel_rfl), ?_⟩
  refine ⟨piece_W (n := 128) (by decide) tW tW_apply arg3 harg3 arg4 harg4 (kOf i) x1 x2 7 0 (k0_off8 i 0#32) (k0_off8_inb i 0) pos1 rfl (off_toNat i 0#32 (by decide)) 896 0 rfl rfl inb_S2112x1024_S128x128_896_0 (by decide) (by decide) _ (by sl_kernel_rfl), ?_⟩
  refine ⟨piece_W (n := 128) (by decide) tW tW_apply arg3 harg3 arg4 harg4 (kOf i) x1 x2 6 0 (k0_off7 i 0#32) (k0_off7_inb i 0) pos1 rfl (off_toNat i 0#32 (by decide)) 768 0 rfl rfl inb_S2112x1024_S128x128_768_0 (by decide) (by decide) _ (by sl_kernel_rfl), ?_⟩
  refine ⟨piece_W (n := 128) (by decide) tW tW_apply arg3 harg3 arg4 harg4 (kOf i) x1 x2 5 0 (k0_off6 i 0#32) (k0_off6_inb i 0) pos1 rfl (off_toNat i 0#32 (by decide)) 640 0 rfl rfl inb_S2112x1024_S128x128_640_0 (by decide) (by decide) _ (by sl_kernel_rfl), ?_⟩
  refine ⟨piece_W (n := 128) (by decide) tW tW_apply arg3 harg3 arg4 harg4 (kOf i) x1 x2 4 0 (k0_off5 i 0#32) (k0_off5_inb i 0) pos1 rfl (off_toNat i 0#32 (by decide)) 512 0 rfl rfl inb_S2112x1024_S128x128_512_0 (by decide) (by decide) _ (by sl_kernel_rfl), ?_⟩
  refine ⟨piece_W (n := 128) (by decide) tW tW_apply arg3 harg3 arg4 harg4 (kOf i) x1 x2 3 0 (k0_off4 i 0#32) (k0_off4_inb i 0) pos1 rfl (off_toNat i 0#32 (by decide)) 384 0 rfl rfl inb_S2112x1024_S128x128_384_0 (by decide) (by decide) _ (by sl_kernel_rfl), ?_⟩
  refine ⟨piece_W (n := 128) (by decide) tW tW_apply arg3 harg3 arg4 harg4 (kOf i) x1 x2 2 0 (k0_off3 i 0#32) (k0_off3_inb i 0) pos1 rfl (off_toNat i 0#32 (by decide)) 256 0 rfl rfl inb_S2112x1024_S128x128_256_0 (by decide) (by decide) _ (by sl_kernel_rfl), ?_⟩
  refine ⟨piece_W (n := 128) (by decide) tW tW_apply arg3 harg3 arg4 harg4 (kOf i) x1 x2 1 0 (k0_off2 i 0#32) (k0_off2_inb i 0) pos1 rfl (off_toNat i 0#32 (by decide)) 128 0 rfl rfl inb_S2112x1024_S128x128_128_0 (by decide) (by decide) _ (by sl_kernel_rfl), ?_⟩
  refine ⟨piece_W (n := 128) (by decide) tW tW_apply arg3 harg3 arg4 harg4 (kOf i) x1 x2 0 0 (k0_off1 i 0#32) (k0_off1_inb i 0) pos1 rfl (off_toNat i 0#32 (by decide)) 0 0 rfl rfl inb_S2112x1024_S128x128_0_0 (by decide) (by decide) _ (by sl_kernel_rfl), ?_⟩
  trivial

end Cert.KernelIdeal.Gen

end
-- ==== Proof.IOut.lean ====
module

public import proofs.«01_k».proof.Proof.IOutA

@[expose] public section

set_option maxRecDepth 16384

noncomputable section

namespace Cert.KernelIdeal.Gen

open Idealize.ShloMosaic Idealize.ShloMosaic.TcCoe Idealize.ShloMosaic.Tactic
open Idealize.ShloMosaic.ValueIdx (ix2 eq_ix2)
open Idealize.SL.RA

variable {F : FTy → Type} [FloatOps F]

/-- What a step adds to: the first product, or the sum with what was there. -/
def accFirst (k : Fin 16) (x0 : Vec F S1024x1024 .bf16) (x1 : Vec F S2112x1024 .fp8e4m3) (x2 : Vec F S17x128 .f32) : Vec F S1024x2112 .f32 :=
  k0_pay3 (byGrp gD x0) (gW k x1 x2)

/-- One later step: the product of the block added to what was there. -/
def accNext (k : Fin 16) (x0 : Vec F S1024x1024 .bf16) (x1 : Vec F S2112x1024 .fp8e4m3) (x2 : Vec F S17x128 .f32) (a : Vec F S1024x2112 .f32) : Vec F S1024x2112 .f32 :=
  k0_pay4 (byGrp gD x0) (gW k x1 x2) a

/-- A load of a whole buffer is what it holds. -/
theorem readAt_all {sp : Space} {sh : Shape} {e : EltTy} (r : Memref sig .tc sp sh e) (hr : r.IsWhole) (X : sh.Idx → Elt F e)
    (off : Fin sh.rank → ℕ) (h : ∀ a, off a + sh.size a ≤ sh.size a) :
    View.readAt (Elt F) r.view (Rect.unit (s := sh) off sh.size h).toLoadRect (hr.unread X) = X := by
  funext z
  rw [Memref.IsWhole.readAt_unread]
  refine congrArg X (funext fun a => Fin.ext ?_)
  have := h a
  show off a + 1 * (z a).val = (z a).val
  omega

/-- One store over a whole buffer, read back. -/
theorem read_one {sp : Space} {sh : Shape} {e : EltTy} (v : View sig .tc sp sh e) (f : v.ty.Contents (Elt F)) (off : Fin sh.rank → ℕ)
    (h : ∀ a, off a + sh.size a ≤ sh.size a) (X : sh.Idx → Elt F e) :
    v.read (Elt F) (v.writes (Elt F) f [⟨Rect.unit (s := sh) off sh.size h, X⟩]) = X := by
  have h0 : ∀ a, off a = 0 := fun a => by have := h a; omega
  have he : ∀ y : sh.Idx, (Rect.unit (s := sh) off sh.size h).emb y = y := fun y => funext fun a => Fin.ext (by
    show off a + 1 * (y a).val = (y a).val
    rw [h0 a]; omega)
  refine read_of_pieces v f _ X (fun y => ⟨_, List.mem_singleton.mpr rfl, ?_⟩) ⟨fun x => by rw [he], trivial⟩
  exact (Rect.unit (s := sh) off sh.size h).mem_set.mpr fun a => ⟨(y a).val, (y a).isLt, by show _ = off a + 1 * _; rw [h0 a]; omega⟩

/-- A load after one store over a whole buffer. -/
theorem readCov_one {sp : Space} {sh : Shape} {e : EltTy} (v : View sig .tc sp sh e) (off : Fin sh.rank → ℕ)
    (h : ∀ a, off a + sh.size a ≤ sh.size a) (X : sh.Idx → Elt F e) (B : LoadRect sh) :
    v.readCov [⟨Rect.unit (s := sh) off sh.size h, X⟩] B = fun j => X (B.idx j) := by
  have h0 : ∀ a, off a = 0 := fun a => by have := h a; omega
  have he : ∀ y : sh.Idx, (Rect.unit (s := sh) off sh.size h).emb y = y := fun y => funext fun a => Fin.ext (by
    show off a + 1 * (y a).val = (y a).val
    rw [h0 a]; omega)
  refine readCov_of_pieces v _ X (fun y => ⟨_, List.mem_singleton.mpr rfl, ?_⟩) ⟨fun x => by rw [he], trivial⟩ B
  exact (Rect.unit (s := sh) off sh.size h).mem_set.mpr fun a => ⟨(y a).val, (y a).isLt, by show _ = off a + 1 * _; rw [h0 a]; omega⟩

/-- A group of 128 columns lies inside the 1536. -/
theorem slice12 (n : Fin 12) : S1024x1536.Slices ![0, 128 * n.val] S1024x128 := by
  revert n; decide

/-- The scales of the sliced groups, side by side. -/
def catScales (v : FVec F S1024x1536 .f32) : FVec F S1024x12 .f32 :=
  concatenate S1024x12 1 (List.ofFn fun n : Fin 12 => (⟨S1024x1, qS (extractStridedSlice S1024x128 ![0, 128 * n.val] v (slice12 n))⟩ : (s : Shape) × (s.Idx → F .f32))) (by simp only [List.map_ofFn, Function.comp_def]; decide)

/-- They are the scales. -/
theorem catScales_eq (v : FVec F S1024x1536 .f32) : catScales v = qScales v := by
  have key : ∀ (g g' : Fin 12 → FVec F S1024x1 .f32) (_ : g = g')
      (h : Shape.Concatenates ((List.ofFn fun n : Fin 12 => (⟨S1024x1, g n⟩ : (s : Shape) × (s.Idx → F .f32))).map (·.1)) S1024x12 1)
      (h' : Shape.Concatenates ((List.ofFn fun n : Fin 12 => (⟨S1024x1, g' n⟩ : (s : Shape) × (s.Idx → F .f32))).map (·.1)) S1024x12 1),
      concatenate S1024x12 1 (List.ofFn fun n : Fin 12 => (⟨S1024x1, g n⟩ : (s : Shape) × (s.Idx → F .f32))) h
        = concatenate S1024x12 1 (List.ofFn fun n : Fin 12 => (⟨S1024x1, g' n⟩ : (s : Shape) × (s.Idx → F .f32))) h' := by
    rintro g g' rfl h h'; rfl
  have hc : Shape.Concatenates ((List.ofFn fun n : Fin 12 => (⟨S1024x1, qS (qgrp v n)⟩ : (s : Shape) × (s.Idx → F .f32))).map (·.1)) S1024x12 1 := by
    simp only [List.map_ofFn, Function.comp_def]; decide
  exact (key _ _ (funext fun n => congrArg qS (slice_q v n _ rfl _)) _ hc).trans (scales_eq v hc)

/-- A load of the whole block of dequantised entries. -/
theorem loadD (c : Dev nD) (arg2 : Memref sig .tc .vmem S1024x1024 .bf16) (harg2 : arg2.IsWhole) (arg13 : Memref sig .tc .vmem S1024x1024 .bf16)
    (x0 : Vec F S1024x1024 .bf16) : kernelRun0_A.sl.v2268 c arg2 harg2 arg13 x0 = byGrp gD x0 := by
  unfold kernelRun0_A.sl.v2268
  rw [readCov_of_pieces _ _ (byGrp gD x0) (View.cover_of_tiledL _ S1024x128.size (by sl_kernel_rfl)) (piecesD c arg2 harg2 x0)]
  funext j
  refine congrArg (byGrp gD x0) (funext fun a => Fin.ext ?_)
  match a with
  | ⟨0, _⟩ => show 0 + 1 * (j 0).val = (j 0).val; omega
  | ⟨1, _⟩ => show 0 + 1 * (j 1).val = (j 1).val; omega

/-- A load of the whole block of dequantised weights. -/
theorem loadW (c : Dev nD) (i : grid0.Coords) (arg3 : Memref sig .tc .vmem S2112x1024 .fp8e4m3) (harg3 : arg3.IsWhole) (arg4 : Memref sig .tc .smem S17x128 .f32) (harg4 : arg4.IsWhole)
    (arg14 : Memref sig .tc .vmem S2112x1024 .bf16) (x1 : Vec F S2112x1024 .fp8e4m3) (x2 : Vec F S17x128 .f32) :
    kernelRun0_A.sl.v2269 c i arg3 harg3 arg4 harg4 arg14 x1 x2 = gW (kOf i) x1 x2 := by
  unfold kernelRun0_A.sl.v2269
  rw [readCov_of_pieces _ _ (gW (kOf i) x1 x2) (View.cover_of_tiledBy _ S64x128.size (by sl_kernel_rfl)) (piecesW c i arg3 harg3 arg4 harg4 x1 x2)]
  funext j
  refine congrArg (gW (kOf i) x1 x2) (funext fun a => Fin.ext ?_)
  match a with
  | ⟨0, _⟩ => show 0 + 1 * (j 0).val = (j 0).val; omega
  | ⟨1, _⟩ => show 0 + 1 * (j 1).val = (j 1).val; omega

/-- The codes of the block: what case A leaves in their window. -/
theorem lo9_A (c : Dev nD) (i : grid0.Coords) (arg2 : Memref sig .tc .vmem S1024x1024 .bf16) (harg2 : arg2.IsWhole) (arg3 : Memref sig .tc .vmem S2112x1024 .fp8e4m3) (harg3 : arg3.IsWhole) (arg4 : Memref sig .tc .smem S17x128 .f32) (harg4 : arg4.IsWhole) (arg5 : Memref sig .tc .vmem S1x1536 .bf16) (harg5 : arg5.IsWhole) (arg6 : Memref sig .tc .vmem S1x512 .bf16) (harg6 : arg6.IsWhole) (arg7 : Memref sig .tc .vmem S1024x1536 .fp8e4m3) (harg7 : arg7.IsWhole) (arg8 : Memref sig .tc .vmem S1024x12 .f32) (harg8 : arg8.IsWhole) (arg9 : Memref sig .tc .vmem S1024x512 .bf16) (harg9 : arg9.IsWhole) (arg10 : Memref sig .tc .vmem S1024x64 .bf16) (harg10 : arg10.IsWhole) (arg11 : Memref sig .tc .vmem S1024x1024 .fp8e4m3) (harg11 : arg11.IsWhole) (arg12 : Memref sig .tc .vmem S1024x128 .f32) (harg12 : arg12.IsWhole) (arg13 : Memref sig .tc .vmem S1024x1024 .bf16) (harg13 : arg13.IsWhole) (arg14 : Memref sig .tc .vmem S2112x1024 .bf16) (harg14 : arg14.IsWhole) (arg15 : Memref sig .tc .vmem S1024x2112 .f32) (harg15 : arg15.IsWhole) (hc0 : cond0_0 i) (hc1 : ¬cond0_1 i) (hc2 : ¬cond0_2 i) (x0 : Vec F S1024x1024 .bf16) (x1 : Vec F S2112x1024 .fp8e4m3) (x2 : Vec F S17x128 .f32) (x3 : Vec F S1x1536 .bf16) (x4 : Vec F S1x512 .bf16) (x10 : Vec F S1024x128 .f32) (f) :
    arg11.view.read (Elt F) (arg11.view.writes (Elt F) f (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x10).1) = byGrp gC x0 := by
  refine read_of_pieces _ f (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x10).1 (byGrp gC x0) (View.cover_of_tiledL _ S1024x128.size (by sl_kernel_rfl)) ?_
  refine ⟨piece_grp (e := .fp8e4m3) gC x0 7 896 rfl inb_S1024x1024_S1024x128_0_896 _ (Eq.trans (b := gC (ldG arg2 harg2 x0 896 inb_S1024x1024_S1024x128_0_896)) (by sl_kernel_rfl) (congrArg gC (readAt_grp arg2 harg2 x0 7 896 rfl inb_S1024x1024_S1024x128_0_896))), ?_⟩
  refine ⟨piece_grp (e := .fp8e4m3) gC x0 6 768 rfl inb_S1024x1024_S1024x128_0_768 _ (Eq.trans (b := gC (ldG arg2 harg2 x0 768 inb_S1024x1024_S1024x128_0_768)) (by sl_kernel_rfl) (congrArg gC (readAt_grp arg2 harg2 x0 6 768 rfl inb_S1024x1024_S1024x128_0_768))), ?_⟩
  refine ⟨piece_grp (e := .fp8e4m3) gC x0 5 640 rfl inb_S1024x1024_S1024x128_0_640 _ (Eq.trans (b := gC (ldG arg2 harg2 x0 640 inb_S1024x1024_S1024x128_0_640)) (by sl_kernel_rfl) (congrArg gC (readAt_grp arg2 harg2 x0 5 640 rfl inb_S1024x1024_S1024x128_0_640))), ?_⟩
  refine ⟨piece_grp (e := .fp8e4m3) gC x0 4 512 rfl inb_S1024x1024_S1024x128_0_512 _ (Eq.trans (b := gC (ldG arg2 harg2 x0 512 inb_S1024x1024_S1024x128_0_512)) (by sl_kernel_rfl) (congrArg gC (readAt_grp arg2 harg2 x0 4 512 rfl inb_S1024x1024_S1024x128_0_512))), ?_⟩
  refine ⟨piece_grp (e := .fp8e4m3) gC x0 3 384 rfl inb_S1024x1024_S1024x128_0_384 _ (Eq.trans (b := gC (ldG arg2 harg2 x0 384 inb_S1024x1024_S1024x128_0_384)) (by sl_kernel_rfl) (congrArg gC (readAt_grp arg2 harg2 x0 3 384 rfl inb_S1024x1024_S1024x128_0_384))), ?_⟩
  refine ⟨piece_grp (e := .fp8e4m3) gC x0 2 256 rfl inb_S1024x1024_S1024x128_0_256 _ (Eq.trans (b := gC (ldG arg2 harg2 x0 256 inb_S1024x1024_S1024x128_0_256)) (by sl_kernel_rfl) (congrArg gC (readAt_grp arg2 harg2 x0 2 256 rfl inb_S1024x1024_S1024x128_0_256))), ?_⟩
  refine ⟨piece_grp (e := .fp8e4m3) gC x0 1 128 rfl inb_S1024x1024_S1024x128_0_128 _ (Eq.trans (b := gC (ldG arg2 harg2 x0 128 inb_S1024x1024_S1024x128_0_128)) (by sl_kernel_rfl) (congrArg gC (readAt_grp arg2 harg2 x0 1 128 rfl inb_S1024x1024_S1024x128_0_128))), ?_⟩
  refine ⟨piece_grp (e := .fp8e4m3) gC x0 0 0 rfl inb_S1024x1024_S1024x128_0_0 _ (Eq.trans (b := gC (ldG arg2 harg2 x0 0 inb_S1024x1024_S1024x128_0_0)) (by sl_kernel_rfl) (congrArg gC (readAt_grp arg2 harg2 x0 0 0 rfl inb_S1024x1024_S1024x128_0_0))), ?_⟩
  trivial

/-- The scales of the block: what case A leaves in their window. -/
theorem lo10_A (c : Dev nD) (i : grid0.Coords) (arg2 : Memref sig .tc .vmem S1024x1024 .bf16) (harg2 : arg2.IsWhole) (arg3 : Memref sig .tc .vmem S2112x1024 .fp8e4m3) (harg3 : arg3.IsWhole) (arg4 : Memref sig .tc .smem S17x128 .f32) (harg4 : arg4.IsWhole) (arg5 : Memref sig .tc .vmem S1x1536 .bf16) (harg5 : arg5.IsWhole) (arg6 : Memref sig .tc .vmem S1x512 .bf16) (harg6 : arg6.IsWhole) (arg7 : Memref sig .tc .vmem S1024x1536 .fp8e4m3) (harg7 : arg7.IsWhole) (arg8 : Memref sig .tc .vmem S1024x12 .f32) (harg8 : arg8.IsWhole) (arg9 : Memref sig .tc .vmem S1024x512 .bf16) (harg9 : arg9.IsWhole) (arg10 : Memref sig .tc .vmem S1024x64 .bf16) (harg10 : arg10.IsWhole) (arg11 : Memref sig .tc .vmem S1024x1024 .fp8e4m3) (harg11 : arg11.IsWhole) (arg12 : Memref sig .tc .vmem S1024x128 .f32) (harg12 : arg12.IsWhole) (arg13 : Memref sig .tc .vmem S1024x1024 .bf16) (harg13 : arg13.IsWhole) (arg14 : Memref sig .tc .vmem S2112x1024 .bf16) (harg14 : arg14.IsWhole) (arg15 : Memref sig .tc .vmem S1024x2112 .f32) (harg15 : arg15.IsWhole) (hc0 : cond0_0 i) (hc1 : ¬cond0_1 i) (hc2 : ¬cond0_2 i) (x0 : Vec F S1024x1024 .bf16) (x1 : Vec F S2112x1024 .fp8e4m3) (x2 : Vec F S17x128 .f32) (x3 : Vec F S1x1536 .bf16) (x4 : Vec F S1x512 .bf16) (x10 : Vec F S1024x128 .f32) (f) :
    arg12.view.read (Elt F) (arg12.view.writes (Elt F) f (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x10).2.1) = gX (kOf i) x0 x10 := by
  refine Eq.trans ?_ (xChain_eq i x0 x10)
  have h0 : (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x10).2.1 = [⟨Rect.unit (s := S1024x128) ![0, 0] S1024x128.size inb_S1024x128_S1024x128_0_0, kernelRun0_A.sl.r_183 c i arg2 harg2 arg12 harg12 x0 x10⟩] := by sl_kernel_rfl
  refine (congrArg (fun L => arg12.view.read (Elt F) (arg12.view.writes (Elt F) f L)) h0).trans ?_
  refine (read_one arg12.view f ![0, 0] inb_S1024x128_S1024x128_0_0 (kernelRun0_A.sl.r_183 c i arg2 harg2 arg12 harg12 x0 x10)).trans ?_
  have h : kernelRun0_A.sl.r_183 c i arg2 harg2 arg12 harg12 x0 x10
      = xStep i 7#32 (gS (ldG arg2 harg2 x0 896 inb_S1024x1024_S1024x128_0_896)) (xStep i 6#32 (gS (ldG arg2 harg2 x0 768 inb_S1024x1024_S1024x128_0_768)) (xStep i 5#32 (gS (ldG arg2 harg2 x0 640 inb_S1024x1024_S1024x128_0_640)) (xStep i 4#32 (gS (ldG arg2 harg2 x0 512 inb_S1024x1024_S1024x128_0_512)) (xStep i 3#32 (gS (ldG arg2 harg2 x0 384 inb_S1024x1024_S1024x128_0_384)) (xStep i 2#32 (gS (ldG arg2 harg2 x0 256 inb_S1024x1024_S1024x128_0_256)) (xStep i 1#32 (gS (ldG arg2 harg2 x0 128 inb_S1024x1024_S1024x128_0_128)) (xStep i 0#32 (gS (ldG arg2 harg2 x0 0 inb_S1024x1024_S1024x128_0_0)) (shapeCast S1024x128 (View.readAt (Elt F) arg12.view (Rect.unit (s := S1024x128) ![0, 0] S1024x128.size inb_S1024x128_S1024x128_0_0).toLoadRect (harg12.unread x10)) shapeCasts_S1024x128_S1024x128)))))))) := by
    sl_kernel_rfl
  have e0 : shapeCast S1024x128 (View.readAt (Elt F) arg12.view (Rect.unit (s := S1024x128) ![0, 0] S1024x128.size inb_S1024x128_S1024x128_0_0).toLoadRect (harg12.unread x10)) shapeCasts_S1024x128_S1024x128 = x10 :=
    (shapeCast_self _ _).trans (readAt_all arg12 harg12 x10 _ _)
  refine h.trans ?_
  rw [e0]
  unfold xChain ldG
  rw [readAt_grp arg2 harg2 x0 0 0 rfl, readAt_grp arg2 harg2 x0 1 128 rfl, readAt_grp arg2 harg2 x0 2 256 rfl, readAt_grp arg2 harg2 x0 3 384 rfl, readAt_grp arg2 harg2 x0 4 512 rfl, readAt_grp arg2 harg2 x0 5 640 rfl, readAt_grp arg2 harg2 x0 6 768 rfl, readAt_grp arg2 harg2 x0 7 896 rfl]

/-- The accumulated product that case A leaves. -/
theorem ls2_A (c : Dev nD) (i : grid0.Coords) (arg2 : Memref sig .tc .vmem S1024x1024 .bf16) (harg2 : arg2.IsWhole) (arg3 : Memref sig .tc .vmem S2112x1024 .fp8e4m3) (harg3 : arg3.IsWhole) (arg4 : Memref sig .tc .smem S17x128 .f32) (harg4 : arg4.IsWhole) (arg5 : Memref sig .tc .vmem S1x1536 .bf16) (harg5 : arg5.IsWhole) (arg6 : Memref sig .tc .vmem S1x512 .bf16) (harg6 : arg6.IsWhole) (arg7 : Memref sig .tc .vmem S1024x1536 .fp8e4m3) (harg7 : arg7.IsWhole) (arg8 : Memref sig .tc .vmem S1024x12 .f32) (harg8 : arg8.IsWhole) (arg9 : Memref sig .tc .vmem S1024x512 .bf16) (harg9 : arg9.IsWhole) (arg10 : Memref sig .tc .vmem S1024x64 .bf16) (harg10 : arg10.IsWhole) (arg11 : Memref sig .tc .vmem S1024x1024 .fp8e4m3) (harg11 : arg11.IsWhole) (arg12 : Memref sig .tc .vmem S1024x128 .f32) (harg12 : arg12.IsWhole) (arg13 : Memref sig .tc .vmem S1024x1024 .bf16) (harg13 : arg13.IsWhole) (arg14 : Memref sig .tc .vmem S2112x1024 .bf16) (harg14 : arg14.IsWhole) (arg15 : Memref sig .tc .vmem S1024x2112 .f32) (harg15 : arg15.IsWhole) (hc0 : cond0_0 i) (hc1 : ¬cond0_1 i) (hc2 : ¬cond0_2 i) (x0 : Vec F S1024x1024 .bf16) (x1 : Vec F S2112x1024 .fp8e4m3) (x2 : Vec F S17x128 .f32) (x3 : Vec F S1x1536 .bf16) (x4 : Vec F S1x512 .bf16) (x10 : Vec F S1024x128 .f32) (f) :
    arg15.view.read (Elt F) (arg15.view.writes (Elt F) f (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x10).2.2.1) = accFirst (kOf i) x0 x1 x2 := by
  have h0 : (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x10).2.2.1 = [⟨Rect.unit (s := S1024x2112) ![0, 0] S1024x2112.size inb_S1024x2112_S1024x2112_0_0, (k0_pay3 (kernelRun0_A.sl.v2268 c arg2 harg2 arg13 x0) (kernelRun0_A.sl.v2269 c i arg3 harg3 arg4 harg4 arg14 x1 x2))⟩] := by sl_kernel_rfl
  refine (congrArg (fun L => arg15.view.read (Elt F) (arg15.view.writes (Elt F) f L)) h0).trans ?_
  refine (read_one arg15.view f ![0, 0] inb_S1024x2112_S1024x2112_0_0 _).trans ?_
  rw [loadD, loadW]
  rfl

/-- The codes of the block: what case B leaves in their window. -/
theorem lo9_B (c : Dev nD) (i : grid0.Coords) (arg2 : Memref sig .tc .vmem S1024x1024 .bf16) (harg2 : arg2.IsWhole) (arg3 : Memref sig .tc .vmem S2112x1024 .fp8e4m3) (harg3 : arg3.IsWhole) (arg4 : Memref sig .tc .smem S17x128 .f32) (harg4 : arg4.IsWhole) (arg5 : Memref sig .tc .vmem S1x1536 .bf16) (harg5 : arg5.IsWhole) (arg6 : Memref sig .tc .vmem S1x512 .bf16) (harg6 : arg6.IsWhole) (arg7 : Memref sig .tc .vmem S1024x1536 .fp8e4m3) (harg7 : arg7.IsWhole) (arg8 : Memref sig .tc .vmem S1024x12 .f32) (harg8 : arg8.IsWhole) (arg9 : Memref sig .tc .vmem S1024x512 .bf16) (harg9 : arg9.IsWhole) (arg10 : Memref sig .tc .vmem S1024x64 .bf16) (harg10 : arg10.IsWhole) (arg11 : Memref sig .tc .vmem S1024x1024 .fp8e4m3) (harg11 : arg11.IsWhole) (arg12 : Memref sig .tc .vmem S1024x128 .f32) (harg12 : arg12.IsWhole) (arg13 : Memref sig .tc .vmem S1024x1024 .bf16) (harg13 : arg13.IsWhole) (arg14 : Memref sig .tc .vmem S2112x1024 .bf16) (harg14 : arg14.IsWhole) (arg15 : Memref sig .tc .vmem S1024x2112 .f32) (harg15 : arg15.IsWhole) (hc0 : ¬cond0_0 i) (hc1 : cond0_1 i) (hc2 : ¬cond0_2 i) (x0 : Vec F S1024x1024 .bf16) (x1 : Vec F S2112x1024 .fp8e4m3) (x2 : Vec F S17x128 .f32) (x3 : Vec F S1x1536 .bf16) (x4 : Vec F S1x512 .bf16) (x10 : Vec F S1024x128 .f32) (xs2 : Vec F S1024x2112 .f32) (f) :
    arg11.view.read (Elt F) (arg11.view.writes (Elt F) f (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x10 xs2).1) = byGrp gC x0 := by
  refine read_of_pieces _ f (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x10 xs2).1 (byGrp gC x0) (View.cover_of_tiledL _ S1024x128.size (by sl_kernel_rfl)) ?_
  refine ⟨piece_grp (e := .fp8e4m3) gC x0 7 896 rfl inb_S1024x1024_S1024x128_0_896 _ (Eq.trans (b := gC (ldG arg2 harg2 x0 896 inb_S1024x1024_S1024x128_0_896)) (by sl_kernel_rfl) (congrArg gC (readAt_grp arg2 harg2 x0 7 896 rfl inb_S1024x1024_S1024x128_0_896))), ?_⟩
  refine ⟨piece_grp (e := .fp8e4m3) gC x0 6 768 rfl inb_S1024x1024_S1024x128_0_768 _ (Eq.trans (b := gC (ldG arg2 harg2 x0 768 inb_S1024x1024_S1024x128_0_768)) (by sl_kernel_rfl) (congrArg gC (readAt_grp arg2 harg2 x0 6 768 rfl inb_S1024x1024_S1024x128_0_768))), ?_⟩
  refine ⟨piece_grp (e := .fp8e4m3) gC x0 5 640 rfl inb_S1024x1024_S1024x128_0_640 _ (Eq.trans (b := gC (ldG arg2 harg2 x0 640 inb_S1024x1024_S1024x128_0_640)) (by sl_kernel_rfl) (congrArg gC (readAt_grp arg2 harg2 x0 5 640 rfl inb_S1024x1024_S1024x128_0_640))), ?_⟩
  refine ⟨piece_grp (e := .fp8e4m3) gC x0 4 512 rfl inb_S1024x1024_S1024x128_0_512 _ (Eq.trans (b := gC (ldG arg2 harg2 x0 512 inb_S1024x1024_S1024x128_0_512)) (by sl_kernel_rfl) (congrArg gC (readAt_grp arg2 harg2 x0 4 512 rfl inb_S1024x1024_S1024x128_0_512))), ?_⟩
  refine ⟨piece_grp (e := .fp8e4m3) gC x0 3 384 rfl inb_S1024x1024_S1024x128_0_384 _ (Eq.trans (b := gC (ldG arg2 harg2 x0 384 inb_S1024x1024_S1024x128_0_384)) (by sl_kernel_rfl) (congrArg gC (readAt_grp arg2 harg2 x0 3 384 rfl inb_S1024x1024_S1024x128_0_384))), ?_⟩
  refine ⟨piece_grp (e := .fp8e4m3) gC x0 2 256 rfl inb_S1024x1024_S1024x128_0_256 _ (Eq.trans (b := gC (ldG arg2 harg2 x0 256 inb_S1024x1024_S1024x128_0_256)) (by sl_kernel_rfl) (congrArg gC (readAt_grp arg2 harg2 x0 2 256 rfl inb_S1024x1024_S1024x128_0_256))), ?_⟩
  refine ⟨piece_grp (e := .fp8e4m3) gC x0 1 128 rfl inb_S1024x1024_S1024x128_0_128 _ (Eq.trans (b := gC (ldG arg2 harg2 x0 128 inb_S1024x1024_S1024x128_0_128)) (by sl_kernel_rfl) (congrArg gC (readAt_grp arg2 harg2 x0 1 128 rfl inb_S1024x1024_S1024x128_0_128))), ?_⟩
  refine ⟨piece_grp (e := .fp8e4m3) gC x0 0 0 rfl inb_S1024x1024_S1024x128_0_0 _ (Eq.trans (b := gC (ldG arg2 harg2 x0 0 inb_S1024x1024_S1024x128_0_0)) (by sl_kernel_rfl) (congrArg gC (readAt_grp arg2 harg2 x0 0 0 rfl inb_S1024x1024_S1024x128_0_0))), ?_⟩
  trivial

/-- The scales of the block: what case B leaves in their window. -/
theorem lo10_B (c : Dev nD) (i : grid0.Coords) (arg2 : Memref sig .tc .vmem S1024x1024 .bf16) (harg2 : arg2.IsWhole) (arg3 : Memref sig .tc .vmem S2112x1024 .fp8e4m3) (harg3 : arg3.IsWhole) (arg4 : Memref sig .tc .smem S17x128 .f32) (harg4 : arg4.IsWhole) (arg5 : Memref sig .tc .vmem S1x1536 .bf16) (harg5 : arg5.IsWhole) (arg6 : Memref sig .tc .vmem S1x512 .bf16) (harg6 : arg6.IsWhole) (arg7 : Memref sig .tc .vmem S1024x1536 .fp8e4m3) (harg7 : arg7.IsWhole) (arg8 : Memref sig .tc .vmem S1024x12 .f32) (harg8 : arg8.IsWhole) (arg9 : Memref sig .tc .vmem S1024x512 .bf16) (harg9 : arg9.IsWhole) (arg10 : Memref sig .tc .vmem S1024x64 .bf16) (harg10 : arg10.IsWhole) (arg11 : Memref sig .tc .vmem S1024x1024 .fp8e4m3) (harg11 : arg11.IsWhole) (arg12 : Memref sig .tc .vmem S1024x128 .f32) (harg12 : arg12.IsWhole) (arg13 : Memref sig .tc .vmem S1024x1024 .bf16) (harg13 : arg13.IsWhole) (arg14 : Memref sig .tc .vmem S2112x1024 .bf16) (harg14 : arg14.IsWhole) (arg15 : Memref sig .tc .vmem S1024x2112 .f32) (harg15 : arg15.IsWhole) (hc0 : ¬cond0_0 i) (hc1 : cond0_1 i) (hc2 : ¬cond0_2 i) (x0 : Vec F S1024x1024 .bf16) (x1 : Vec F S2112x1024 .fp8e4m3) (x2 : Vec F S17x128 .f32) (x3 : Vec F S1x1536 .bf16) (x4 : Vec F S1x512 .bf16) (x10 : Vec F S1024x128 .f32) (xs2 : Vec F S1024x2112 .f32) (f) :
    arg12.view.read (Elt F) (arg12.view.writes (Elt F) f (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x10 xs2).2.1) = gX (kOf i) x0 x10 := by
  refine Eq.trans ?_ (xChain_eq i x0 x10)
  have h0 : (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x10 xs2).2.1 = [⟨Rect.unit (s := S1024x128) ![0, 0] S1024x128.size inb_S1024x128_S1024x128_0_0, kernelRun0_B.sl.r_183 c i arg2 harg2 arg12 harg12 x0 x10⟩] := by sl_kernel_rfl
  refine (congrArg (fun L => arg12.view.read (Elt F) (arg12.view.writes (Elt F) f L)) h0).trans ?_
  refine (read_one arg12.view f ![0, 0] inb_S1024x128_S1024x128_0_0 (kernelRun0_B.sl.r_183 c i arg2 harg2 arg12 harg12 x0 x10)).trans ?_
  have h : kernelRun0_B.sl.r_183 c i arg2 harg2 arg12 harg12 x0 x10
      = xStep i 7#32 (gS (ldG arg2 harg2 x0 896 inb_S1024x1024_S1024x128_0_896)) (xStep i 6#32 (gS (ldG arg2 harg2 x0 768 inb_S1024x1024_S1024x128_0_768)) (xStep i 5#32 (gS (ldG arg2 harg2 x0 640 inb_S1024x1024_S1024x128_0_640)) (xStep i 4#32 (gS (ldG arg2 harg2 x0 512 inb_S1024x1024_S1024x128_0_512)) (xStep i 3#32 (gS (ldG arg2 harg2 x0 384 inb_S1024x1024_S1024x128_0_384)) (xStep i 2#32 (gS (ldG arg2 harg2 x0 256 inb_S1024x1024_S1024x128_0_256)) (xStep i 1#32 (gS (ldG arg2 harg2 x0 128 inb_S1024x1024_S1024x128_0_128)) (xStep i 0#32 (gS (ldG arg2 harg2 x0 0 inb_S1024x1024_S1024x128_0_0)) (shapeCast S1024x128 (View.readAt (Elt F) arg12.view (Rect.unit (s := S1024x128) ![0, 0] S1024x128.size inb_S1024x128_S1024x128_0_0).toLoadRect (harg12.unread x10)) shapeCasts_S1024x128_S1024x128)))))))) := by
    sl_kernel_rfl
  have e0 : shapeCast S1024x128 (View.readAt (Elt F) arg12.view (Rect.unit (s := S1024x128) ![0, 0] S1024x128.size inb_S1024x128_S1024x128_0_0).toLoadRect (harg12.unread x10)) shapeCasts_S1024x128_S1024x128 = x10 :=
    (shapeCast_self _ _).trans (readAt_all arg12 harg12 x10 _ _)
  refine h.trans ?_
  rw [e0]
  unfold xChain ldG
  rw [readAt_grp arg2 harg2 x0 0 0 rfl, readAt_grp arg2 harg2 x0 1 128 rfl, readAt_grp arg2 harg2 x0 2 256 rfl, readAt_grp arg2 harg2 x0 3 384 rfl, readAt_grp arg2 harg2 x0 4 512 rfl, readAt_grp arg2 harg2 x0 5 640 rfl, readAt_grp arg2 harg2 x0 6 768 rfl, readAt_grp arg2 harg2 x0 7 896 rfl]

/-- The accumulated product that case B leaves. -/
theorem ls2_B (c : Dev nD) (i : grid0.Coords) (arg2 : Memref sig .tc .vmem S1024x1024 .bf16) (harg2 : arg2.IsWhole) (arg3 : Memref sig .tc .vmem S2112x1024 .fp8e4m3) (harg3 : arg3.IsWhole) (arg4 : Memref sig .tc .smem S17x128 .f32) (harg4 : arg4.IsWhole) (arg5 : Memref sig .tc .vmem S1x1536 .bf16) (harg5 : arg5.IsWhole) (arg6 : Memref sig .tc .vmem S1x512 .bf16) (harg6 : arg6.IsWhole) (arg7 : Memref sig .tc .vmem S1024x1536 .fp8e4m3) (harg7 : arg7.IsWhole) (arg8 : Memref sig .tc .vmem S1024x12 .f32) (harg8 : arg8.IsWhole) (arg9 : Memref sig .tc .vmem S1024x512 .bf16) (harg9 : arg9.IsWhole) (arg10 : Memref sig .tc .vmem S1024x64 .bf16) (harg10 : arg10.IsWhole) (arg11 : Memref sig .tc .vmem S1024x1024 .fp8e4m3) (harg11 : arg11.IsWhole) (arg12 : Memref sig .tc .vmem S1024x128 .f32) (harg12 : arg12.IsWhole) (arg13 : Memref sig .tc .vmem S1024x1024 .bf16) (harg13 : arg13.IsWhole) (arg14 : Memref sig .tc .vmem S2112x1024 .bf16) (harg14 : arg14.IsWhole) (arg15 : Memref sig .tc .vmem S1024x2112 .f32) (harg15 : arg15.IsWhole) (hc0 : ¬cond0_0 i) (hc1 : cond0_1 i) (hc2 : ¬cond0_2 i) (x0 : Vec F S1024x1024 .bf16) (x1 : Vec F S2112x1024 .fp8e4m3) (x2 : Vec F S17x128 .f32) (x3 : Vec F S1x1536 .bf16) (x4 : Vec F S1x512 .bf16) (x10 : Vec F S1024x128 .f32) (xs2 : Vec F S1024x2112 .f32) (f) :
    arg15.view.read (Elt F) (arg15.view.writes (Elt F) f (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x10 xs2).2.2.1) = accNext (kOf i) x0 x1 x2 xs2 := by
  have h0 : (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x10 xs2).2.2.1 = [⟨Rect.unit (s := S1024x2112) ![0, 0] S1024x2112.size inb_S1024x2112_S1024x2112_0_0, (k0_pay4 (kernelRun0_B.sl.v2268 c arg2 harg2 arg13 x0) (kernelRun0_B.sl.v2269 c i arg3 harg3 arg4 harg4 arg14 x1 x2)
    (View.readAt (Elt F) arg15.view (Rect.unit (s := S1024x2112) ![0, 0] S1024x2112.size inb_S1024x2112_S1024x2112_0_0).toLoadRect (harg15.unread xs2)))⟩] := by sl_kernel_rfl
  refine (congrArg (fun L => arg15.view.read (Elt F) (arg15.view.writes (Elt F) f L)) h0).trans ?_
  refine (read_one arg15.view f ![0, 0] inb_S1024x2112_S1024x2112_0_0 _).trans ?_
  have e1 : kernelRun0_B.sl.v2268 c arg2 harg2 arg13 x0 = kernelRun0_A.sl.v2268 c arg2 harg2 arg13 x0 := by sl_kernel_rfl
  have e2 : kernelRun0_B.sl.v2269 c i arg3 harg3 arg4 harg4 arg14 x1 x2 = kernelRun0_A.sl.v2269 c i arg3 harg3 arg4 harg4 arg14 x1 x2 := by sl_kernel_rfl
  rw [e1, e2, loadD, loadW, readAt_all arg15 harg15 xs2]
  rfl

/-- The codes of the block: what case C leaves in their window. -/
theorem lo9_C (c : Dev nD) (i : grid0.Coords) (arg2 : Memref sig .tc .vmem S1024x1024 .bf16) (harg2 : arg2.IsWhole) (arg3 : Memref sig .tc .vmem S2112x1024 .fp8e4m3) (harg3 : arg3.IsWhole) (arg4 : Memref sig .tc .smem S17x128 .f32) (harg4 : arg4.IsWhole) (arg5 : Memref sig .tc .vmem S1x1536 .bf16) (harg5 : arg5.IsWhole) (arg6 : Memref sig .tc .vmem S1x512 .bf16) (harg6 : arg6.IsWhole) (arg7 : Memref sig .tc .vmem S1024x1536 .fp8e4m3) (harg7 : arg7.IsWhole) (arg8 : Memref sig .tc .vmem S1024x12 .f32) (harg8 : arg8.IsWhole) (arg9 : Memref sig .tc .vmem S1024x512 .bf16) (harg9 : arg9.IsWhole) (arg10 : Memref sig .tc .vmem S1024x64 .bf16) (harg10 : arg10.IsWhole) (arg11 : Memref sig .tc .vmem S1024x1024 .fp8e4m3) (harg11 : arg11.IsWhole) (arg12 : Memref sig .tc .vmem S1024x128 .f32) (harg12 : arg12.IsWhole) (arg13 : Memref sig .tc .vmem S1024x1024 .bf16) (harg13 : arg13.IsWhole) (arg14 : Memref sig .tc .vmem S2112x1024 .bf16) (harg14 : arg14.IsWhole) (arg15 : Memref sig .tc .vmem S1024x2112 .f32) (harg15 : arg15.IsWhole) (hc0 : ¬cond0_0 i) (hc1 : cond0_1 i) (hc2 : cond0_2 i) (x0 : Vec F S1024x1024 .bf16) (x1 : Vec F S2112x1024 .fp8e4m3) (x2 : Vec F S17x128 .f32) (x3 : Vec F S1x1536 .bf16) (x4 : Vec F S1x512 .bf16) (x10 : Vec F S1024x128 .f32) (xs2 : Vec F S1024x2112 .f32) (f) :
    arg11.view.read (Elt F) (arg11.view.writes (Elt F) f (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x10 xs2).2.2.2.2.1) = byGrp gC x0 := by
  refine read_of_pieces _ f (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x10 xs2).2.2.2.2.1 (byGrp gC x0) (View.cover_of_tiledL _ S1024x128.size (by sl_kernel_rfl)) ?_
  refine ⟨piece_grp (e := .fp8e4m3) gC x0 7 896 rfl inb_S1024x1024_S1024x128_0_896 _ (Eq.trans (b := gC (ldG arg2 harg2 x0 896 inb_S1024x1024_S1024x128_0_896)) (by sl_kernel_rfl) (congrArg gC (readAt_grp arg2 harg2 x0 7 896 rfl inb_S1024x1024_S1024x128_0_896))), ?_⟩
  refine ⟨piece_grp (e := .fp8e4m3) gC x0 6 768 rfl inb_S1024x1024_S1024x128_0_768 _ (Eq.trans (b := gC (ldG arg2 harg2 x0 768 inb_S1024x1024_S1024x128_0_768)) (by sl_kernel_rfl) (congrArg gC (readAt_grp arg2 harg2 x0 6 768 rfl inb_S1024x1024_S1024x128_0_768))), ?_⟩
  refine ⟨piece_grp (e := .fp8e4m3) gC x0 5 640 rfl inb_S1024x1024_S1024x128_0_640 _ (Eq.trans (b := gC (ldG arg2 harg2 x0 640 inb_S1024x1024_S1024x128_0_640)) (by sl_kernel_rfl) (congrArg gC (readAt_grp arg2 harg2 x0 5 640 rfl inb_S1024x1024_S1024x128_0_640))), ?_⟩
  refine ⟨piece_grp (e := .fp8e4m3) gC x0 4 512 rfl inb_S1024x1024_S1024x128_0_512 _ (Eq.trans (b := gC (ldG arg2 harg2 x0 512 inb_S1024x1024_S1024x128_0_512)) (by sl_kernel_rfl) (congrArg gC (readAt_grp arg2 harg2 x0 4 512 rfl inb_S1024x1024_S1024x128_0_512))), ?_⟩
  refine ⟨piece_grp (e := .fp8e4m3) gC x0 3 384 rfl inb_S1024x1024_S1024x128_0_384 _ (Eq.trans (b := gC (ldG arg2 harg2 x0 384 inb_S1024x1024_S1024x128_0_384)) (by sl_kernel_rfl) (congrArg gC (readAt_grp arg2 harg2 x0 3 384 rfl inb_S1024x1024_S1024x128_0_384))), ?_⟩
  refine ⟨piece_grp (e := .fp8e4m3) gC x0 2 256 rfl inb_S1024x1024_S1024x128_0_256 _ (Eq.trans (b := gC (ldG arg2 harg2 x0 256 inb_S1024x1024_S1024x128_0_256)) (by sl_kernel_rfl) (congrArg gC (readAt_grp arg2 harg2 x0 2 256 rfl inb_S1024x1024_S1024x128_0_256))), ?_⟩
  refine ⟨piece_grp (e := .fp8e4m3) gC x0 1 128 rfl inb_S1024x1024_S1024x128_0_128 _ (Eq.trans (b := gC (ldG arg2 harg2 x0 128 inb_S1024x1024_S1024x128_0_128)) (by sl_kernel_rfl) (congrArg gC (readAt_grp arg2 harg2 x0 1 128 rfl inb_S1024x1024_S1024x128_0_128))), ?_⟩
  refine ⟨piece_grp (e := .fp8e4m3) gC x0 0 0 rfl inb_S1024x1024_S1024x128_0_0 _ (Eq.trans (b := gC (ldG arg2 harg2 x0 0 inb_S1024x1024_S1024x128_0_0)) (by sl_kernel_rfl) (congrArg gC (readAt_grp arg2 harg2 x0 0 0 rfl inb_S1024x1024_S1024x128_0_0))), ?_⟩
  trivial

/-- The scales of the block: what case C leaves in their window. -/
theorem lo10_C (c : Dev nD) (i : grid0.Coords) (arg2 : Memref sig .tc .vmem S1024x1024 .bf16) (harg2 : arg2.IsWhole) (arg3 : Memref sig .tc .vmem S2112x1024 .fp8e4m3) (harg3 : arg3.IsWhole) (arg4 : Memref sig .tc .smem S17x128 .f32) (harg4 : arg4.IsWhole) (arg5 : Memref sig .tc .vmem S1x1536 .bf16) (harg5 : arg5.IsWhole) (arg6 : Memref sig .tc .vmem S1x512 .bf16) (harg6 : arg6.IsWhole) (arg7 : Memref sig .tc .vmem S1024x1536 .fp8e4m3) (harg7 : arg7.IsWhole) (arg8 : Memref sig .tc .vmem S1024x12 .f32) (harg8 : arg8.IsWhole) (arg9 : Memref sig .tc .vmem S1024x512 .bf16) (harg9 : arg9.IsWhole) (arg10 : Memref sig .tc .vmem S1024x64 .bf16) (harg10 : arg10.IsWhole) (arg11 : Memref sig .tc .vmem S1024x1024 .fp8e4m3) (harg11 : arg11.IsWhole) (arg12 : Memref sig .tc .vmem S1024x128 .f32) (harg12 : arg12.IsWhole) (arg13 : Memref sig .tc .vmem S1024x1024 .bf16) (harg13 : arg13.IsWhole) (arg14 : Memref sig .tc .vmem S2112x1024 .bf16) (harg14 : arg14.IsWhole) (arg15 : Memref sig .tc .vmem S1024x2112 .f32) (harg15 : arg15.IsWhole) (hc0 : ¬cond0_0 i) (hc1 : cond0_1 i) (hc2 : cond0_2 i) (x0 : Vec F S1024x1024 .bf16) (x1 : Vec F S2112x1024 .fp8e4m3) (x2 : Vec F S17x128 .f32) (x3 : Vec F S1x1536 .bf16) (x4 : Vec F S1x512 .bf16) (x10 : Vec F S1024x128 .f32) (xs2 : Vec F S1024x2112 .f32) (f) :
    arg12.view.read (Elt F) (arg12.view.writes (Elt F) f (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x10 xs2).2.2.2.2.2.1) = gX (kOf i) x0 x10 := by
  refine Eq.trans ?_ (xChain_eq i x0 x10)
  have h0 : (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x10 xs2).2.2.2.2.2.1 = [⟨Rect.unit (s := S1024x128) ![0, 0] S1024x128.size inb_S1024x128_S1024x128_0_0, kernelRun0_C.sl.r_183 c i arg2 harg2 arg12 harg12 x0 x10⟩] := by sl_kernel_rfl
  refine (congrArg (fun L => arg12.view.read (Elt F) (arg12.view.writes (Elt F) f L)) h0).trans ?_
  refine (read_one arg12.view f ![0, 0] inb_S1024x128_S1024x128_0_0 (kernelRun0_C.sl.r_183 c i arg2 harg2 arg12 harg12 x0 x10)).trans ?_
  have h : kernelRun0_C.sl.r_183 c i arg2 harg2 arg12 harg12 x0 x10
      = xStep i 7#32 (gS (ldG arg2 harg2 x0 896 inb_S1024x1024_S1024x128_0_896)) (xStep i 6#32 (gS (ldG arg2 harg2 x0 768 inb_S1024x1024_S1024x128_0_768)) (xStep i 5#32 (gS (ldG arg2 harg2 x0 640 inb_S1024x1024_S1024x128_0_640)) (xStep i 4#32 (gS (ldG arg2 harg2 x0 512 inb_S1024x1024_S1024x128_0_512)) (xStep i 3#32 (gS (ldG arg2 harg2 x0 384 inb_S1024x1024_S1024x128_0_384)) (xStep i 2#32 (gS (ldG arg2 harg2 x0 256 inb_S1024x1024_S1024x128_0_256)) (xStep i 1#32 (gS (ldG arg2 harg2 x0 128 inb_S1024x1024_S1024x128_0_128)) (xStep i 0#32 (gS (ldG arg2 harg2 x0 0 inb_S1024x1024_S1024x128_0_0)) (shapeCast S1024x128 (View.readAt (Elt F) arg12.view (Rect.unit (s := S1024x128) ![0, 0] S1024x128.size inb_S1024x128_S1024x128_0_0).toLoadRect (harg12.unread x10)) shapeCasts_S1024x128_S1024x128)))))))) := by
    sl_kernel_rfl
  have e0 : shapeCast S1024x128 (View.readAt (Elt F) arg12.view (Rect.unit (s := S1024x128) ![0, 0] S1024x128.size inb_S1024x128_S1024x128_0_0).toLoadRect (harg12.unread x10)) shapeCasts_S1024x128_S1024x128 = x10 :=
    (shapeCast_self _ _).trans (readAt_all arg12 harg12 x10 _ _)
  refine h.trans ?_
  rw [e0]
  unfold xChain ldG
  rw [readAt_grp arg2 harg2 x0 0 0 rfl, readAt_grp arg2 harg2 x0 1 128 rfl, readAt_grp arg2 harg2 x0 2 256 rfl, readAt_grp arg2 harg2 x0 3 384 rfl, readAt_grp arg2 harg2 x0 4 512 rfl, readAt_grp arg2 harg2 x0 5 640 rfl, readAt_grp arg2 harg2 x0 6 768 rfl, readAt_grp arg2 harg2 x0 7 896 rfl]

/-- The accumulated product that case C leaves. -/
theorem ls2_C (c : Dev nD) (i : grid0.Coords) (arg2 : Memref sig .tc .vmem S1024x1024 .bf16) (harg2 : arg2.IsWhole) (arg3 : Memref sig .tc .vmem S2112x1024 .fp8e4m3) (harg3 : arg3.IsWhole) (arg4 : Memref sig .tc .smem S17x128 .f32) (harg4 : arg4.IsWhole) (arg5 : Memref sig .tc .vmem S1x1536 .bf16) (harg5 : arg5.IsWhole) (arg6 : Memref sig .tc .vmem S1x512 .bf16) (harg6 : arg6.IsWhole) (arg7 : Memref sig .tc .vmem S1024x1536 .fp8e4m3) (harg7 : arg7.IsWhole) (arg8 : Memref sig .tc .vmem S1024x12 .f32) (harg8 : arg8.IsWhole) (arg9 : Memref sig .tc .vmem S1024x512 .bf16) (harg9 : arg9.IsWhole) (arg10 : Memref sig .tc .vmem S1024x64 .bf16) (harg10 : arg10.IsWhole) (arg11 : Memref sig .tc .vmem S1024x1024 .fp8e4m3) (harg11 : arg11.IsWhole) (arg12 : Memref sig .tc .vmem S1024x128 .f32) (harg12 : arg12.IsWhole) (arg13 : Memref sig .tc .vmem S1024x1024 .bf16) (harg13 : arg13.IsWhole) (arg14 : Memref sig .tc .vmem S2112x1024 .bf16) (harg14 : arg14.IsWhole) (arg15 : Memref sig .tc .vmem S1024x2112 .f32) (harg15 : arg15.IsWhole) (hc0 : ¬cond0_0 i) (hc1 : cond0_1 i) (hc2 : cond0_2 i) (x0 : Vec F S1024x1024 .bf16) (x1 : Vec F S2112x1024 .fp8e4m3) (x2 : Vec F S17x128 .f32) (x3 : Vec F S1x1536 .bf16) (x4 : Vec F S1x512 .bf16) (x10 : Vec F S1024x128 .f32) (xs2 : Vec F S1024x2112 .f32) (f) :
    arg15.view.read (Elt F) (arg15.view.writes (Elt F) f (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x10 xs2).2.2.2.2.2.2.1) = accNext (kOf i) x0 x1 x2 xs2 := by
  have h0 : (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x10 xs2).2.2.2.2.2.2.1 = [⟨Rect.unit (s := S1024x2112) ![0, 0] S1024x2112.size inb_S1024x2112_S1024x2112_0_0, (k0_pay4 (kernelRun0_C.sl.v2268 c arg2 harg2 arg13 x0) (kernelRun0_C.sl.v2269 c i arg3 harg3 arg4 harg4 arg14 x1 x2)
    (View.readAt (Elt F) arg15.view (Rect.unit (s := S1024x2112) ![0, 0] S1024x2112.size inb_S1024x2112_S1024x2112_0_0).toLoadRect (harg15.unread xs2)))⟩] := by sl_kernel_rfl
  refine (congrArg (fun L => arg15.view.read (Elt F) (arg15.view.writes (Elt F) f L)) h0).trans ?_
  refine (read_one arg15.view f ![0, 0] inb_S1024x2112_S1024x2112_0_0 _).trans ?_
  have e1 : kernelRun0_C.sl.v2268 c arg2 harg2 arg13 x0 = kernelRun0_A.sl.v2268 c arg2 harg2 arg13 x0 := by sl_kernel_rfl
  have e2 : kernelRun0_C.sl.v2269 c i arg3 harg3 arg4 harg4 arg14 x1 x2 = kernelRun0_A.sl.v2269 c i arg3 harg3 arg4 harg4 arg14 x1 x2 := by sl_kernel_rfl
  rw [e1, e2, loadD, loadW, readAt_all arg15 harg15 xs2]
  rfl

/-- A load of columns of the accumulated product in case C. -/
theorem loadAcc (c : Dev nD) (i : grid0.Coords) (arg2 : Memref sig .tc .vmem S1024x1024 .bf16) (harg2 : arg2.IsWhole) (arg3 : Memref sig .tc .vmem S2112x1024 .fp8e4m3) (harg3 : arg3.IsWhole) (arg4 : Memref sig .tc .smem S17x128 .f32) (harg4 : arg4.IsWhole) (arg13 : Memref sig .tc .vmem S1024x1024 .bf16) (arg14 : Memref sig .tc .vmem S2112x1024 .bf16) (arg15 : Memref sig .tc .vmem S1024x2112 .f32) (harg15 : arg15.IsWhole) (x0 : Vec F S1024x1024 .bf16) (x1 : Vec F S2112x1024 .fp8e4m3) (x2 : Vec F S17x128 .f32) (xs2 : Vec F S1024x2112 .f32) (B : LoadRect S1024x2112) :
    arg15.view.readCov (kernelRun0_C.sl.HS2_1 c i arg2 harg2 arg3 harg3 arg4 harg4 arg13 arg14 arg15 harg15 x0 x1 x2 xs2) B = fun j => (accNext (kOf i) x0 x1 x2 xs2) (B.idx j) := by
  unfold kernelRun0_C.sl.HS2_1
  refine (readCov_one arg15.view ![0, 0] inb_S1024x2112_S1024x2112_0_0 _ B).trans ?_
  have e1 : kernelRun0_C.sl.v2268 c arg2 harg2 arg13 x0 = kernelRun0_A.sl.v2268 c arg2 harg2 arg13 x0 := by sl_kernel_rfl
  have e2 : kernelRun0_C.sl.v2269 c i arg3 harg3 arg4 harg4 arg14 x1 x2 = kernelRun0_A.sl.v2269 c i arg3 harg3 arg4 harg4 arg14 x1 x2 := by sl_kernel_rfl
  have e3 := readAt_all arg15 harg15 xs2 ![0, 0] inb_S1024x2112_S1024x2112_0_0
  rw [e1, e2, loadD, loadW]
  funext j
  exact congrArg (fun z => k0_pay4 (byGrp gD x0) (gW (kOf i) x1 x2) z (B.idx j)) e3

/-- The columns that `accQ` names, loaded in case C. -/
theorem load_accQ (c : Dev nD) (i : grid0.Coords) (arg2 : Memref sig .tc .vmem S1024x1024 .bf16) (harg2 : arg2.IsWhole) (arg3 : Memref sig .tc .vmem S2112x1024 .fp8e4m3) (harg3 : arg3.IsWhole) (arg4 : Memref sig .tc .smem S17x128 .f32) (harg4 : arg4.IsWhole) (arg13 : Memref sig .tc .vmem S1024x1024 .bf16) (arg14 : Memref sig .tc .vmem S2112x1024 .bf16) (arg15 : Memref sig .tc .vmem S1024x2112 .f32) (harg15 : arg15.IsWhole) (x0 : Vec F S1024x1024 .bf16) (x1 : Vec F S2112x1024 .fp8e4m3) (x2 : Vec F S17x128 .f32) (xs2 : Vec F S1024x2112 .f32) : kernelRun0_C.sl.v2280 c i arg2 harg2 arg3 harg3 arg4 harg4 arg13 arg14 arg15 harg15 x0 x1 x2 xs2 = accQ (accNext (kOf i) x0 x1 x2 xs2) := by
  unfold kernelRun0_C.sl.v2280
  rw [loadAcc]
  funext j
  refine congrArg (accNext (kOf i) x0 x1 x2 xs2) (funext fun a => Fin.ext ?_)
  match a with
  | ⟨0, _⟩ => show 0 + 1 * (j 0).val = (j 0).val; omega
  | ⟨1, _⟩ => show 0 + 1 * (j 1).val = (j 1).val; omega

/-- The columns that `accK` names, loaded in case C. -/
theorem load_accK (c : Dev nD) (i : grid0.Coords) (arg2 : Memref sig .tc .vmem S1024x1024 .bf16) (harg2 : arg2.IsWhole) (arg3 : Memref sig .tc .vmem S2112x1024 .fp8e4m3) (harg3 : arg3.IsWhole) (arg4 : Memref sig .tc .smem S17x128 .f32) (harg4 : arg4.IsWhole) (arg13 : Memref sig .tc .vmem S1024x1024 .bf16) (arg14 : Memref sig .tc .vmem S2112x1024 .bf16) (arg15 : Memref sig .tc .vmem S1024x2112 .f32) (harg15 : arg15.IsWhole) (x0 : Vec F S1024x1024 .bf16) (x1 : Vec F S2112x1024 .fp8e4m3) (x2 : Vec F S17x128 .f32) (xs2 : Vec F S1024x2112 .f32) : kernelRun0_C.sl.v2826 c i arg2 harg2 arg3 harg3 arg4 harg4 arg13 arg14 arg15 harg15 x0 x1 x2 xs2 = accK (accNext (kOf i) x0 x1 x2 xs2) := by
  unfold kernelRun0_C.sl.v2826
  rw [loadAcc]
  funext j
  refine congrArg (accNext (kOf i) x0 x1 x2 xs2) (funext fun a => Fin.ext ?_)
  match a with
  | ⟨0, _⟩ => show 0 + 1 * (j 0).val = (j 0).val; omega
  | ⟨1, _⟩ => show 1536 + 1 * (j 1).val = 1536 + (j 1).val; omega

/-- The columns that `accP` names, loaded in case C. -/
theorem load_accP (c : Dev nD) (i : grid0.Coords) (arg2 : Memref sig .tc .vmem S1024x1024 .bf16) (harg2 : arg2.IsWhole) (arg3 : Memref sig .tc .vmem S2112x1024 .fp8e4m3) (harg3 : arg3.IsWhole) (arg4 : Memref sig .tc .smem S17x128 .f32) (harg4 : arg4.IsWhole) (arg13 : Memref sig .tc .vmem S1024x1024 .bf16) (arg14 : Memref sig .tc .vmem S2112x1024 .bf16) (arg15 : Memref sig .tc .vmem S1024x2112 .f32) (harg15 : arg15.IsWhole) (x0 : Vec F S1024x1024 .bf16) (x1 : Vec F S2112x1024 .fp8e4m3) (x2 : Vec F S17x128 .f32) (xs2 : Vec F S1024x2112 .f32) : kernelRun0_C.sl.v2844 c i arg2 harg2 arg3 harg3 arg4 harg4 arg13 arg14 arg15 harg15 x0 x1 x2 xs2 = accP (accNext (kOf i) x0 x1 x2 xs2) := by
  unfold kernelRun0_C.sl.v2844
  rw [loadAcc]
  funext j
  refine congrArg (accNext (kOf i) x0 x1 x2 xs2) (funext fun a => Fin.ext ?_)
  match a with
  | ⟨0, _⟩ => show 0 + 1 * (j 0).val = (j 0).val; omega
  | ⟨1, _⟩ => show 2048 + 1 * (j 1).val = 2048 + (j 1).val; omega

/-- The normalised entries of `q` in case C. -/
theorem qnorm_C (c : Dev nD) (i : grid0.Coords) (arg2 : Memref sig .tc .vmem S1024x1024 .bf16) (harg2 : arg2.IsWhole) (arg3 : Memref sig .tc .vmem S2112x1024 .fp8e4m3) (harg3 : arg3.IsWhole) (arg4 : Memref sig .tc .smem S17x128 .f32) (harg4 : arg4.IsWhole) (arg5 : Memref sig .tc .vmem S1x1536 .bf16) (harg5 : arg5.IsWhole) (arg13 : Memref sig .tc .vmem S1024x1024 .bf16) (arg14 : Memref sig .tc .vmem S2112x1024 .bf16) (arg15 : Memref sig .tc .vmem S1024x2112 .f32) (harg15 : arg15.IsWhole) (x0 : Vec F S1024x1024 .bf16) (x1 : Vec F S2112x1024 .fp8e4m3) (x2 : Vec F S17x128 .f32) (x3 : Vec F S1x1536 .bf16) (xs2 : Vec F S1024x2112 .f32) :
    kernelRun0_C.sl.r_207 c i arg2 harg2 arg3 harg3 arg4 harg4 arg5 harg5 arg13 arg14 arg15 harg15 x0 x1 x2 x3 xs2 = k0_pay7 (accQ (accNext (kOf i) x0 x1 x2 xs2)) x3 := by
  unfold kernelRun0_C.sl.r_207
  rw [load_accQ, readAt_all arg5 harg5 x3]

/-- The codes of `q`: what case C leaves in their window. -/
theorem lo5_C (c : Dev nD) (i : grid0.Coords) (arg2 : Memref sig .tc .vmem S1024x1024 .bf16) (harg2 : arg2.IsWhole) (arg3 : Memref sig .tc .vmem S2112x1024 .fp8e4m3) (harg3 : arg3.IsWhole) (arg4 : Memref sig .tc .smem S17x128 .f32) (harg4 : arg4.IsWhole) (arg5 : Memref sig .tc .vmem S1x1536 .bf16) (harg5 : arg5.IsWhole) (arg6 : Memref sig .tc .vmem S1x512 .bf16) (harg6 : arg6.IsWhole) (arg7 : Memref sig .tc .vmem S1024x1536 .fp8e4m3) (harg7 : arg7.IsWhole) (arg8 : Memref sig .tc .vmem S1024x12 .f32) (harg8 : arg8.IsWhole) (arg9 : Memref sig .tc .vmem S1024x512 .bf16) (harg9 : arg9.IsWhole) (arg10 : Memref sig .tc .vmem S1024x64 .bf16) (harg10 : arg10.IsWhole) (arg11 : Memref sig .tc .vmem S1024x1024 .fp8e4m3) (harg11 : arg11.IsWhole) (arg12 : Memref sig .tc .vmem S1024x128 .f32) (harg12 : arg12.IsWhole) (arg13 : Memref sig .tc .vmem S1024x1024 .bf16) (harg13 : arg13.IsWhole) (arg14 : Memref sig .tc .vmem S2112x1024 .bf16) (harg14 : arg14.IsWhole) (arg15 : Memref sig .tc .vmem S1024x2112 .f32) (harg15 : arg15.IsWhole) (hc0 : ¬cond0_0 i) (hc1 : cond0_1 i) (hc2 : cond0_2 i) (x0 : Vec F S1024x1024 .bf16) (x1 : Vec F S2112x1024 .fp8e4m3) (x2 : Vec F S17x128 .f32) (x3 : Vec F S1x1536 .bf16) (x4 : Vec F S1x512 .bf16) (x10 : Vec F S1024x128 .f32) (xs2 : Vec F S1024x2112 .f32) (f) :
    arg7.view.read (Elt F) (arg7.view.writes (Elt F) f (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x10 xs2).1) = qCodes (k0_pay7 (accQ (accNext (kOf i) x0 x1 x2 xs2)) x3) := by
  rw [← qnorm_C c i arg2 harg2 arg3 harg3 arg4 harg4 arg5 harg5 arg13 arg14 arg15 harg15 x0 x1 x2 x3 xs2]
  refine read_of_pieces _ f (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x10 xs2).1 _ (View.cover_of_tiledL _ S1024x128.size (by sl_kernel_rfl)) ?_
  refine ⟨piece_q _ 11 1408 rfl inb_S1024x1536_S1024x128_0_1408 slices_S1024x1536_o0_1408_S1024x128 _ (by sl_kernel_rfl), ?_⟩
  refine ⟨piece_q _ 10 1280 rfl inb_S1024x1536_S1024x128_0_1280 slices_S1024x1536_o0_1280_S1024x128 _ (by sl_kernel_rfl), ?_⟩
  refine ⟨piece_q _ 9 1152 rfl inb_S1024x1536_S1024x128_0_1152 slices_S1024x1536_o0_1152_S1024x128 _ (by sl_kernel_rfl), ?_⟩
  refine ⟨piece_q _ 8 1024 rfl inb_S1024x1536_S1024x128_0_1024 slices_S1024x1536_o0_1024_S1024x128 _ (by sl_kernel_rfl), ?_⟩
  refine ⟨piece_q _ 7 896 rfl inb_S1024x1536_S1024x128_0_896 slices_S1024x1536_o0_896_S1024x128 _ (by sl_kernel_rfl), ?_⟩
  refine ⟨piece_q _ 6 768 rfl inb_S1024x1536_S1024x128_0_768 slices_S1024x1536_o0_768_S1024x128 _ (by sl_kernel_rfl), ?_⟩
  refine ⟨piece_q _ 5 640 rfl inb_S1024x1536_S1024x128_0_640 slices_S1024x1536_o0_640_S1024x128 _ (by sl_kernel_rfl), ?_⟩
  refine ⟨piece_q _ 4 512 rfl inb_S1024x1536_S1024x128_0_512 slices_S1024x1536_o0_512_S1024x128 _ (by sl_kernel_rfl), ?_⟩
  refine ⟨piece_q _ 3 384 rfl inb_S1024x1536_S1024x128_0_384 slices_S1024x1536_o0_384_S1024x128 _ (by sl_kernel_rfl), ?_⟩
  refine ⟨piece_q _ 2 256 rfl inb_S1024x1536_S1024x128_0_256 slices_S1024x1536_o0_256_S1024x128 _ (by sl_kernel_rfl), ?_⟩
  refine ⟨piece_q _ 1 128 rfl inb_S1024x1536_S1024x128_0_128 slices_S1024x1536_o0_128_S1024x128 _ (by sl_kernel_rfl), ?_⟩
  refine ⟨piece_q _ 0 0 rfl inb_S1024x1536_S1024x128_0_0 slices_S1024x1536_o0_0_S1024x128 _ (by sl_kernel_rfl), ?_⟩
  trivial

/-- The scales of `q`: what case C leaves in their window. -/
theorem lo6_C (c : Dev nD) (i : grid0.Coords) (arg2 : Memref sig .tc .vmem S1024x1024 .bf16) (harg2 : arg2.IsWhole) (arg3 : Memref sig .tc .vmem S2112x1024 .fp8e4m3) (harg3 : arg3.IsWhole) (arg4 : Memref sig .tc .smem S17x128 .f32) (harg4 : arg4.IsWhole) (arg5 : Memref sig .tc .vmem S1x1536 .bf16) (harg5 : arg5.IsWhole) (arg6 : Memref sig .tc .vmem S1x512 .bf16) (harg6 : arg6.IsWhole) (arg7 : Memref sig .tc .vmem S1024x1536 .fp8e4m3) (harg7 : arg7.IsWhole) (arg8 : Memref sig .tc .vmem S1024x12 .f32) (harg8 : arg8.IsWhole) (arg9 : Memref sig .tc .vmem S1024x512 .bf16) (harg9 : arg9.IsWhole) (arg10 : Memref sig .tc .vmem S1024x64 .bf16) (harg10 : arg10.IsWhole) (arg11 : Memref sig .tc .vmem S1024x1024 .fp8e4m3) (harg11 : arg11.IsWhole) (arg12 : Memref sig .tc .vmem S1024x128 .f32) (harg12 : arg12.IsWhole) (arg13 : Memref sig .tc .vmem S1024x1024 .bf16) (harg13 : arg13.IsWhole) (arg14 : Memref sig .tc .vmem S2112x1024 .bf16) (harg14 : arg14.IsWhole) (arg15 : Memref sig .tc .vmem S1024x2112 .f32) (harg15 : arg15.IsWhole) (hc0 : ¬cond0_0 i) (hc1 : cond0_1 i) (hc2 : cond0_2 i) (x0 : Vec F S1024x1024 .bf16) (x1 : Vec F S2112x1024 .fp8e4m3) (x2 : Vec F S17x128 .f32) (x3 : Vec F S1x1536 .bf16) (x4 : Vec F S1x512 .bf16) (x10 : Vec F S1024x128 .f32) (xs2 : Vec F S1024x2112 .f32) (f) :
    arg8.view.read (Elt F) (arg8.view.writes (Elt F) f (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x10 xs2).2.1) = qScales (k0_pay7 (accQ (accNext (kOf i) x0 x1 x2 xs2)) x3) := by
  rw [← qnorm_C c i arg2 harg2 arg3 harg3 arg4 harg4 arg5 harg5 arg13 arg14 arg15 harg15 x0 x1 x2 x3 xs2]
  have h : (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x10 xs2).2.1 = [⟨Rect.unit (s := S1024x12) ![0, 0] S1024x12.size inb_S1024x12_S1024x12_0_0,
      catScales (kernelRun0_C.sl.r_207 c i arg2 harg2 arg3 harg3 arg4 harg4 arg5 harg5 arg13 arg14 arg15 harg15 x0 x1 x2 x3 xs2)⟩] := by sl_kernel_rfl
  refine (congrArg (fun L => arg8.view.read (Elt F) (arg8.view.writes (Elt F) f L)) h).trans ?_
  exact (read_one arg8.view f ![0, 0] inb_S1024x12_S1024x12_0_0 _).trans (catScales_eq _)

/-- The normalised `kv`: what case C leaves in its window. -/
theorem lo7_C (c : Dev nD) (i : grid0.Coords) (arg2 : Memref sig .tc .vmem S1024x1024 .bf16) (harg2 : arg2.IsWhole) (arg3 : Memref sig .tc .vmem S2112x1024 .fp8e4m3) (harg3 : arg3.IsWhole) (arg4 : Memref sig .tc .smem S17x128 .f32) (harg4 : arg4.IsWhole) (arg5 : Memref sig .tc .vmem S1x1536 .bf16) (harg5 : arg5.IsWhole) (arg6 : Memref sig .tc .vmem S1x512 .bf16) (harg6 : arg6.IsWhole) (arg7 : Memref sig .tc .vmem S1024x1536 .fp8e4m3) (harg7 : arg7.IsWhole) (arg8 : Memref sig .tc .vmem S1024x12 .f32) (harg8 : arg8.IsWhole) (arg9 : Memref sig .tc .vmem S1024x512 .bf16) (harg9 : arg9.IsWhole) (arg10 : Memref sig .tc .vmem S1024x64 .bf16) (harg10 : arg10.IsWhole) (arg11 : Memref sig .tc .vmem S1024x1024 .fp8e4m3) (harg11 : arg11.IsWhole) (arg12 : Memref sig .tc .vmem S1024x128 .f32) (harg12 : arg12.IsWhole) (arg13 : Memref sig .tc .vmem S1024x1024 .bf16) (harg13 : arg13.IsWhole) (arg14 : Memref sig .tc .vmem S2112x1024 .bf16) (harg14 : arg14.IsWhole) (arg15 : Memref sig .tc .vmem S1024x2112 .f32) (harg15 : arg15.IsWhole) (hc0 : ¬cond0_0 i) (hc1 : cond0_1 i) (hc2 : cond0_2 i) (x0 : Vec F S1024x1024 .bf16) (x1 : Vec F S2112x1024 .fp8e4m3) (x2 : Vec F S17x128 .f32) (x3 : Vec F S1x1536 .bf16) (x4 : Vec F S1x512 .bf16) (x10 : Vec F S1024x128 .f32) (xs2 : Vec F S1024x2112 .f32) (f) :
    arg9.view.read (Elt F) (arg9.view.writes (Elt F) f (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x10 xs2).2.2.1) = k0_pay5 (k0_pay66 (accK (accNext (kOf i) x0 x1 x2 xs2))) (k0_pay67 x4) := by
  have h0 : (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x10 xs2).2.2.1 = [⟨Rect.unit (s := S1024x512) ![0, 0] S1024x512.size inb_S1024x512_S1024x512_0_0, (k0_pay5 (kernelRun0_C.sl.r_238 c i arg2 harg2 arg3 harg3 arg4 harg4 arg13 arg14 arg15 harg15 x0 x1 x2 xs2) (kernelRun0_C.sl.r_239 c arg6 harg6 x4))⟩] := by sl_kernel_rfl
  refine (congrArg (fun L => arg9.view.read (Elt F) (arg9.view.writes (Elt F) f L)) h0).trans ?_
  refine (read_one arg9.view f ![0, 0] inb_S1024x512_S1024x512_0_0 _).trans ?_
  unfold kernelRun0_C.sl.r_238 kernelRun0_C.sl.r_239
  rw [load_accK, readAt_all arg6 harg6 x4]

/-- The rotary part: what case C leaves in its window. -/
theorem lo8_C (c : Dev nD) (i : grid0.Coords) (arg2 : Memref sig .tc .vmem S1024x1024 .bf16) (harg2 : arg2.IsWhole) (arg3 : Memref sig .tc .vmem S2112x1024 .fp8e4m3) (harg3 : arg3.IsWhole) (arg4 : Memref sig .tc .smem S17x128 .f32) (harg4 : arg4.IsWhole) (arg5 : Memref sig .tc .vmem S1x1536 .bf16) (harg5 : arg5.IsWhole) (arg6 : Memref sig .tc .vmem S1x512 .bf16) (harg6 : arg6.IsWhole) (arg7 : Memref sig .tc .vmem S1024x1536 .fp8e4m3) (harg7 : arg7.IsWhole) (arg8 : Memref sig .tc .vmem S1024x12 .f32) (harg8 : arg8.IsWhole) (arg9 : Memref sig .tc .vmem S1024x512 .bf16) (harg9 : arg9.IsWhole) (arg10 : Memref sig .tc .vmem S1024x64 .bf16) (harg10 : arg10.IsWhole) (arg11 : Memref sig .tc .vmem S1024x1024 .fp8e4m3) (harg11 : arg11.IsWhole) (arg12 : Memref sig .tc .vmem S1024x128 .f32) (harg12 : arg12.IsWhole) (arg13 : Memref sig .tc .vmem S1024x1024 .bf16) (harg13 : arg13.IsWhole) (arg14 : Memref sig .tc .vmem S2112x1024 .bf16) (harg14 : arg14.IsWhole) (arg15 : Memref sig .tc .vmem S1024x2112 .f32) (harg15 : arg15.IsWhole) (hc0 : ¬cond0_0 i) (hc1 : cond0_1 i) (hc2 : cond0_2 i) (x0 : Vec F S1024x1024 .bf16) (x1 : Vec F S2112x1024 .fp8e4m3) (x2 : Vec F S17x128 .f32) (x3 : Vec F S1x1536 .bf16) (x4 : Vec F S1x512 .bf16) (x10 : Vec F S1024x128 .f32) (xs2 : Vec F S1024x2112 .f32) (f) :
    arg10.view.read (Elt F) (arg10.view.writes (Elt F) f (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x10 xs2).2.2.2.1) = k0_pay6 (accP (accNext (kOf i) x0 x1 x2 xs2)) := by
  have h0 : (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x10 xs2).2.2.2.1 = [⟨Rect.unit (s := S1024x64) ![0, 0] S1024x64.size inb_S1024x64_S1024x64_0_0, (k0_pay6 (kernelRun0_C.sl.v2844 c i arg2 harg2 arg3 harg3 arg4 harg4 arg13 arg14 arg15 harg15 x0 x1 x2 xs2))⟩] := by sl_kernel_rfl
  refine (congrArg (fun L => arg10.view.read (Elt F) (arg10.view.writes (Elt F) f L)) h0).trans ?_
  refine (read_one arg10.view f ![0, 0] inb_S1024x64_S1024x64_0_0 _).trans ?_
  rw [load_accP]

end Cert.KernelIdeal.Gen

end
-- ==== Proof.IFrame.lean ====
module

public import proofs.«01_k».proof.Proof.IOut
public import Idealize.ShloMosaic.Lib.Pipeline.DatRel
public import Idealize.ShloMosaic.Lib.Pipeline.ArrRel
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.ShloMosaic.ValueIdx (ix2 eq_ix2)
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body leaves -/

/-- The accumulated product after the body at position `n`: a sum of one product for each step of the block row so far. -/
def accs (c : Dev nD) : (n : ℕ) → n < cfg0.N → Vec F S1024x2112 .f32
  | 0, hn => accFirst (kOf (grid0.coords ⟨0, hn⟩)) (iblk m c 0 ⟨0, hn⟩) (iblk m c 1 ⟨0, hn⟩) (iblk m c 2 ⟨0, hn⟩)
  | n + 1, hn =>
    if (n + 1) % 16 = 0 then accFirst (kOf (grid0.coords ⟨n + 1, hn⟩)) (iblk m c 0 ⟨n + 1, hn⟩) (iblk m c 1 ⟨n + 1, hn⟩) (iblk m c 2 ⟨n + 1, hn⟩)
    else accNext (kOf (grid0.coords ⟨n + 1, hn⟩)) (iblk m c 0 ⟨n + 1, hn⟩) (iblk m c 1 ⟨n + 1, hn⟩) (iblk m c 2 ⟨n + 1, hn⟩) (accs c n (Nat.lt_of_succ_lt hn))

/-- At the first step of a block row. -/
theorem accs_first (c : Dev nD) (t : Fin cfg0.N) (h : t.val % 16 = 0) : accs m c t.val t.isLt = accFirst (kOf (grid0.coords t)) (iblk m c 0 t) (iblk m c 1 t) (iblk m c 2 t) := by
  obtain ⟨n, hn⟩ := t
  cases n with
  | zero => rfl
  | succ n => exact if_pos h

/-- At a later step. -/
theorem accs_next (c : Dev nD) (t : Fin cfg0.N) (h : ¬t.val % 16 = 0) :
    accs m c t.val t.isLt = accNext (kOf (grid0.coords t)) (iblk m c 0 t) (iblk m c 1 t) (iblk m c 2 t) (accs m c (t.val - 1) (Nat.lt_of_le_of_lt (Nat.sub_le _ _) t.isLt)) := by
  obtain ⟨n, hn⟩ := t
  cases n with
  | zero => exact absurd (Nat.zero_mod _) h
  | succ n => exact if_neg h

/-- The codes of `q` at a point. -/
def out5 (c : Dev nD) (t : Fin cfg0.N) : Vec F S1024x1536 .fp8e4m3 := qCodes (k0_pay7 (accQ (accs m c t.val t.isLt)) (iblk m c 3 t))
/-- The scales of `q` at a point. -/
def out6 (c : Dev nD) (t : Fin cfg0.N) : Vec F S1024x12 .f32 := qScales (k0_pay7 (accQ (accs m c t.val t.isLt)) (iblk m c 3 t))
/-- The normalised `kv` at a point. -/
def out7 (c : Dev nD) (t : Fin cfg0.N) : Vec F S1024x512 .bf16 := k0_pay5 (k0_pay66 (accK (accs m c t.val t.isLt))) (k0_pay67 (iblk m c 4 t))
/-- The rotary part at a point. -/
def out8 (c : Dev nD) (t : Fin cfg0.N) : Vec F S1024x64 .bf16 := k0_pay6 (accP (accs m c t.val t.isLt))
/-- The codes of the block of `x` at a point. -/
def out9 (c : Dev nD) (t : Fin cfg0.N) : Vec F S1024x1024 .fp8e4m3 := byGrp gC (iblk m c 0 t)
/-- The scales of the block row of `x` written by the points up to `t` are there. -/
def good10 (c : Dev nD) (t : Fin cfg0.N) (X : Vec F S1024x128 .f32) : Prop :=
  ∀ s : Fin cfg0.N, s.val / 16 = t.val / 16 → s.val ≤ t.val → ∀ (q : Fin 8) (y : S1024x128.Idx), (y 1).val = 8 * (s.val % 16) + q.val →
    X y = gS (grp (iblk m c 0 s) q) (ix2 (n0 := 1024) (n1 := 1) (y 0) 0)

/-- What is claimed of each output's buffer after the body at a point. -/
def Rl (c : Dev nD) (w : Fin cfg0.W) (t : Fin cfg0.N) : ((cfg0.win w).block.Idx → Elt F (cfg0.win w).elt) → Prop :=
  match w with
  | ⟨5, _⟩ => fun X => t.val % 16 = 15 → X = out5 m c t
  | ⟨6, _⟩ => fun X => t.val % 16 = 15 → X = out6 m c t
  | ⟨7, _⟩ => fun X => t.val % 16 = 15 → X = out7 m c t
  | ⟨8, _⟩ => fun X => t.val % 16 = 15 → X = out8 m c t
  | ⟨9, _⟩ => fun X => X = out9 m c t
  | ⟨10, _⟩ => fun X => good10 m c t X
  | _ => fun _ => True

/-- The step number of a point. -/
theorem kOf_coords (t : Fin cfg0.N) : (kOf (grid0.coords t)).val = t.val % 16 := by
  have e1 : (grid0.coords t 1).val = t.val / 1 % 16 := Pipeline.Grid.coords_val t 1 (by decide) rfl
  show (grid0.coords t 1).val = _
  rw [e1, Nat.div_one]

/-- Lanes of other steps keep what was there. -/
theorem gX_off (k : Fin 16) (x0 : Vec F S1024x1024 .bf16) (x10 : Vec F S1024x128 .f32) (y : S1024x128.Idx)
    (h : ¬(8 * k.val ≤ (y 1).val ∧ (y 1).val < 8 * k.val + 8)) : gX k x0 x10 y = x10 y := by
  unfold gX
  rw [dif_neg h]

/-- A point adds its scales to those of the points before. -/
theorem good10_step (c : Dev nD) (t : Fin cfg0.N) (Y : Vec F S1024x128 .f32)
    (hY : ¬t.val % 16 = 0 → good10 m c ⟨t.val - 1, Nat.lt_of_le_of_lt (Nat.sub_le _ _) t.isLt⟩ Y) :
    good10 m c t (gX (kOf (grid0.coords t)) (iblk m c 0 t) Y) := by
  intro s hs hle q y hy
  have hk := kOf_coords t
  by_cases hst : s = t
  · subst hst
    exact gX_at _ _ _ y q (by rw [hk]; exact hy)
  · have hne : s.val ≠ t.val := fun h => hst (Fin.ext h)
    have hq := q.isLt
    rw [gX_off _ _ _ y (by rw [hk]; omega)]
    exact hY (by omega) s (by show s.val / 16 = (t.val - 1) / 16; omega) (by show s.val ≤ t.val - 1; omega) q y hy

/-- The region invariant before position `n`: before the first point every scratch at anything; afterwards the accumulator at what the point before left. -/
def PhiS (c : Dev nD) : (n : ℕ) → n ≤ cfg0.N → sProp 𝕄
  | 0, _ => Pipeline.ΦA spec0 c
  | n + 1, hn => iprop(iprop((∃ d, owns (c : Thread nD τ) scM0_0 fullShare d) ∗ (∃ d, owns (c : Thread nD τ) scM0_1 fullShare d) ∗ owns (c : Thread nD τ) scM0_2 fullShare ((accs m c n hn))) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop((∃ d, owns (c : Thread nD τ) scM0_0 fullShare d) ∗ (∃ d, owns (c : Thread nD τ) scM0_1 fullShare d) ∗ owns (c : Thread nD τ) scM0_2 fullShare ((accs m c n hn))) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop((∃ d, owns (c : Thread nD τ) scM0_0 fullShare d) ∗ (∃ d, owns (c : Thread nD τ) scM0_1 fullShare d) ∗ owns (c : Thread nD τ) scM0_2 fullShare ((accs m c (n - 1) (by omega)))) ∗ (∃ r, prngReg c r)) := by
  cases n with
  | zero => exact absurd rfl hz
  | succ n => rfl

/-! ## The pipeline's proof data -/

/-- The output windows, of which a relation is claimed. -/
def forgets0 : Fin 11 → Bool := fun w => w.val == 5 || w.val == 6 || w.val == 7 || w.val == 8 || w.val == 9 || w.val == 10

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- The same data, each output held to its relation. -/
abbrev rdat (c : Dev nD) : Pipeline.RDat τ (Elt F) Unit ℕ (UR sig nD τ) ℕ cfg0 c := (dats m 0 c).toRRel forgets0 (Rl m c)

/-- What the body may find in the scales' window: the scales of the earlier steps. -/
theorem finds10 (c : Dev nD) (t : Fin cfg0.N) (Y : Vec F S1024x128 .f32) (hY : (rdat m c).Finds 10 t Y) :
    ¬t.val % 16 = 0 → good10 m c ⟨t.val - 1, Nat.lt_of_le_of_lt (Nat.sub_le _ _) t.isLt⟩ Y := by
  intro h
  have hf : (cfg0.win 10).fetch t = false := rfl
  have h' := ((rdat m c).finds_of_pos hf (by omega) Y).mp hY
  rcases h' with h' | h'
  · have := (flush0_10 _).mp h'
    have e : (⟨t.val - 1, Nat.lt_of_le_of_lt (Nat.sub_le _ _) t.isLt⟩ : Fin cfg0.N).val = t.val - 1 := rfl
    rw [e] at this
    omega
  · exact (dats m 0 c).toRRel_leaves (fgt := forgets0) (Rl := Rl m c) (w := 10) rfl h'

/-! ## The body obligation -/

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ Y, ⌜(rdat m c).Finds 5 t Y⌝ ∗ owns (c : Thread nD τ) (ms0_5 t) fullShare Y)
    ∗ (∃ Y, ⌜(rdat m c).Finds 6 t Y⌝ ∗ owns (c : Thread nD τ) (ms0_6 t) fullShare Y)
    ∗ (∃ Y, ⌜(rdat m c).Finds 7 t Y⌝ ∗ owns (c : Thread nD τ) (ms0_7 t) fullShare Y)
    ∗ (∃ Y, ⌜(rdat m c).Finds 8 t Y⌝ ∗ owns (c : Thread nD τ) (ms0_8 t) fullShare Y)
    ∗ (∃ Y, ⌜(rdat m c).Finds 9 t Y⌝ ∗ owns (c : Thread nD τ) (ms0_9 t) fullShare Y)
    ∗ (∃ Y, ⌜(rdat m c).Finds 10 t Y⌝ ∗ owns (c : Thread nD τ) (ms0_10 t) fullShare Y))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (∃ X, ⌜Rl m c 5 t X⌝ ∗ owns (c : Thread nD τ) (ms0_5 t) fullShare X)
    ∗ (∃ X, ⌜Rl m c 6 t X⌝ ∗ owns (c : Thread nD τ) (ms0_6 t) fullShare X)
    ∗ (∃ X, ⌜Rl m c 7 t X⌝ ∗ owns (c : Thread nD τ) (ms0_7 t) fullShare X)
    ∗ (∃ X, ⌜Rl m c 8 t X⌝ ∗ owns (c : Thread nD τ) (ms0_8 t) fullShare X)
    ∗ (∃ X, ⌜Rl m c 9 t X⌝ ∗ owns (c : Thread nD τ) (ms0_9 t) fullShare X)
    ∗ (∃ X, ⌜Rl m c 10 t X⌝ ∗ owns (c : Thread nD τ) (ms0_10 t) fullShare X))

/-- The inputs' buffers are handed back at their blocks. -/
theorem leaves0_0 (c : Dev nD) (t : Fin cfg0.N) : (dats m 0 c).leavesExact 0 t = owns (c : Thread nD τ) (ms0_0 t) fullShare (iblk m c 0 t) := by
  unfold Dat.leavesExact; rw [liveAt0_0 t, after0_0]
/-- The same for another input. -/
theorem leaves0_1 (c : Dev nD) (t : Fin cfg0.N) : (dats m 0 c).leavesExact 1 t = owns (c : Thread nD τ) (ms0_1 t) fullShare (iblk m c 1 t) := by
  unfold Dat.leavesExact; rw [liveAt0_1 t, after0_1]
/-- The same for another input. -/
theorem leaves0_2 (c : Dev nD) (t : Fin cfg0.N) : (dats m 0 c).leavesExact 2 t = owns (c : Thread nD τ) (ms0_2 t) fullShare (iblk m c 2 t) := by
  unfold Dat.leavesExact; rw [liveAt0_2 t, after0_2]
/-- The same for another input. -/
theorem leaves0_3 (c : Dev nD) (t : Fin cfg0.N) : (dats m 0 c).leavesExact 3 t = owns (c : Thread nD τ) (ms0_3 t) fullShare (iblk m c 3 t) := by
  unfold Dat.leavesExact; rw [liveAt0_3 t, after0_3]
/-- The same for another input. -/
theorem leaves0_4 (c : Dev nD) (t : Fin cfg0.N) : (dats m 0 c).leavesExact 4 t = owns (c : Thread nD τ) (ms0_4 t) fullShare (iblk m c 4 t) := by
  unfold Dat.leavesExact; rw [liveAt0_4 t, after0_4]

set_option maxHeartbeats 4000000 in
/-- The body at a point of case A. -/
theorem sound_A (c : Dev nD) (t : Fin cfg0.N) (h0 : t.val % 16 = 0) (h1 : ¬1 ≤ t.val % 16) (h2 : ¬t.val % 16 = 15) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, leaves0_0, leaves0_1, leaves0_2, leaves0_3, leaves0_4]
  rw [show (dats m 0 c).owesAt () t.succ = (dats m 0 c).owesAt () t.castSucc from rfl]
  rw [show (dats m 0 c).Φ t.succ = PhiS m c (t.val + 1) t.isLt from rfl, PhiS_succ]
  by_cases hz : t.val = 0
  · rw [PhiS_castSucc m c t, PhiS_zero m c _ _ hz, PhiA0_eq]
    rw [accs_first m c t h0]
    iintro ⟨⟨⟨HS0, HS1, HS2⟩, Hg⟩, Ho, ⟨%d0, H0⟩, ⟨%d1, H1⟩, ⟨%d2, H2⟩, ⟨%d3, H3⟩, ⟨%d4, H4⟩, ⟨%d5, %hd5, H5⟩, ⟨%d6, %hd6, H6⟩, ⟨%d7, %hd7, H7⟩, ⟨%d8, %hd8, H8⟩, ⟨%d9, %hd9, H9⟩, ⟨%d10, %hd10, H10⟩⟩
    iapply ((kernelRun0_A c (grid0.coords t) _ _ _ _ _ _ _ _ _ _ _ _ _ _ _ _ _ _ _ _ _ _ _ _ _ _ _ _ ((hcond0_0 t).mpr h0) (fun h => h1 ((hcond0_1 t).mp h)) (fun h => h2 ((hcond0_2 t).mp h)) (iblk m c 0 t) (iblk m c 1 t) (iblk m c 2 t) (iblk m c 3 t) (iblk m c 4 t) d10).2.2.2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexact H10
    isplitl [HS0]; · iexact HS0
    isplitl [HS1]; · iexact HS1
    isplitl [HS2]; · iexact HS2
    iintro ⟨H0, H1, H2, H3, H4, ⟨%e5, H5⟩, ⟨%e6, H6⟩, ⟨%e7, H7⟩, ⟨%e8, H8⟩, ⟨%e9, H9⟩, ⟨%e10, H10⟩, ⟨%fT0, HS0⟩, ⟨%fT1, HS1⟩, ⟨%es2, HS2⟩⟩
    isplitl [HS0 HS1 HS2 Hg]
    · isplitl [HS0 HS1 HS2]
      · isplitl [HS0]
        · iexists _; unfold owns; iexists _; isplitr
          swap; · iexact HS0
          ipureintro; rfl
        isplitl [HS1]
        · iexists _; unfold owns; iexists _; isplitr
          swap; · iexact HS1
          ipureintro; rfl
        unfold owns; iexists _; isplitr
        swap; · iexact HS2
        ipureintro; exact ls2_A c _ _ _ _ _ _ _ _ _ _ _ _ _ _ _ _ _ _ _ _ _ _ _ _ _ _ _ _ _ _ _ _ _ _ _ _ _ _ es2
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · iexists e5; isplitr
      · ipureintro; exact fun h => absurd h h2
      iexact H5
    isplitl [H6]
    · iexists e6; isplitr
      · ipureintro; exact fun h => absurd h h2
      iexact H6
    isplitl [H7]
    · iexists e7; isplitr
      · ipureintro; exact fun h => absurd h h2
      iexact H7
    isplitl [H8]
    · iexists e8; isplitr
      · ipureintro; exact fun h => absurd h h2
      iexact H8
    isplitl [H9]
    · iexists (out9 m c t); isplitr
      · ipureintro; exact rfl
      unfold owns; iexists _; isplitr
      swap; · iexact H9
      ipureintro; exact lo9_A c _ _ _ _ _ _ _ _ _ _ _ _ _ _ _ _ _ _ _ _ _ _ _ _ _ _ _ _ _ _ _ _ _ _ _ _ _ _ e9
    iexists ((gX (kOf (grid0.coords t)) (iblk m c 0 t) d10)); isplitr
    · ipureintro; exact good10_step m c t d10 (finds10 m c t d10 hd10)
    unfold owns; iexists _; isplitr
    swap; · iexact H10
    ipureintro; exact lo10_A c _ _ _ _ _ _ _ _ _ _ _ _ _ _ _ _ _ _ _ _ _ _ _ _ _ _ _ _ _ _ _ _ _ _ _ _ _ _ e10
  · rw [PhiS_castSucc m c t, PhiS_pos m c _ _ hz]
    rw [accs_first m c t h0]
    iintro ⟨⟨⟨HS0, HS1, HS2⟩, Hg⟩, Ho, ⟨%d0, H0⟩, ⟨%d1, H1⟩, ⟨%d2, H2⟩, ⟨%d3, H3⟩, ⟨%d4, H4⟩, ⟨%d5, %hd5, H5⟩, ⟨%d6, %hd6, H6⟩, ⟨%d7, %hd7, H7⟩, ⟨%d8, %hd8, H8⟩, ⟨%d9, %hd9, H9⟩, ⟨%d10, %hd10, H10⟩⟩
    iapply ((kernelRun0_A c (grid0.coords t) _ _ _ _ _ _ _ _ _ _ _ _ _ _ _ _ _ _ _ _ _ _ _ _ _ _ _ _ ((hcond0_0 t).mpr h0) (fun h => h1 ((hcond0_1 t).mp h)) (fun h => h2 ((hcond0_2 t).mp h)) (iblk m c 0 t) (iblk m c 1 t) (iblk m c 2 t) (iblk m c 3 t) (iblk m c 4 t) d10).2.2.2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexact H10
    isplitl [HS0]; · iexact HS0
    isplitl [HS1]; · iexact HS1
    isplitl [HS2]; · iexists _; iexact HS2
    iintro ⟨H0, H1, H2, H3, H4, ⟨%e5, H5⟩, ⟨%e6, H6⟩, ⟨%e7, H7⟩, ⟨%e8, H8⟩, ⟨%e9, H9⟩, ⟨%e10, H10⟩, ⟨%fT0, HS0⟩, ⟨%fT1, HS1⟩, ⟨%es2, HS2⟩⟩
    isplitl [HS0 HS1 HS2 Hg]
    · isplitl [HS0 HS1 HS2]
      · isplitl [HS0]
        · iexists _; unfold owns; iexists _; isplitr
          swap; · iexact HS0
          ipureintro; rfl
        isplitl [HS1]
        · iexists _; unfold owns; iexists _; isplitr
          swap; · iexact HS1
          ipureintro; rfl
        unfold owns; iexists _; isplitr
        swap; · iexact HS2
        ipureintro; exact ls2_A c _ _ _ _ _ _ _ _ _ _ _ _ _ _ _ _ _ _ _ _ _ _ _ _ _ _ _ _ _ _ _ _ _ _ _ _ _ _ es2
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · iexists e5; isplitr
      · ipureintro; exact fun h => absurd h h2
      iexact H5
    isplitl [H6]
    · iexists e6; isplitr
      · ipureintro; exact fun h => absurd h h2
      iexact H6
    isplitl [H7]
    · iexists e7; isplitr
      · ipureintro; exact fun h => absurd h h2
      iexact H7
    isplitl [H8]
    · iexists e8; isplitr
      · ipureintro; exact fun h => absurd h h2
      iexact H8
    isplitl [H9]
    · iexists (out9 m c t); isplitr
      · ipureintro; exact rfl
      unfold owns; iexists _; isplitr
      swap; · iexact H9
      ipureintro; exact lo9_A c _ _ _ _ _ _ _ _ _ _ _ _ _ _ _ _ _ _ _ _ _ _ _ _ _ _ _ _ _ _ _ _ _ _ _ _ _ _ e9
    iexists ((gX (kOf (grid0.coords t)) (iblk m c 0 t) d10)); isplitr
    · ipureintro; exact good10_step m c t d10 (finds10 m c t d10 hd10)
    unfold owns; iexists _; isplitr
    swap; · iexact H10
    ipureintro; exact lo10_A c _ _ _ _ _ _ _ _ _ _ _ _ _ _ _ _ _ _ _ _ _ _ _ _ _ _ _ _ _ _ _ _ _ _ _ _ _ _ e10

set_option maxHeartbeats 4000000 in
/-- The body at a point of case B. -/
theorem sound_B (c : Dev nD) (t : Fin cfg0.N) (h0 : ¬t.val % 16 = 0) (h1 : 1 ≤ t.val % 16) (h2 : ¬t.val % 16 = 15) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, leaves0_0, leaves0_1, leaves0_2, leaves0_3, leaves0_4]
  rw [show (dats m 0 c).owesAt () t.succ = (dats m 0 c).owesAt () t.castSucc from rfl]
  rw [show (dats m 0 c).Φ t.succ = PhiS m c (t.val + 1) t.isLt from rfl, PhiS_succ]
  have hz : t.val ≠ 0 := fun h => h0 (by rw [h])
  rw [PhiS_castSucc m c t, PhiS_pos m c _ _ hz]
  rw [accs_next m c t h0]
  iintro ⟨⟨⟨HS0, HS1, HS2⟩, Hg⟩, Ho, ⟨%d0, H0⟩, ⟨%d1, H1⟩, ⟨%d2, H2⟩, ⟨%d3, H3⟩, ⟨%d4, H4⟩, ⟨%d5, %hd5, H5⟩, ⟨%d6, %hd6, H6⟩, ⟨%d7, %hd7, H7⟩, ⟨%d8, %hd8, H8⟩, ⟨%d9, %hd9, H9⟩, ⟨%d10, %hd10, H10⟩⟩
  iapply ((kernelRun0_B c (grid0.coords t) _ _ _ _ _ _ _ _ _ _ _ _ _ _ _ _ _ _ _ _ _ _ _ _ _ _ _ _ (fun h => h0 ((hcond0_0 t).mp h)) ((hcond0_1 t).mpr h1) (fun h => h2 ((hcond0_2 t).mp h)) (iblk m c 0 t) (iblk m c 1 t) (iblk m c 2 t) (iblk m c 3 t) (iblk m c 4 t) d10 _).2.2.2.2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexact H10
  isplitl [HS0]; · iexact HS0
  isplitl [HS1]; · iexact HS1
  isplitl [HS2]; · iexact HS2
  iintro ⟨H0, H1, H2, H3, H4, ⟨%e5, H5⟩, ⟨%e6, H6⟩, ⟨%e7, H7⟩, ⟨%e8, H8⟩, ⟨%e9, H9⟩, ⟨%e10, H10⟩, ⟨%fT0, HS0⟩, ⟨%fT1, HS1⟩, ⟨%es2, HS2⟩⟩
  isplitl [HS0 HS1 HS2 Hg]
  · isplitl [HS0 HS1 HS2]
    · isplitl [HS0]
      · iexists _; unfold owns; iexists _; isplitr
        swap; · iexact HS0
        ipureintro; rfl
      isplitl [HS1]
      · iexists _; unfold owns; iexists _; isplitr
        swap; · iexact HS1
        ipureintro; rfl
      unfold owns; iexists _; isplitr
      swap; · iexact HS2
      ipureintro; exact ls2_B c _ _ _ _ _ _ _ _ _ _ _ _ _ _ _ _ _ _ _ _ _ _ _ _ _ _ _ _ _ _ _ _ _ _ _ _ _ _ _ es2
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · iexists e5; isplitr
    · ipureintro; exact fun h => absurd h h2
    iexact H5
  isplitl [H6]
  · iexists e6; isplitr
    · ipureintro; exact fun h => absurd h h2
    iexact H6
  isplitl [H7]
  · iexists e7; isplitr
    · ipureintro; exact fun h => absurd h h2
    iexact H7
  isplitl [H8]
  · iexists e8; isplitr
    · ipureintro; exact fun h => absurd h h2
    iexact H8
  isplitl [H9]
  · iexists (out9 m c t); isplitr
    · ipureintro; exact rfl
    unfold owns; iexists _; isplitr
    swap; · iexact H9
    ipureintro; exact lo9_B c _ _ _ _ _ _ _ _ _ _ _ _ _ _ _ _ _ _ _ _ _ _ _ _ _ _ _ _ _ _ _ _ _ _ _ _ _ _ _ e9
  iexists ((gX (kOf (grid0.coords t)) (iblk m c 0 t) d10)); isplitr
  · ipureintro; exact good10_step m c t d10 (finds10 m c t d10 hd10)
  unfold owns; iexists _; isplitr
  swap; · iexact H10
  ipureintro; exact lo10_B c _ _ _ _ _ _ _ _ _ _ _ _ _ _ _ _ _ _ _ _ _ _ _ _ _ _ _ _ _ _ _ _ _ _ _ _ _ _ _ e10

set_option maxHeartbeats 4000000 in
/-- The body at a point of case C. -/
theorem sound_C (c : Dev nD) (t : Fin cfg0.N) (h0 : ¬t.val % 16 = 0) (h1 : 1 ≤ t.val % 16) (h2 : t.val % 16 = 15) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, leaves0_0, leaves0_1, leaves0_2, leaves0_3, leaves0_4]
  rw [show (dats m 0 c).owesAt () t.succ = (dats m 0 c).owesAt () t.castSucc from rfl]
  rw [show (dats m 0 c).Φ t.succ = PhiS m c (t.val + 1) t.isLt from rfl, PhiS_succ]
  have hz : t.val ≠ 0 := fun h => h0 (by rw [h])
  rw [PhiS_castSucc m c t, PhiS_pos m c _ _ hz]
  rw [accs_next m c t h0]
  iintro ⟨⟨⟨HS0, HS1, HS2⟩, Hg⟩, Ho, ⟨%d0, H0⟩, ⟨%d1, H1⟩, ⟨%d2, H2⟩, ⟨%d3, H3⟩, ⟨%d4, H4⟩, ⟨%d5, %hd5, H5⟩, ⟨%d6, %hd6, H6⟩, ⟨%d7, %hd7, H7⟩, ⟨%d8, %hd8, H8⟩, ⟨%d9, %hd9, H9⟩, ⟨%d10, %hd10, H10⟩⟩
  iapply ((kernelRun0_C c (grid0.coords t) _ _ _ _ _ _ _ _ _ _ _ _ _ _ _ _ _ _ _ _ _ _ _ _ _ _ _ _ (fun h => h0 ((hcond0_0 t).mp h)) ((hcond0_1 t).mpr h1) ((hcond0_2 t).mpr h2) (iblk m c 0 t) (iblk m c 1 t) (iblk m c 2 t) (iblk m c 3 t) (iblk m c 4 t) d10 _).2.2.2.2.2.2.2.2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexact H10
  isplitl [HS0]; · iexact HS0
  isplitl [HS1]; · iexact HS1
  isplitl [HS2]; · iexact HS2
  iintro ⟨H0, H1, H2, H3, H4, ⟨%e5, H5⟩, ⟨%e6, H6⟩, ⟨%e7, H7⟩, ⟨%e8, H8⟩, ⟨%e9, H9⟩, ⟨%e10, H10⟩, ⟨%fT0, HS0⟩, ⟨%fT1, HS1⟩, ⟨%es2, HS2⟩⟩
  isplitl [HS0 HS1 HS2 Hg]
  · isplitl [HS0 HS1 HS2]
    · isplitl [HS0]
      · iexists _; unfold owns; iexists _; isplitr
        swap; · iexact HS0
        ipureintro; rfl
      isplitl [HS1]
      · iexists _; unfold owns; iexists _; isplitr
        swap; · iexact HS1
        ipureintro; rfl
      unfold owns; iexists _; isplitr
      swap; · iexact HS2
      ipureintro; exact ls2_C c _ _ _ _ _ _ _ _ _ _ _ _ _ _ _ _ _ _ _ _ _ _ _ _ _ _ _ _ _ _ _ _ _ _ _ _ _ _ _ es2
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · iexists (out5 m c t); isplitr
    · ipureintro; exact fun _ => rfl
    unfold owns; iexists _; isplitr
    swap; · iexact H5
    ipureintro; unfold out5; rw [accs_next m c t h0]; exact lo5_C c _ _ _ _ _ _ _ _ _ _ _ _ _ _ _ _ _ _ _ _ _ _ _ _ _ _ _ _ _ _ _ _ _ _ _ _ _ _ _ e5
  isplitl [H6]
  · iexists (out6 m c t); isplitr
    · ipureintro; exact fun _ => rfl
    unfold owns; iexists _; isplitr
    swap; · iexact H6
    ipureintro; unfold out6; rw [accs_next m c t h0]; exact lo6_C c _ _ _ _ _ _ _ _ _ _ _ _ _ _ _ _ _ _ _ _ _ _ _ _ _ _ _ _ _ _ _ _ _ _ _ _ _ _ _ e6
  isplitl [H7]
  · iexists (out7 m c t); isplitr
    · ipureintro; exact fun _ => rfl
    unfold owns; iexists _; isplitr
    swap; · iexact H7
    ipureintro; unfold out7; rw [accs_next m c t h0]; exact lo7_C c _ _ _ _ _ _ _ _ _ _ _ _ _ _ _ _ _ _ _ _ _ _ _ _ _ _ _ _ _ _ _ _ _ _ _ _ _ _ _ e7
  isplitl [H8]
  · iexists (out8 m c t); isplitr
    · ipureintro; exact fun _ => rfl
    unfold owns; iexists _; isplitr
    swap; · iexact H8
    ipureintro; unfold out8; rw [accs_next m c t h0]; exact lo8_C c _ _ _ _ _ _ _ _ _ _ _ _ _ _ _ _ _ _ _ _ _ _ _ _ _ _ _ _ _ _ _ _ _ _ _ _ _ _ _ e8
  isplitl [H9]
  · iexists (out9 m c t); isplitr
    · ipureintro; exact rfl
    unfold owns; iexists _; isplitr
    swap; · iexact H9
    ipureintro; exact lo9_C c _ _ _ _ _ _ _ _ _ _ _ _ _ _ _ _ _ _ _ _ _ _ _ _ _ _ _ _ _ _ _ _ _ _ _ _ _ _ _ e9
  iexists ((gX (kOf (grid0.coords t)) (iblk m c 0 t) d10)); isplitr
  · ipureintro; exact good10_step m c t d10 (finds10 m c t d10 hd10)
  unfold owns; iexists _; isplitr
  swap; · iexact H10
  ipureintro; exact lo10_C c _ _ _ _ _ _ _ _ _ _ _ _ _ _ _ _ _ _ _ _ _ _ _ _ _ _ _ _ _ _ _ _ _ _ _ _ _ _ _ e10

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h0 : t.val % 16 = 0
  · exact sound_A m c t h0 (by omega) (by omega)
  · by_cases h2 : t.val % 16 = 15
    · exact sound_C m c t h0 (by omega) h2
    · exact sound_B m c t h0 (by omega) h2

/-- The body table's row at a point's slots is the body. -/
theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : Pipeline.BodyObligationRel (dats (F := F) m 0 c) (defs₀ (F := F)) Variants.none () Set.univ forgets0 (Rl m c) := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]
    · iexact HS0
    isplitl [HS1]
    · iexact HS1
    iexists _; iexact HS2
  iexact Hg

/-- The same after the last point. -/
theorem hout (c : Dev nD) : (dats m 0 c).Φ (Fin.last cfg0.N) ⊢ Pipeline.ΦA spec0 c :=
  Phi_out m c _ (by rw [Fin.val_last]; have : cfg0.N = 192 := N_0; omega)

/-! ## The run and the frame -/

/-- The run of a pipeline whose exact data are read relationally, at any data. -/
theorem run_rel (dats : (p : Fin 1) → (c : Dev nD) → Dat τ (Elt F) Unit ℕ (UR sig nD τ) ℕ (cfgs p) c)
    (fgt : Fin cfg0.W → Bool) (Rl : (c : Dev nD) → (w : Fin cfg0.W) → Fin cfg0.N → ((cfg0.win w).block.Idx → Elt F (cfg0.win w).elt) → Prop)
    (hbody : ∀ c, Pipeline.BodyObligationRel (dats 0 c) (defs₀ (F := F)) Variants.none () Set.univ fgt (Rl c))
    (hshare : ∀ c w, (dats 0 c).share w = fullShare) (howed : ∀ c t, (dats 0 c).owed t = 0)
    (hA : ∀ c w, (dats 0 c).A w = V m c (Pipeline.arrRef spec0 w))
    (hin : ∀ c, Pipeline.ΦA spec0 c ⊢ (dats 0 c).Φ 0) (hout : ∀ c, (dats 0 c).Φ (Fin.last cfg0.N) ⊢ Pipeline.ΦA spec0 c) :
    θ_run defs (onTc (τ := τ) (main (F := F))) (s₀ m ρ)
      (fun r => (Pipeline.RDat.FramePost (cfgs 0) (fun c => (dats 0 c).toRRel fgt (Rl c)) (V m)) r ∧ r.2.sem = fun _ => 0) :=
  Pipeline.RDat.θ_run_frame_track cfgs (0 : Fin 1) launch0 defs₀ Variants.none (fun c => (dats 0 c).toRRel fgt (Rl c)) m ρ main
    (fun c => (hbody c).toRRel) hshare howed (V m) (hmain m Variants.none) hA hin hout _ (fun _ h => h)

/-- The run: every output's array is made of blocks that meet their relation, and every counter ends at zero. -/
theorem run_main_quiescent : θ_run defs (onTc (τ := τ) (main (F := F))) (s₀ m ρ)
    (fun r => (Pipeline.RDat.FramePost (cfgs 0) (fun c => rdat m c) (V m)) r ∧ r.2.sem = fun _ => 0) :=
  run_rel m ρ (dats m) forgets0 (Rl m) (body_obligation m) (fun c => (dats m 0 c).share_full fun _ => rfl) (fun _ _ => rfl)
    (A_eq m) (hin m) (hout m)

/-- The argument arrays after any run of relational data. -/
theorem frame_ofR (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (Pipeline.mem_restRefs_of main_arg0 (by decide) (by decide))).trans (V_main_arg0 m c),
      (Pipeline.RDat.FramePost.arr_in h c 1 rfl).trans ((hA c 1).trans (V_main_arg1 m c)),
      (Pipeline.RDat.FramePost.arr_in h c 2 rfl).trans ((hA c 2).trans (V_main_arg2 m c)),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) h

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_ofR m ρ (fun c => rdat m c) (A_eq m) ((θ_run defs _ _).mono (fun _ h => h.1) (run_main_quiescent m ρ))

/-- The frame: the argument arrays end unchanged, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.KernelIdeal.Gen

end
-- ==== Proof.KFrame.lean ====
/- The frame of the program as printed, from the frame of the same text read at the ideal instance: the two
   modules carry one program, so the proof for every float family serves both. -/
module

public import proofs.«01_k».proof.Defs
public import proofs.«01_k».proof.Proof.Gen.Kernel
public import proofs.«01_k».proof.Proof.IFrame

@[expose] public section

noncomputable section

namespace Cert.Kernel.Gen

open Idealize.ShloMosaic Idealize.ShloMosaic.TcCoe Idealize.SL.Sem

/-- `quiescent_Kernel`, said of the module printed for the ideal instance: the same program text. -/
def sameFrame : Prop :=
  ∀ (m : (ℓ : Loc Cert.KernelIdeal.nD Cert.KernelIdeal.τ Cert.KernelIdeal.sig) → Buf (Elt Bits) ℓ) (g : Dev Cert.KernelIdeal.nD → PrngReg), True →
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

/-- The two statements are one: the programs are the same term. -/
theorem same : sameFrame = Cert.quiescent_Kernel (hKernel := Cert.Kernel.Gen.facts) := by sl_kernel_rfl

/-- The frame of the printed program. -/
theorem quiescent : Cert.quiescent_Kernel (hKernel := Cert.Kernel.Gen.facts) :=
  Eq.mp same fun m g _ => Cert.KernelIdeal.Gen.frame (F := Bits) m g

end Cert.Kernel.Gen

end
-- ==== Proof.Scale.lean ====
/- The scale of a group of 128 entries, over the extended reals: the kernel's word, counted from the powers of two
   up to `t`, and the reference's power of two, from the logarithm of `t`, are one number. -/
module

public import Idealize.ShloMosaic.PureOps.Ideal
public import Idealize.ShloMosaic.PureOps.Ideal.Laws
public import Idealize.ShloMosaic.PureOps.Reduce
public import Idealize.ShloMosaic.Lib.IndicatorCount

@[expose] public section

noncomputable section

namespace Cert.Math

open Idealize.ShloMosaic

/-! ## The floats whose fraction is zero -/

/-- The fields of the word of a float with exponent field `j` and nothing else. -/
theorem field_bits : ∀ j : Fin 256, ((BitVec.ofNat 32 j.val <<< 23).extractLsb' 23 8).toNat = j.val
    ∧ ((BitVec.ofNat 32 j.val <<< 23).extractLsb' 0 23).toNat = 0
    ∧ ((BitVec.ofNat 32 j.val <<< 23).extractLsb' 31 1 == 1#1) = false := by decide +kernel

/-- The float with exponent field `j` and fraction zero. -/
def fieldVal (j : ℕ) : EReal := Ideal.ieee 8 23 (BitVec.ofNat 32 j <<< 23)

/-- Field zero is zero. -/
theorem fieldVal_zero : fieldVal 0 = 0 := by
  obtain ⟨h1, h2, h3⟩ := field_bits 0
  unfold fieldVal Ideal.ieee
  simp only [show (8 + 23 : ℕ) = 31 from rfl] at *
  simp [h1, h2, h3]

/-- The last field is the infinity. -/
theorem fieldVal_top : fieldVal 255 = ⊤ := by
  obtain ⟨h1, h2, h3⟩ := field_bits 255
  unfold fieldVal Ideal.ieee
  simp only [show (8 + 23 : ℕ) = 31 from rfl] at *
  simp [h1, h2, h3]

/-- Every other field is a power of two. -/
theorem fieldVal_pow (j : ℕ) (h0 : 0 < j) (h : j < 255) : fieldVal j = (((2 : ℝ) ^ ((j : ℤ) - 127) : ℝ) : EReal) := by
  obtain ⟨h1, h2, h3⟩ := field_bits ⟨j, by omega⟩
  unfold fieldVal Ideal.ieee
  simp only [show (8 + 23 : ℕ) = 31 from rfl] at *
  simp only [h1, h2, h3]
  rw [if_neg (by omega), if_neg (by omega)]
  refine congrArg (fun x : ℝ => (x : EReal)) ?_
  rw [show ((j : ℤ) - 127) = 23 + ((j : ℤ) - (2 ^ (8 - 1) - 1) - (23 : ℕ)) by norm_num, zpow_add₀ (by norm_num)]
  norm_num

/-! ## The reference's scale -/

/-- `t`, with what is below the smallest normal float taken as zero. -/
def rT (t : EReal) : EReal := Scalar.select (Ideal.cmp .olt t (Ideal.ofBits .f32 0x00800000#32)) (Ideal.ofBits .f32 0x00000000#32) t

/-- The exponent of the scale. -/
def rE (t : EReal) : EReal :=
  Scalar.select (Ideal.cmp .oeq (rT t) (Ideal.ofBits .f32 0x00000000#32)) (Ideal.ofBits .f32 0x00000000#32)
    (Ideal.liftRound Int.floor (Ideal.div (Ideal.log (rT t)) (Ideal.log (Ideal.ofBits .f32 0x40000000#32))) + Ideal.ofBits .f32 0x3F800000#32)

/-- The scale. -/
def rS (t : EReal) : EReal := Ideal.exp2 (rE t)

/-- The inverse of the scale. -/
def rI (t : EReal) : EReal := Ideal.exp2 (Ideal.ofBits .f32 0x00000000#32 - rE t)

/-! ## The kernel's scale -/

/-- How many of the 256 floats without fraction are at most `t`. -/
def cnt (t : EReal) : ℕ := ((Finset.univ : Finset (Fin 256)).filter fun j => fieldVal j.val ≤ t).card

/-- The word of the scale, from that number. -/
def wordN (n : BitVec 32) : BitVec 32 :=
  let e := IntOp.andi (IntOp.shli .vector (IntOp.subi n 1#32) 23#32) 2139095040#32
  Scalar.select (IntOp.ori (IntOp.cmpi .eq e 0#32) (IntOp.cmpi .eq e 2139095040#32)) 1065353216#32 (IntOp.addi e 8388608#32)

/-- The word of the scale. -/
def kW (t : EReal) : BitVec 32 := wordN (BitVec.ofNat 32 (cnt t))

/-- The scale. -/
def kS (t : EReal) : EReal := Ideal.ofBits .f32 (kW t)

/-- The inverse of the scale. -/
def kI (t : EReal) : EReal := Ideal.ofBits .f32 (IntOp.subi 2130706432#32 (kW t))

/-! ## They are equal -/

/-- The words of the scales, number by number. -/
theorem wordN_eq : ∀ p : Fin 253, 1 ≤ p.val → wordN (BitVec.ofNat 32 (p.val + 1)) = BitVec.ofNat 32 (p.val + 1) <<< 23
    ∧ IntOp.subi 2130706432#32 (wordN (BitVec.ofNat 32 (p.val + 1))) = BitVec.ofNat 32 (253 - p.val) <<< 23 := by decide +kernel

/-- With one float only, zero, at most `t` the scale is the word of one. -/
theorem wordN_one : wordN (BitVec.ofNat 32 1) = BitVec.ofNat 32 127 <<< 23
    ∧ IntOp.subi 2130706432#32 (wordN (BitVec.ofNat 32 1)) = BitVec.ofNat 32 127 <<< 23 := by decide +kernel

/-- The number of floats up to `t`, when exactly the fields up to `p` are. -/
theorem cnt_eq (t : EReal) (p : ℕ) (hp : p < 256) (h : ∀ j, j < 256 → (fieldVal j ≤ t ↔ j ≤ p)) : cnt t = p + 1 := by
  unfold cnt
  rw [show ((Finset.univ : Finset (Fin 256)).filter fun j => fieldVal j.val ≤ t) = Finset.Iic (⟨p, hp⟩ : Fin 256) from by
    ext j
    simp only [Finset.mem_filter, Finset.mem_univ, true_and, Finset.mem_Iic]
    rw [h j.val j.isLt]; exact Iff.rfl]
  rw [Fin.card_Iic]

/-- Which floats are up to `t`, for `t` between two neighbouring powers of two. -/
theorem field_le (r : ℝ) (p : ℕ) (hp1 : 1 ≤ p) (hp : p ≤ 252) (h1 : (2 : ℝ) ^ ((p : ℤ) - 127) ≤ r) (h2 : r < (2 : ℝ) ^ ((p : ℤ) - 126)) (j : ℕ) (hj : j < 256) :
    fieldVal j ≤ (r : EReal) ↔ j ≤ p := by
  have hpos : (0 : ℝ) < 2 ^ ((p : ℤ) - 127) := by positivity
  rcases Nat.eq_zero_or_pos j with rfl | h0
  · rw [fieldVal_zero]
    exact iff_of_true (by exact_mod_cast hpos.le.trans h1) (Nat.zero_le _)
  rcases Nat.lt_or_ge j 255 with h | h
  · rw [fieldVal_pow j h0 h, EReal.coe_le_coe_iff]
    constructor
    · intro hle
      by_contra hc
      have : (2 : ℝ) ^ ((p : ℤ) - 126) ≤ 2 ^ ((j : ℤ) - 127) := zpow_le_zpow_right₀ (by norm_num) (by omega)
      linarith
    · intro hle
      exact (zpow_le_zpow_right₀ (by norm_num) (by omega)).trans h1
  · have : j = 255 := by omega
    subst this
    rw [fieldVal_top]
    exact iff_of_false (by simp) (by omega)

/-- Which floats are up to `t`, for `t` below the smallest normal float. -/
theorem field_le_small (r : ℝ) (h1 : 0 ≤ r) (h2 : r < (2 : ℝ) ^ (-126 : ℤ)) (j : ℕ) (hj : j < 256) : fieldVal j ≤ (r : EReal) ↔ j ≤ 0 := by
  rcases Nat.eq_zero_or_pos j with rfl | h0
  · rw [fieldVal_zero]
    exact iff_of_true (by exact_mod_cast h1) (Nat.zero_le _)
  rcases Nat.lt_or_ge j 255 with h | h
  · rw [fieldVal_pow j h0 h, EReal.coe_le_coe_iff]
    refine iff_of_false ?_ (by omega)
    have : (2 : ℝ) ^ (-126 : ℤ) ≤ 2 ^ ((j : ℤ) - 127) := zpow_le_zpow_right₀ (by norm_num) (by omega)
    linarith
  · have : j = 255 := by omega
    subst this
    rw [fieldVal_top]
    exact iff_of_false (by simp) (by omega)

/-- The float of one. -/
theorem one_f32 : Ideal.ofBits .f32 0x3F800000#32 = ((1 : ℝ) : EReal) := by
  refine (fieldVal_pow 127 (by decide) (by decide)).trans ?_
  norm_num

/-- A bit made of a truth value. -/
theorem ofBool_one (b : Bool) : BitVec.ofBool b = 1 ↔ b = true := by cases b <;> decide

/-- The float of two. -/
theorem two_f32 : Ideal.ofBits .f32 0x40000000#32 = ((2 : ℝ) : EReal) := by
  have := fieldVal_pow 128 (by decide) (by decide)
  norm_num at this
  exact this

/-- The smallest normal float. -/
theorem tiny_f32 : Ideal.ofBits .f32 0x00800000#32 = (((2 : ℝ) ^ (-126 : ℤ) : ℝ) : EReal) := by
  have := fieldVal_pow 1 (by decide) (by decide)
  norm_num at this ⊢
  exact this

/-- Below the smallest normal float the exponent is zero. -/
theorem rE_small (r : ℝ) (h2 : r < (2 : ℝ) ^ (-126 : ℤ)) : rE (r : EReal) = 0 := by
  have e : rT (r : EReal) = 0 := by
    unfold rT Ideal.cmp Scalar.select
    rw [tiny_f32, Ideal.ofBits_zero_f32, if_pos]
    exact (ofBool_one _).mpr (decide_eq_true (EReal.coe_lt_coe_iff.mpr h2))
  unfold rE Ideal.cmp Scalar.select
  rw [e, Ideal.ofBits_zero_f32, if_pos]
  simp

/-- Between two neighbouring powers of two the exponent is the upper one's. -/
theorem rE_eq (r : ℝ) (p : ℤ) (hp : -126 ≤ p) (h1 : (2 : ℝ) ^ p ≤ r) (h2 : r < (2 : ℝ) ^ (p + 1)) : rE (r : EReal) = ((((p + 1 : ℤ) : ℝ)) : EReal) := by
  have hpos : (0 : ℝ) < r := lt_of_lt_of_le (by positivity) h1
  have htiny : (2 : ℝ) ^ (-126 : ℤ) ≤ r := (zpow_le_zpow_right₀ (by norm_num) hp).trans h1
  have e : rT (r : EReal) = r := by
    unfold rT Ideal.cmp Scalar.select
    rw [tiny_f32, if_neg]
    rw [ofBool_one, decide_eq_true_eq, EReal.coe_lt_coe_iff]
    exact not_lt.mpr htiny
  have hl2 : (0 : ℝ) < Real.log 2 := Real.log_pos (by norm_num)
  have hfl : ⌊Real.log r / Real.log 2⌋ = p := by
    rw [Int.floor_eq_iff]
    have a1 : (p : ℝ) * Real.log 2 ≤ Real.log r := by
      rw [← Real.log_zpow]; exact Real.log_le_log (by positivity) h1
    have a2 : Real.log r < ((p + 1 : ℤ) : ℝ) * Real.log 2 := by
      rw [← Real.log_zpow]; exact Real.log_lt_log hpos h2
    constructor
    · rwa [le_div_iff₀ hl2]
    · rw [div_lt_iff₀ hl2]; push_cast at a2; exact a2
  unfold rE
  rw [e, Ideal.ofBits_zero_f32, one_f32, two_f32, Ideal.log_coe, Ideal.log_coe, if_neg (by linarith), if_neg (by norm_num)]
  unfold Ideal.cmp Scalar.select
  rw [if_neg (by rw [ofBool_one, decide_eq_true_eq]; exact_mod_cast hpos.ne')]
  unfold Ideal.div
  rw [if_neg (by simpa using hl2.ne')]
  rw [← EReal.coe_inv, ← EReal.coe_mul]
  show ((⌊Real.log r * (Real.log 2)⁻¹⌋ : ℝ) : EReal) + _ = _
  rw [← div_eq_mul_inv, hfl]
  push_cast
  rfl

/-- A nonnegative number below `2^126` is below the smallest normal float or between two neighbouring powers of two. -/
theorem cases_t (t : EReal) (h0 : 0 ≤ t) (h1 : t < (((2 : ℝ) ^ (126 : ℤ) : ℝ) : EReal)) : ∃ r : ℝ, t = r ∧ 0 ≤ r ∧
    (r < (2 : ℝ) ^ (-126 : ℤ) ∨ ∃ p : ℕ, 1 ≤ p ∧ p ≤ 252 ∧ (2 : ℝ) ^ ((p : ℤ) - 127) ≤ r ∧ r < (2 : ℝ) ^ ((p : ℤ) - 126)) := by
  have ht : t ≠ ⊤ := (h1.trans (EReal.coe_lt_top _)).ne
  have hb : t ≠ ⊥ := (lt_of_lt_of_le EReal.bot_lt_zero h0).ne'
  lift t to ℝ using ⟨ht, hb⟩ with r
  rw [EReal.coe_lt_coe_iff] at h1
  have h0' : 0 ≤ r := by exact_mod_cast h0
  refine ⟨r, rfl, h0', ?_⟩
  by_cases hs : r < (2 : ℝ) ^ (-126 : ℤ)
  · exact .inl hs
  right
  have hs' := not_lt.mp hs
  have hpos : 0 < r := lt_of_lt_of_le (by positivity) hs'
  obtain ⟨n, hn1, hn2⟩ := exists_mem_Ico_zpow (y := (2 : ℝ)) hpos (by norm_num)
  have b1 : -126 < n + 1 := (zpow_lt_zpow_iff_right₀ (by norm_num : (1 : ℝ) < 2)).mp (hs'.trans_lt hn2)
  have b2 : n < 126 := (zpow_lt_zpow_iff_right₀ (by norm_num : (1 : ℝ) < 2)).mp (hn1.trans_lt h1)
  refine ⟨(n + 127).toNat, by omega, by omega, ?_, ?_⟩
  · rw [show (((n + 127).toNat : ℕ) : ℤ) - 127 = n by omega]; exact hn1
  · rw [show (((n + 127).toNat : ℕ) : ℤ) - 126 = n + 1 by omega]; exact hn2

/-- Two to a whole number. -/
theorem exp2_int (z : ℤ) : Ideal.exp2 (((z : ℝ)) : EReal) = (((2 : ℝ) ^ z : ℝ) : EReal) := by
  rw [Ideal.exp2_coe]
  show ((((2 : ℝ) ^ ((z : ℝ)) : ℝ)) : EReal) = _
  rw [Real.rpow_intCast]

/-- The scales and their inverses are equal, for every nonnegative `t` below `2^126`. -/
theorem scale_eq (t : EReal) (h0 : 0 ≤ t) (h1 : t < (((2 : ℝ) ^ (126 : ℤ) : ℝ) : EReal)) : kS t = rS t ∧ kI t = rI t := by
  obtain ⟨r, rfl, hr, h | ⟨p, hp1, hp2, ha, hb⟩⟩ := cases_t t h0 h1
  · have hc := cnt_eq (r : EReal) 0 (by decide) fun j hj => field_le_small r hr h j hj
    unfold kS kI rS rI kW
    rw [hc, rE_small r h, wordN_one.2, wordN_one.1, Ideal.ofBits_zero_f32]
    have e : Ideal.ofBits .f32 (BitVec.ofNat 32 127 <<< 23) = 1 := by
      refine (fieldVal_pow 127 (by decide) (by decide)).trans ?_
      norm_num
    have e0 : Ideal.exp2 0 = 1 := by
      have := exp2_int 0
      simpa using this
    rw [sub_zero, e0, e]
    exact ⟨rfl, rfl⟩
  · have hc := cnt_eq (r : EReal) p (by omega) fun j hj => field_le r p hp1 hp2 ha hb j hj
    have hE := rE_eq r ((p : ℤ) - 127) (by omega) ha (by rw [show (p : ℤ) - 127 + 1 = p - 126 by ring]; exact hb)
    obtain ⟨w1, w2⟩ := wordN_eq ⟨p, by omega⟩ hp1
    unfold kS kI rS rI kW
    rw [hc, hE, w2, w1, exp2_int, Ideal.ofBits_zero_f32, zero_sub, ← EReal.coe_neg, ← Int.cast_neg, exp2_int]
    constructor
    · refine (fieldVal_pow (p + 1) (by omega) (by omega)).trans ?_
      congr 3
      push_cast; ring
    · refine (fieldVal_pow (253 - p) (by omega) (by omega)).trans ?_
      congr 3
      omega

end Cert.Math

end
-- ==== Proof.Quant.lean ====
/- Row by row, over the extended reals: the largest absolute value of a group of 128 entries, the clipping of a code, the
   root-mean-square normalisation of a row; and the bounds that put every group's `t` below `2^126`. -/
module

public import proofs.«01_k».proof.Proof.Scale

@[expose] public section

noncomputable section

namespace Cert.Math

open Idealize.ShloMosaic

/-- The largest absolute value of a group. -/
def amaxF {n : ℕ} (f : Fin n → EReal) : EReal :=
  (Finset.univ : Finset (Fin n)).fold max (Ideal.ofBits .f32 0xFF800000#32) (fun j => max (f j) (-(f j)))

/-- The largest absolute value over 448. -/
def tF {n : ℕ} (f : Fin n → EReal) : EReal := amaxF f * Ideal.ofBits .f32 0x3B124925#32

/-- A code: clipped at 448. -/
def clip (x : EReal) : EReal := min (Ideal.ofBits .f32 0x43E00000#32) (max (Ideal.ofBits .f32 0xC3E00000#32) x)

/-- An entry of a row over the root of the row's mean square. -/
def nrm {n : ℕ} (c : EReal) (A : Fin n → EReal) (j : Fin n) : EReal :=
  A j * Ideal.rsqrt (Ideal.div (∑ i, A i * A i) c + Ideal.ofBits .f32 0x358637BD#32)

/-! ## Constants -/

/-- A normal float read. -/
theorem f32_val (b : BitVec 32) (ex fr : ℕ) (h1 : (b.extractLsb' 23 8).toNat = ex) (h2 : (b.extractLsb' 0 23).toNat = fr)
    (h3 : (b.extractLsb' 31 1 == 1#1) = false) (h : ex ≠ 255) (h' : ex ≠ 0) :
    Ideal.ofBits .f32 b = ((((2 ^ 23 + fr : ℕ) : ℝ) * (2 : ℝ) ^ ((ex : ℤ) - 127 - 23) : ℝ) : EReal) := by
  refine (show Ideal.ofBits .f32 b = Ideal.ieee (w := 32) 8 23 b from rfl).trans ?_
  unfold Ideal.ieee
  simp only [show (8 + 23 : ℕ) = 31 from rfl, h1, h2, h3]
  rw [if_neg (show ¬ ex = 2 ^ 8 - 1 from h), if_neg h']
  refine congrArg (fun x : ℝ => (x : EReal)) ?_
  norm_num

/-- A normal bf16 read. -/
theorem bf16_val (b : BitVec 16) (ex fr : ℕ) (h1 : (b.extractLsb' 7 8).toNat = ex) (h2 : (b.extractLsb' 0 7).toNat = fr)
    (h3 : (b.extractLsb' 15 1 == 1#1) = false) (h : ex ≠ 255) (h' : ex ≠ 0) :
    Ideal.ofBits .bf16 b = ((((2 ^ 7 + fr : ℕ) : ℝ) * (2 : ℝ) ^ ((ex : ℤ) - 127 - 7) : ℝ) : EReal) := by
  refine (show Ideal.ofBits .bf16 b = Ideal.ieee (w := 16) 8 7 b from rfl).trans ?_
  unfold Ideal.ieee
  simp only [show (8 + 7 : ℕ) = 15 from rfl, h1, h2, h3]
  rw [if_neg (show ¬ ex = 2 ^ 8 - 1 from h), if_neg h']
  refine congrArg (fun x : ℝ => (x : EReal)) ?_
  norm_num

/-- The accumulator of a maximum is the least extended real. -/
theorem ofBits_bot : Ideal.ofBits .f32 0xFF800000#32 = ⊥ := by
  refine (show Ideal.ofBits .f32 0xFF800000#32 = Ideal.ieee (w := 32) 8 23 0xFF800000#32 from rfl).trans ?_
  unfold Ideal.ieee
  simp

/-- One over 448, as a float, is between zero and `2^-8`. -/
theorem c448 : ∃ r : ℝ, Ideal.ofBits .f32 0x3B124925#32 = (r : EReal) ∧ 0 ≤ r ∧ r ≤ (2 : ℝ) ^ (-8 : ℤ) := by
  refine ⟨_, f32_val 0x3B124925#32 118 0x124925 (by decide) (by decide) (by decide) (by decide) (by decide), by positivity, ?_⟩
  norm_num

/-- The length of a row of `q`. -/
theorem c1536 : Ideal.ofBits .f32 0x44C00000#32 = ((1536 : ℝ) : EReal) := by
  refine (f32_val 0x44C00000#32 137 0x400000 (by decide) (by decide) (by decide) (by decide) (by decide)).trans ?_
  refine congrArg (fun x : ℝ => (x : EReal)) ?_
  norm_num

/-- The term added to a mean square is positive. -/
theorem ceps : ∃ r : ℝ, Ideal.ofBits .f32 0x358637BD#32 = (r : EReal) ∧ 0 < r :=
  ⟨_, f32_val 0x358637BD#32 107 0x637BD (by decide) (by decide) (by decide) (by decide) (by decide), by positivity⟩

/-- The largest finite bf16 is below `2^128`. -/
theorem bf16_max : ∃ r : ℝ, Ideal.ofBits .bf16 0x7F7F#16 = (r : EReal) ∧ r ≤ (2 : ℝ) ^ (128 : ℤ) := by
  refine ⟨_, bf16_val 0x7F7F#16 254 0x7F (by decide) (by decide) (by decide) (by decide) (by decide), ?_⟩
  norm_num

/-! ## Bounds -/

/-- What is at most the largest finite bf16 in absolute value is a real number below `2^128`. -/
theorem real_of_le (x : EReal) (h : max x (-x) ≤ Ideal.ofBits .bf16 0x7F7F#16) : ∃ r : ℝ, x = r ∧ |r| ≤ (2 : ℝ) ^ (128 : ℤ) := by
  obtain ⟨b, hb, hb'⟩ := bf16_max
  rw [hb, max_le_iff] at h
  have h1 : x ≠ ⊤ := (h.1.trans_lt (EReal.coe_lt_top b)).ne
  have h2 : x ≠ ⊥ := by
    rintro rfl
    exact absurd (h.2.trans_lt (EReal.coe_lt_top b)) (by simp)
  lift x to ℝ using ⟨h1, h2⟩ with r
  refine ⟨r, rfl, ?_⟩
  rw [← EReal.coe_neg, EReal.coe_le_coe_iff, EReal.coe_le_coe_iff] at h
  exact abs_le.mpr ⟨by linarith, by linarith⟩

/-- The `t` of a group of bounded reals. -/
theorem tF_bound (f : Fin 128 → EReal) (h : ∀ j, ∃ r : ℝ, f j = r ∧ |r| ≤ 40 * (2 : ℝ) ^ (128 : ℤ)) :
    0 ≤ tF f ∧ tF f < (((2 : ℝ) ^ (126 : ℤ) : ℝ) : EReal) := by
  have up : amaxF f ≤ ((40 * (2 : ℝ) ^ (128 : ℤ) : ℝ) : EReal) := by
    unfold amaxF
    rw [Finset.fold_max_le, ofBits_bot]
    refine ⟨bot_le, fun j _ => ?_⟩
    obtain ⟨r, hr, hr'⟩ := h j
    rw [hr, ← EReal.coe_neg, max_le_iff, EReal.coe_le_coe_iff, EReal.coe_le_coe_iff]
    exact ⟨(le_abs_self r).trans hr', (neg_le_abs r).trans hr'⟩
  have lo : 0 ≤ amaxF f := by
    unfold amaxF
    rw [Finset.le_fold_max]
    refine .inr ⟨0, Finset.mem_univ _, ?_⟩
    obtain ⟨r, hr, _⟩ := h 0
    rw [hr, ← EReal.coe_neg]
    rcases le_total 0 r with h0 | h0
    · exact le_max_of_le_left (by exact_mod_cast h0)
    · exact le_max_of_le_right (by exact_mod_cast (neg_nonneg.mpr h0))
  obtain ⟨k, hk, hk0, hk1⟩ := c448
  have hT : amaxF f ≠ ⊤ := (up.trans_lt (EReal.coe_lt_top _)).ne
  have hB : amaxF f ≠ ⊥ := (lt_of_lt_of_le EReal.bot_lt_zero lo).ne'
  unfold tF
  rw [hk]
  generalize amaxF f = a at *
  lift a to ℝ using ⟨hT, hB⟩ with r
  rw [EReal.coe_le_coe_iff] at up
  have lo' : 0 ≤ r := by exact_mod_cast lo
  rw [← EReal.coe_mul]
  refine ⟨by exact_mod_cast mul_nonneg lo' hk0, EReal.coe_lt_coe_iff.mpr ?_⟩
  calc r * k ≤ (40 * (2 : ℝ) ^ (128 : ℤ)) * (2 : ℝ) ^ (-8 : ℤ) := mul_le_mul up hk1 hk0 (by positivity)
    _ < _ := by norm_num

/-- The square of an extended real is nonnegative. -/
theorem sq_nonneg' (x : EReal) : 0 ≤ x * x := by
  induction x with
  | bot => simp
  | top => simp
  | coe r => rw [← EReal.coe_mul]; exact_mod_cast mul_self_nonneg r

/-- An entry over the root of its row's mean square is a real number, at most the root of the row's length. -/
theorem nrm_bound (A : Fin 1536 → EReal) (j : Fin 1536) : ∃ r : ℝ, nrm (Ideal.ofBits .f32 0x44C00000#32) A j = r ∧ |r| ≤ 40 := by
  obtain ⟨e, he, he0⟩ := ceps
  unfold nrm
  rw [c1536, he]
  have hle : A j * A j ≤ ∑ i, A i * A i := Finset.single_le_sum (fun i _ => sq_nonneg' (A i)) (Finset.mem_univ j)
  have h0 : 0 ≤ ∑ i, A i * A i := Finset.sum_nonneg fun i _ => sq_nonneg' (A i)
  generalize (∑ i, A i * A i) = S at *
  generalize A j = a at *
  have hdiv : Ideal.div S ((1536 : ℝ) : EReal) = S * (((1536 : ℝ)⁻¹ : ℝ) : EReal) := by
    unfold Ideal.div
    rw [if_neg (by norm_num), EReal.coe_inv]
  rw [hdiv]
  by_cases hS : S = ⊤
  · subst hS
    rw [EReal.top_mul_coe_of_pos (by norm_num), EReal.top_add_coe, Ideal.rsqrt_top, mul_zero]
    exact ⟨0, rfl, by norm_num⟩
  have hSb : S ≠ ⊥ := (lt_of_lt_of_le EReal.bot_lt_zero h0).ne'
  have ha1 : a ≠ ⊤ := by
    rintro rfl
    rw [EReal.top_mul_top, top_le_iff] at hle
    exact hS hle
  have ha2 : a ≠ ⊥ := by
    rintro rfl
    rw [EReal.bot_mul_bot, top_le_iff] at hle
    exact hS hle
  lift S to ℝ using ⟨hS, hSb⟩ with s
  lift a to ℝ using ⟨ha1, ha2⟩ with a
  rw [← EReal.coe_mul, EReal.coe_le_coe_iff] at hle
  have h0' : 0 ≤ s := by exact_mod_cast h0
  rw [← EReal.coe_mul, ← EReal.coe_add, Ideal.rsqrt_coe]
  have hd : 0 < s * (1536 : ℝ)⁻¹ + e := by positivity
  rw [if_neg hd.le.not_gt, if_neg hd.ne', ← EReal.coe_mul]
  refine ⟨_, rfl, ?_⟩
  have hq : 0 < Real.sqrt (s * (1536 : ℝ)⁻¹ + e) := Real.sqrt_pos.mpr hd
  rw [← div_eq_mul_inv, abs_div, abs_of_pos hq, div_le_iff₀ hq]
  refine abs_le_of_sq_le_sq ?_ (by positivity)
  rw [mul_pow, Real.sq_sqrt hd.le]
  nlinarith

/-- A group of normalised entries, times bounded factors. -/
theorem nrm_mul_bound (A : Fin 1536 → EReal) (j : Fin 1536) (g : EReal) (hg : ∃ r : ℝ, g = r ∧ |r| ≤ (2 : ℝ) ^ (128 : ℤ)) :
    ∃ r : ℝ, nrm (Ideal.ofBits .f32 0x44C00000#32) A j * g = r ∧ |r| ≤ 40 * (2 : ℝ) ^ (128 : ℤ) := by
  obtain ⟨p, hp, hp'⟩ := nrm_bound A j
  obtain ⟨q, hq, hq'⟩ := hg
  refine ⟨p * q, by rw [hp, hq, EReal.coe_mul], ?_⟩
  rw [abs_mul]
  exact mul_le_mul hp' hq' (abs_nonneg _) (by norm_num)

/-- The two scales of a group of bounded entries, and their inverses, are equal. -/
theorem scale_of_bounded (f : Fin 128 → EReal) (h : ∀ j, ∃ r : ℝ, f j = r ∧ |r| ≤ 40 * (2 : ℝ) ^ (128 : ℤ)) :
    kS (tF f) = rS (tF f) ∧ kI (tF f) = rI (tF f) :=
  scale_eq _ (tF_bound f h).1 (tF_bound f h).2

end Cert.Math

end
-- ==== Proof.KVal.lean ====
/- What the kernel's values are at an entry, over the extended reals. -/
module

public import proofs.«01_k».proof.Proof.IOut
public import proofs.«01_k».proof.Proof.Quant
public import Idealize.ShloMosaic.Lib.MatmulPlain
public import Idealize.ShloMosaic.Lib.ValueLayout
public import Idealize.ShloMosaic.Lib.ValueLayoutCasts
public import Idealize.ShloMosaic.Lib.Pointwise.Reduce
public import Idealize.ShloMosaic.Lib.Pointwise.Sums
public import Idealize.ShloMosaic.Lib.IndicatorCount

@[expose] public section

set_option maxRecDepth 16384

noncomputable section

namespace Cert.KernelIdeal.Gen

open Idealize.ShloMosaic hiding ix1 ix2 ix3
open Idealize.ShloMosaic.TcCoe Idealize.ShloMosaic.Tactic
open Idealize.ShloMosaic.ValueIdx
open Cert.Math

/-- A column broadcast along the rows reads its row's entry. -/
theorem bcast_col {α : Type} {a b : ℕ} (hb : a ≠ 1) (v : (⟨2, ![a, 1]⟩ : Shape).Idx → α) (h : (⟨2, ![a, 1]⟩ : Shape).Broadcasts ⟨2, ![a, b]⟩) (r : Fin a) (c : Fin b) :
    broadcastTo ⟨2, ![a, b]⟩ v h (ix2 r c) = v (ix2 r (0 : Fin 1)) :=
  broadcastTo_apply v h _ _ fun x => by
    match x with
    | ⟨0, _⟩ => exact (if_neg hb).symm
    | ⟨1, _⟩ => rfl

/-- The sum over a row. -/
theorem row_sum {a b : ℕ} (v : FVec Ideal ⟨2, ![a, b]⟩ .f32) (h : (⟨2, ![a, b]⟩ : Shape).Reduces [1] ⟨1, ![a]⟩) (hφ : FKind.Formats .f32)
    (hacc : (0x00000000#32 : BitVec 32) = FKind.add.neutral .f32 hφ) (r : Fin a) :
    multiReduction .add [1] ⟨1, ![a]⟩ v 0x00000000#32 h hφ hacc (ix1 r) = ∑ k : Fin b, v (ix2 r k) := by
  rw [Ideal.multiReduction_add_single]
  refine Finset.sum_congr rfl fun k _ => congrArg v (funext fun x => Fin.ext ?_)
  match x with
  | ⟨0, _⟩ => rfl
  | ⟨1, _⟩ => rfl

/-- The largest entry of a row. -/
theorem row_max {a b : ℕ} (v : FVec Ideal ⟨2, ![a, b]⟩ .f32) (h : (⟨2, ![a, b]⟩ : Shape).Reduces [1] ⟨1, ![a]⟩) (hφ : FKind.Formats .f32)
    (hacc : (0xFF800000#32 : BitVec 32) = FKind.maximumf.neutral .f32 hφ) (r : Fin a) :
    multiReduction .maximumf [1] ⟨1, ![a]⟩ v 0xFF800000#32 h hφ hacc (ix1 r)
      = (Finset.univ : Finset (Fin b)).fold max (Ideal.ofBits .f32 0xFF800000#32) (fun k => v (ix2 r k)) := by
  rw [Ideal.multiReduction_maximumf_single]
  refine congrArg (fun f => (Finset.univ : Finset (Fin b)).fold max (Ideal.ofBits .f32 0xFF800000#32) f) (funext fun k => congrArg v (funext fun x => Fin.ext ?_))
  match x with
  | ⟨0, _⟩ => rfl
  | ⟨1, _⟩ => rfl

/-- The number of ones in a row of zeros and ones. -/
theorem row_count {a b : ℕ} (p : IVec ⟨2, ![a, b]⟩ 1) (h : (⟨2, ![a, b]⟩ : Shape).Reduces [1] ⟨1, ![a]⟩) (h1 : 1 < 32) (hacc) (r : Fin a) :
    multiReductionI .add [1] ⟨1, ![a]⟩ (extui 32 p h1) 0#32 h hacc (ix1 r)
      = BitVec.ofNat 32 ((Finset.univ : Finset (Fin b)).filter fun k => p (ix2 r k) = 1#1).card := by
  rw [multiReductionI_eq_fold]
  refine (Shape.Reduces.fold_fiber_r2_a1 h (ix1 r) IntOp.addi 0#32 (extui 32 p h1)).trans ?_
  exact IndicatorCount.fold_addi_setWidth_eq_card _ _

/-- The word of a row's scale. -/
theorem wordT_apply (t : FVec Ideal S1024x1 .f32) (r : Fin 1024) : wordT t (ix2 r (0 : Fin 1)) = kW (t (ix2 r (0 : Fin 1))) := by
  unfold wordT kW
  have hc : multiReductionI .add [1] S1024 (extui 32 (cmpf .oge (broadcastTo S1024x256 t broadcasts_S1024x1_S1024x256)
      (broadcastTo S1024x256 (bitcastToFloat (F := Ideal) .f32 (shli (iota .tc S1x256 32 [1] iota_S1x256_d1_w32) (broadcast S1x256 23#32))) broadcasts_S1x256_S1024x256)) natLt_1_32)
      0#32 reduces_S1024x256_S1024 rfl (ix1 r) = BitVec.ofNat 32 (cnt (t (ix2 r (0 : Fin 1)))) := by
    refine (row_count _ _ _ _ r).trans (congrArg (BitVec.ofNat 32) ?_)
    unfold cnt
    refine congrArg Finset.card (Finset.filter_congr fun k _ => ?_)
    rw [cmpf_apply, bcast_col (by decide), broadcastTo_1b_ab_apply]
    have hf : bitcastToFloat (F := Ideal) .f32 (shli (iota .tc S1x256 32 [1] iota_S1x256_d1_w32) (broadcast S1x256 23#32)) (ix2 (0 : Fin 1) k) = fieldVal k.val := by
      show Ideal.ofBits .f32 (IntOp.shli .vector (iota .tc S1x256 32 [1] iota_S1x256_d1_w32 (ix2 (0 : Fin 1) k)) 23#32) = _
      rw [iota_single_apply]
      rfl
    rw [hf]
    exact (ofBool_one _).trans decide_eq_true_iff
  have hs := (shapeCast_a_a1_apply _ shapeCasts_S1024_S1024x1 r 0).trans hc
  exact congrArg wordN hs

/-- A row's largest absolute value over 448. -/
theorem tOf_apply (v : FVec Ideal S1024x128 .f32) (r : Fin 1024) : tOf (absf v) (ix2 r (0 : Fin 1)) = tF (fun j : Fin 128 => v (ix2 r j)) := by
  unfold tOf tF amaxF
  refine congrArg (fun x : EReal => x * Ideal.ofBits .f32 0x3B124925#32) ?_
  exact (shapeCast_a_a1_apply _ shapeCasts_S1024_S1024x1 r 0).trans (row_max _ _ _ _ r)

/-- The word of a row of a group of `x`. -/
theorem gWord_apply (v : Vec Ideal S1024x128 .bf16) (r : Fin 1024) : k0_pay70 v (ix2 r (0 : Fin 1)) = kW (tF (fun j : Fin 128 => v (ix2 r j))) := by
  rw [gWord_eq, wordT_apply]
  refine congrArg kW ?_
  unfold k0_pay69
  rw [shapeCast_self]
  exact tOf_apply (fun i => v i) r

/-- The scale of a row of a group of `x`. -/
theorem gS_apply (v : Vec Ideal S1024x128 .bf16) (r : Fin 1024) : gS v (ix2 r (0 : Fin 1)) = kS (tF (fun j : Fin 128 => v (ix2 r j))) :=
  congrArg (Ideal.ofBits .f32) (gWord_apply v r)

/-- The inverse of the scale of a row of a group of `x`. -/
theorem gI_apply (v : Vec Ideal S1024x128 .bf16) (r : Fin 1024) : k0_pay72 v (ix2 r (0 : Fin 1)) = kI (tF (fun j : Fin 128 => v (ix2 r j))) :=
  congrArg (fun w => Ideal.ofBits .f32 (IntOp.subi 2130706432#32 w)) (gWord_apply v r)

/-- A code of a group of `x`. -/
theorem gC_apply (v : Vec Ideal S1024x128 .bf16) (r : Fin 1024) (j : Fin 128) :
    gC v (ix2 r j) = clip (v (ix2 r j) * kI (tF (fun j : Fin 128 => v (ix2 r j)))) := by
  unfold gC k0_pay74 k0_pay69
  rw [shapeCast_self]
  refine congrArg (fun x : EReal => clip (v (ix2 r j) * x)) ?_
  exact (bcast_col (by decide) _ _ r j).trans (gI_apply v r)

/-- A dequantised entry of a group of `x`. -/
theorem gD_apply (v : Vec Ideal S1024x128 .bf16) (r : Fin 1024) (j : Fin 128) :
    gD v (ix2 r j) = clip (v (ix2 r j) * kI (tF (fun j : Fin 128 => v (ix2 r j)))) * kS (tF (fun j : Fin 128 => v (ix2 r j))) := by
  unfold gD k0_pay75
  rw [shapeCast_self]
  refine congrArg₂ (fun x y : EReal => x * y) (gC_apply v r j) ?_
  exact (bcast_col (by decide) _ _ r j).trans (gS_apply v r)

/-- The scale of a row of a group of normalised entries. -/
theorem qS_apply (v : FVec Ideal S1024x128 .f32) (r : Fin 1024) : qS v (ix2 r (0 : Fin 1)) = kS (tF (fun j : Fin 128 => v (ix2 r j))) :=
  congrArg (Ideal.ofBits .f32) ((wordT_apply _ r).trans (congrArg kW (tOf_apply v r)))

/-- A code of a group of normalised entries. -/
theorem qC_apply (v : FVec Ideal S1024x128 .f32) (r : Fin 1024) (j : Fin 128) :
    qC v (ix2 r j) = clip (v (ix2 r j) * kI (tF (fun j : Fin 128 => v (ix2 r j)))) := by
  unfold qC
  refine congrArg (fun x : EReal => clip (v (ix2 r j) * x)) ?_
  refine (bcast_col (by decide) _ _ r j).trans ?_
  exact congrArg (fun w => Ideal.ofBits .f32 (IntOp.subi 2130706432#32 w)) ((wordT_apply _ r).trans (congrArg kW (tOf_apply v r)))

/-- An entry of the normalised `q`. -/
theorem qNorm_apply (v : Vec Ideal S1024x1536 .f32) (g : Vec Ideal S1x1536 .bf16) (r : Fin 1024) (j : Fin 1536) :
    k0_pay7 v g (ix2 r j) = nrm (Ideal.ofBits .f32 0x44C00000#32) (fun j : Fin 1536 => v (ix2 r j)) j * g (ix2 (0 : Fin 1) j) := by
  unfold k0_pay7 nrm
  rw [shapeCast_self]
  refine congrArg₂ (fun x y : EReal => x * y) (congrArg (fun x : EReal => v (ix2 r j) * x) ?_) (broadcastTo_1b_ab_apply _ _ r j)
  refine (bcast_col (by decide) _ _ r j).trans ?_
  refine congrArg (fun x : EReal => Ideal.rsqrt (Ideal.div x (Ideal.ofBits .f32 0x44C00000#32) + Ideal.ofBits .f32 0x358637BD#32)) ?_
  exact (shapeCast_a_a1_apply _ shapeCasts_S1024_S1024x1 r 0).trans (row_sum _ _ _ _ r)

/-- An entry of the normalised `kv`. -/
theorem kvNorm_apply (v : Vec Ideal S1024x512 .f32) (g : Vec Ideal S1x512 .bf16) (r : Fin 1024) (j : Fin 512) :
    k0_pay5 (k0_pay66 v) (k0_pay67 g) (ix2 r j) = nrm (Ideal.ofBits .f32 0x44000000#32) (fun j : Fin 512 => v (ix2 r j)) j * g (ix2 (0 : Fin 1) j) := by
  unfold k0_pay5 k0_pay66 k0_pay67 nrm
  rw [shapeCast_self]
  refine congrArg₂ (fun x y : EReal => x * y) (congrArg (fun x : EReal => v (ix2 r j) * x) ?_) (broadcastTo_1b_ab_apply _ _ r j)
  refine (bcast_col (by decide) _ _ r j).trans ?_
  refine congrArg (fun x : EReal => Ideal.rsqrt (Ideal.div x (Ideal.ofBits .f32 0x44000000#32) + Ideal.ofBits .f32 0x358637BD#32)) ?_
  exact (shapeCast_a_a1_apply _ shapeCasts_S1024_S1024x1 r 0).trans (row_sum _ _ _ _ r)

/-- An entry of the product of a block. -/
theorem dot_apply (a : Vec Ideal S1024x1024 .bf16) (b : Vec Ideal S2112x1024 .bf16) (r : Fin 1024) (n : Fin 2112) :
    k0_pay2 a b (ix2 r n) = ∑ k : Fin 1024, a (ix2 r k) * b (ix2 n k) := by
  have h := Ideal.matmul_transposedRhs_apply (M := 1024) (K := 1024) (N := 2112) (φ₁ := .bf16) (φ₂ := .bf16) none a b (constant S1024x2112 .f32 0x00000000#32) r n
  refine Eq.trans ?_ (h.trans ?_)
  · rfl
  · show Ideal.ofBits .f32 0x00000000#32 + _ = _
    rw [Ideal.ofBits_zero_f32, zero_add]

/-- The first block's product. -/
theorem accFirst_apply (k : Fin 16) (x0 : Vec Ideal S1024x1024 .bf16) (x1 : Vec Ideal S2112x1024 .fp8e4m3) (x2 : Vec Ideal S17x128 .f32) (r : Fin 1024) (n : Fin 2112) :
    accFirst k x0 x1 x2 (ix2 r n) = ∑ j : Fin 1024, byGrp gD x0 (ix2 r j) * gW k x1 x2 (ix2 n j) := by
  unfold accFirst k0_pay3
  rw [shapeCast_self]
  exact dot_apply _ _ r n

/-- The product so far and the next block's. -/
theorem accNext_apply (k : Fin 16) (x0 : Vec Ideal S1024x1024 .bf16) (x1 : Vec Ideal S2112x1024 .fp8e4m3) (x2 : Vec Ideal S17x128 .f32) (a : Vec Ideal S1024x2112 .f32)
    (r : Fin 1024) (n : Fin 2112) :
    accNext k x0 x1 x2 a (ix2 r n) = a (ix2 r n) + ∑ j : Fin 1024, byGrp gD x0 (ix2 r j) * gW k x1 x2 (ix2 n j) := by
  unfold accNext k0_pay4
  rw [shapeCast_self]
  exact congrArg (fun x : EReal => a (ix2 r n) + x) (dot_apply _ _ r n)

end Cert.KernelIdeal.Gen

end
-- ==== Proof.Spec.lean ====
/- The six results as functions of the arguments' entries, over the extended reals. -/
module

public import proofs.«01_k».proof.Proof.Quant

@[expose] public section

noncomputable section

namespace Cert.Math

open Idealize.ShloMosaic

/-- The group `g` of 128 entries of a row. -/
def gr {N G : ℕ} (hN : N = 128 * G) (f : Fin N → EReal) (g : Fin G) : Fin 128 → EReal :=
  fun j => f ⟨128 * g.val + j.val, by have := g.isLt; have := j.isLt; omega⟩

/-- The group of an entry of a row. -/
def gOf {N G : ℕ} (hN : N = 128 * G) (c : Fin N) : Fin G := ⟨c.val / 128, by have := c.isLt; omega⟩

/-- The scale of a group. -/
def scale {N G : ℕ} (hN : N = 128 * G) (f : Fin N → EReal) (g : Fin G) : EReal := rS (tF (gr hN f g))

/-- The code of an entry. -/
def code {N G : ℕ} (hN : N = 128 * G) (f : Fin N → EReal) (c : Fin N) : EReal := clip (f c * rI (tF (gr hN f (gOf hN c))))

/-- The scale of a group, from the kernel's word. -/
def scaleK {N G : ℕ} (hN : N = 128 * G) (f : Fin N → EReal) (g : Fin G) : EReal := kS (tF (gr hN f g))

/-- The code of an entry, from the kernel's word. -/
def codeK {N G : ℕ} (hN : N = 128 * G) (f : Fin N → EReal) (c : Fin N) : EReal := clip (f c * kI (tF (gr hN f (gOf hN c))))

/-- For a row of bounded entries the scales are equal. -/
theorem scaleK_eq {N G : ℕ} (hN : N = 128 * G) (f : Fin N → EReal) (h : ∀ c, ∃ r : ℝ, f c = r ∧ |r| ≤ 40 * (2 : ℝ) ^ (128 : ℤ)) (g : Fin G) :
    scaleK hN f g = scale hN f g := (scale_of_bounded _ fun _ => h _).1

/-- For a row of bounded entries the codes are equal. -/
theorem codeK_eq {N G : ℕ} (hN : N = 128 * G) (f : Fin N → EReal) (h : ∀ c, ∃ r : ℝ, f c = r ∧ |r| ≤ 40 * (2 : ℝ) ^ (128 : ℤ)) (c : Fin N) :
    codeK hN f c = code hN f c := by
  unfold codeK code
  rw [(scale_of_bounded (gr hN f (gOf hN c)) fun _ => h _).2]

/-- A dequantised entry of a row of `x`. -/
def deqX (f : Fin 16384 → EReal) (k : Fin 16384) : EReal :=
  code (G := 128) rfl f k * scale (G := 128) rfl f (gOf rfl k)

/-- A dequantised weight. -/
def deqW (W : Fin 2112 → Fin 16384 → EReal) (s : Fin 17 → Fin 128 → EReal) (n : Fin 2112) (k : Fin 16384) : EReal :=
  W n k * s ⟨n.val / 128, by have := n.isLt; omega⟩ (gOf rfl k)

/-- A row of the product. -/
def prod (f : Fin 16384 → EReal) (W : Fin 2112 → Fin 16384 → EReal) (s : Fin 17 → Fin 128 → EReal) (n : Fin 2112) : EReal :=
  ∑ k, deqX f k * deqW W s n k

/-- A row of the normalised `q`, from the row of the product. -/
def qRow (a : Fin 2112 → EReal) (g : Fin 1536 → EReal) (n : Fin 1536) : EReal :=
  nrm (Ideal.ofBits .f32 0x44C00000#32) (fun n : Fin 1536 => a ⟨n.val, by have := n.isLt; omega⟩) n * g n

/-- A row of the normalised `kv`, from the row of the product. -/
def kvRow (a : Fin 2112 → EReal) (g : Fin 512 → EReal) (n : Fin 512) : EReal :=
  nrm (Ideal.ofBits .f32 0x44000000#32) (fun n : Fin 512 => a ⟨1536 + n.val, by have := n.isLt; omega⟩) n * g n

/-- A row of the rotary part, from the row of the product. -/
def peRow (a : Fin 2112 → EReal) (n : Fin 64) : EReal := a ⟨2048 + n.val, by have := n.isLt; omega⟩

end Cert.Math

end
-- ==== Proof.KArr.lean ====
/- What the kernel leaves at a point of its grid, as the six results' entries. -/
module

public import proofs.«01_k».proof.Proof.KVal
public import proofs.«01_k».proof.Proof.Spec
public import proofs.«01_k».proof.Proof.IFrame
public import Idealize.ShloMosaic.Lib.Claim
public import Idealize.ShloMosaic.Lib.Pipeline.ValueKit

@[expose] public section

set_option maxRecDepth 16384

noncomputable section

namespace Cert.KernelIdeal.Gen

open Idealize.ShloMosaic hiding ix1 ix2 ix3
open Idealize.ShloMosaic.TcCoe Idealize.ShloMosaic.Tactic
open Idealize.ShloMosaic.ValueIdx
open Idealize.ShloMosaic.Pipeline (Dat Cfg Window)
open Cert.Math

variable (m : (ℓ : Loc nD τ sig) → Buf (Elt Ideal) ℓ)

/-- `x` with its rows in one axis. -/
abbrev mx (c : Dev nD) : FVec Ideal S12288x16384 .bf16 := shapeCast S12288x16384 (m ((c : Thread nD τ).loc main_arg0)) shapeCasts_S8x1536x16384_S12288x16384
/-- The weights. -/
abbrev mw (c : Dev nD) : FVec Ideal S2112x16384 .fp8e4m3 := m ((c : Thread nD τ).loc main_arg1)
/-- The weights' scales. -/
abbrev ms (c : Dev nD) : FVec Ideal S17x128 .f32 := m ((c : Thread nD τ).loc main_arg2)
/-- The weight of the norm of `q`. -/
abbrev mq (c : Dev nD) : FVec Ideal S1x1536 .bf16 := shapeCast S1x1536 (m ((c : Thread nD τ).loc main_arg3)) shapeCasts_S1536_S1x1536
/-- The weight of the norm of `kv`. -/
abbrev mk (c : Dev nD) : FVec Ideal S1x512 .bf16 := shapeCast S1x512 (m ((c : Thread nD τ).loc main_arg4)) shapeCasts_S512_S1x512

/-- A row of `x`. -/
abbrev xRow (c : Dev nD) (R : Fin 12288) : Fin 16384 → EReal := fun k => mx m c (ix2 R k)
/-- The product of a row. -/
abbrev aRow (c : Dev nD) (R : Fin 12288) : Fin 2112 → EReal := prod (xRow m c R) (fun n k => mw m c (ix2 n k)) (fun a b => ms m c (ix2 a b))
/-- The normalised `q` of a row. -/
abbrev qnRow (c : Dev nD) (R : Fin 12288) : Fin 1536 → EReal := qRow (aRow m c R) (fun n => mq m c (ix2 (0 : Fin 1) n))
/-- The normalised `kv` of a row. -/
abbrev kvnRow (c : Dev nD) (R : Fin 12288) : Fin 512 → EReal := kvRow (aRow m c R) (fun n => mk m c (ix2 (0 : Fin 1) n))

theorem V_v0 (c : Dev nD) : V m c main_v0 = mx m c := by entry_read; rfl
theorem V_v1 (c : Dev nD) : V m c main_v1 = mq m c := by entry_read; rfl
theorem V_v2 (c : Dev nD) : V m c main_v2 = mk m c := by entry_read; rfl

/-- The row of the whole array that a row of a point's block is. -/
def rowOf (t : Fin cfg0.N) (r : Fin 1024) : Fin 12288 := ⟨1024 * (t.val / 16) + r.val, by have h : t.val < 192 := t.isLt; have := r.isLt; omega⟩
/-- The column of the whole array that a column of a point's block is. -/
def colOf (t : Fin cfg0.N) (j : Fin 1024) : Fin 16384 := ⟨1024 * (t.val % 16) + j.val, by have := j.isLt; omega⟩

theorem idx0 : ∀ t : Fin cfg0.N, win0_0.index t = ![t.val / 16, t.val % 16] := (by decide +kernel : ∀ t : Fin grid0.N, _)
theorem idx1 : ∀ t : Fin cfg0.N, win0_1.index t = ![0, t.val % 16] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)

/-- A point's block of `x`. -/
theorem blk0 (c : Dev nD) (t : Fin cfg0.N) (r j : Fin 1024) : iblk m c 0 t (ix2 r j) = mx m c (ix2 (rowOf t r) (colOf t j)) := by
  refine Eq.trans ?_ (congrFun (V_v0 m c) _)
  unfold rowOf colOf
  blk_ext [iblk, idx0]
  · exact congrArg (fun a => a + r.val) (Nat.mul_comm _ _)
  · exact congrArg (fun a => a + j.val) (Nat.mul_comm _ _)
/-- A point's block of the weights. -/
theorem blk1 (c : Dev nD) (t : Fin cfg0.N) (n : Fin 2112) (j : Fin 1024) : iblk m c 1 t (ix2 n j) = mw m c (ix2 n (colOf t j)) := by
  refine Eq.trans ?_ (congrFun (V_main_arg1 m c) _)
  unfold colOf
  blk_ext [iblk, idx1]
  exact congrArg (fun a => a + j.val) (Nat.mul_comm _ _)
theorem blk2 (c : Dev nD) (t : Fin cfg0.N) : iblk m c 2 t = ms m c := by
  funext y
  refine Eq.trans ?_ (congrFun (V_main_arg2 m c) y)
  blk_ext [iblk, idx2]
theorem blk3 (c : Dev nD) (t : Fin cfg0.N) : iblk m c 3 t = mq m c := by
  funext y
  refine Eq.trans ?_ (congrFun (V_v1 m c) y)
  blk_ext [iblk, idx3]
theorem blk4 (c : Dev nD) (t : Fin cfg0.N) : iblk m c 4 t = mk m c := by
  funext y
  refine Eq.trans ?_ (congrFun (V_v2 m c) y)
  blk_ext [iblk, idx4]

/-- A group of a point's block. -/
theorem grp_row (c : Dev nD) (t : Fin cfg0.N) (q : Fin 8) (r : Fin 1024) (g : Fin 128) (hg : g.val = 8 * (t.val % 16) + q.val) :
    (fun j : Fin 128 => grp (iblk m c 0 t) q (ix2 r j)) = gr (G := 128) rfl (xRow m c (rowOf t r)) g := by
  funext j
  have hj := j.isLt
  have hq := q.isLt
  refine (blk0 m c t r ⟨128 * q.val + j.val, by omega⟩).trans ?_
  refine congrArg (fun k => mx m c (ix2 (rowOf t r) k)) (Fin.ext ?_)
  show 1024 * (t.val % 16) + (128 * q.val + j.val) = 128 * g.val + j.val
  omega

theorem grp_col (c : Dev nD) (t : Fin cfg0.N) (r j : Fin 1024) :
    (fun i : Fin 128 => grp (iblk m c 0 t) ⟨j.val / 128, by have := j.isLt; omega⟩ (ix2 r i)) = gr (G := 128) rfl (xRow m c (rowOf t r)) (gOf (G := 128) rfl (colOf t j)) :=
  grp_row m c t _ r _ (by show (1024 * (t.val % 16) + j.val) / 128 = 8 * (t.val % 16) + j.val / 128; omega)

theorem grp_ent (c : Dev nD) (t : Fin cfg0.N) (r j : Fin 1024) :
    grp (iblk m c 0 t) ⟨j.val / 128, by have := j.isLt; omega⟩ (ix2 r ⟨j.val % 128, Nat.mod_lt _ (by decide)⟩) = xRow m c (rowOf t r) (colOf t j) := by
  refine (blk0 m c t r ⟨128 * (j.val / 128) + j.val % 128, by have := j.isLt; omega⟩).trans ?_
  refine congrArg (fun k => mx m c (ix2 (rowOf t r) (colOf t k))) (Fin.ext ?_)
  exact Nat.div_add_mod _ _

/-- The codes of a point's block of `x`. -/
theorem gC_blk (c : Dev nD) (t : Fin cfg0.N) (r j : Fin 1024) :
    byGrp gC (iblk m c 0 t) (ix2 r j) = codeK (G := 128) rfl (xRow m c (rowOf t r)) (colOf t j) := by
  refine (gC_apply (grp (iblk m c 0 t) ⟨j.val / 128, by have := j.isLt; omega⟩) r ⟨j.val % 128, Nat.mod_lt _ (by decide)⟩).trans ?_
  unfold codeK
  rw [grp_col, grp_ent]

/-- The dequantised block of `x` of a point. -/
theorem gD_blk (c : Dev nD) (t : Fin cfg0.N) (r j : Fin 1024) :
    byGrp gD (iblk m c 0 t) (ix2 r j) = codeK (G := 128) rfl (xRow m c (rowOf t r)) (colOf t j) * scaleK (G := 128) rfl (xRow m c (rowOf t r)) (gOf (G := 128) rfl (colOf t j)) := by
  refine (gD_apply (grp (iblk m c 0 t) ⟨j.val / 128, by have := j.isLt; omega⟩) r ⟨j.val % 128, Nat.mod_lt _ (by decide)⟩).trans ?_
  unfold codeK scaleK
  rw [grp_col, grp_ent]

/-- The dequantised block of the weights of a point. -/
theorem gW_blk (c : Dev nD) (t : Fin cfg0.N) (n : Fin 2112) (j : Fin 1024) :
    gW (kOf (grid0.coords t)) (iblk m c 1 t) (iblk m c 2 t) (ix2 n j) = deqW (fun n k => mw m c (ix2 n k)) (fun a b => ms m c (ix2 a b)) n (colOf t j) := by
  unfold gW deqW
  rw [blk2]
  refine congrArg₂ (fun u w : EReal => u * w) (blk1 m c t n j) ?_
  refine congrArg (fun k => ms m c (ix2 _ k)) (Fin.ext ?_)
  show 8 * (kOf (grid0.coords t)).val + j.val / 128 = (1024 * (t.val % 16) + j.val) / 128
  rw [kOf_coords]
  omega

variable (hx : ∀ c R k, ∃ r : ℝ, xRow m c R k = r ∧ |r| ≤ 40 * (2 : ℝ) ^ (128 : ℤ))
variable (hq : ∀ c n, ∃ r : ℝ, mq m c (ix2 (0 : Fin 1) n) = r ∧ |r| ≤ (2 : ℝ) ^ (128 : ℤ))

/-- One term of the product. -/
def term (c : Dev nD) (R : Fin 12288) (n : Fin 2112) (k : Fin 16384) : EReal :=
  deqX (xRow m c R) k * deqW (fun n k => mw m c (ix2 n k)) (fun a b => ms m c (ix2 a b)) n k

include hx in
theorem term_eq (c : Dev nD) (t : Fin cfg0.N) (r : Fin 1024) (n : Fin 2112) :
    ∑ j : Fin 1024, byGrp gD (iblk m c 0 t) (ix2 r j) * gW (kOf (grid0.coords t)) (iblk m c 1 t) (iblk m c 2 t) (ix2 n j)
      = ∑ j : Fin 1024, term m c (rowOf t r) n (colOf t j) := by
  refine Finset.sum_congr rfl fun j _ => ?_
  unfold term deqX
  refine congrArg₂ (fun u w : EReal => u * w) ((gD_blk m c t r j).trans ?_) (gW_blk m c t n j)
  rw [codeK_eq _ _ (hx c _), scaleK_eq _ _ (hx c _)]

include hx in
/-- The accumulated product at the last step of a block row is the product. -/
theorem accs_eq (c : Dev nD) (t : Fin cfg0.N) (ht : t.val % 16 = 15) (r : Fin 1024) (n : Fin 2112) :
    accs m c t.val t.isLt (ix2 r n) = aRow m c (rowOf t r) n := by
  have h := Pipeline.eq_sum_fin_of_reset_step_of_flush (N := cfg0.N) (M := EReal) (fun k hk => accs m c k hk (ix2 r n)) 16 0
    (fun t => ∑ j : Fin 1024, term m c (rowOf t r) n (colOf t j))
    (fun t h => by rw [zero_add, ← term_eq m hx c t r n]; exact (congrFun (accs_first m c t h) _).trans (accFirst_apply _ _ _ _ r n))
    (fun t h => by rw [← term_eq m hx c t r n]; exact (congrFun (accs_next m c t h) _).trans (accNext_apply _ _ _ _ _ r n))
    t ht
  refine h.trans ?_
  rw [zero_add]
  have hs := Fin.sum_univ_tiles 16 1024 (N := 16384) rfl (term m c (rowOf t r) n)
  refine Eq.trans ?_ hs.symm
  refine Finset.sum_congr rfl fun s _ => Finset.sum_congr rfl fun j _ => ?_
  have h2 := s.isLt
  have e1 : rowOf (⟨16 * (t.val / 16) + s.val, Pipeline.run_point_lt_of_flush t ht s⟩ : Fin cfg0.N) r = rowOf t r := Fin.ext (by
    show 1024 * ((16 * (t.val / 16) + s.val) / 16) + r.val = 1024 * (t.val / 16) + r.val
    omega)
  have e2 : colOf (⟨16 * (t.val / 16) + s.val, Pipeline.run_point_lt_of_flush t ht s⟩ : Fin cfg0.N) j = ⟨s.val * 1024 + j.val, by have := j.isLt; omega⟩ := Fin.ext (by
    show 1024 * ((16 * (t.val / 16) + s.val) % 16) + j.val = s.val * 1024 + j.val
    omega)
  rw [e1, e2]

include hx in
/-- The rotary part. -/
theorem out8_eq (c : Dev nD) (t : Fin cfg0.N) (ht : t.val % 16 = 15) (r : Fin 1024) (n : Fin 64) :
    out8 m c t (ix2 r n) = peRow (aRow m c (rowOf t r)) n := by
  unfold out8
  exact accs_eq m hx c t ht r _

include hx in
/-- The normalised `kv`. -/
theorem out7_eq (c : Dev nD) (t : Fin cfg0.N) (ht : t.val % 16 = 15) (r : Fin 1024) (n : Fin 512) :
    out7 m c t (ix2 r n) = kvnRow m c (rowOf t r) n := by
  unfold out7
  rw [blk4]
  refine (kvNorm_apply _ _ r n).trans ?_
  unfold kvnRow kvRow
  refine congrArg (fun f => nrm (Ideal.ofBits .f32 0x44000000#32) f n * mk m c (ix2 (0 : Fin 1) n)) (funext fun k => ?_)
  exact accs_eq m hx c t ht r _

include hx in
/-- The normalised `q`. -/
theorem qn_eq (c : Dev nD) (t : Fin cfg0.N) (ht : t.val % 16 = 15) (r : Fin 1024) (n : Fin 1536) :
    k0_pay7 (accQ (accs m c t.val t.isLt)) (iblk m c 3 t) (ix2 r n) = qnRow m c (rowOf t r) n := by
  rw [blk3]
  refine (qNorm_apply _ _ r n).trans ?_
  unfold qnRow qRow
  refine congrArg (fun f => nrm (Ideal.ofBits .f32 0x44C00000#32) f n * mq m c (ix2 (0 : Fin 1) n)) (funext fun k => ?_)
  exact accs_eq m hx c t ht r _

include hq in
theorem qn_bound (c : Dev nD) (R : Fin 12288) (n : Fin 1536) : ∃ r : ℝ, qnRow m c R n = r ∧ |r| ≤ 40 * (2 : ℝ) ^ (128 : ℤ) :=
  nrm_mul_bound _ _ _ (hq c n)

include hx hq in
/-- The codes of `q`. -/
theorem out5_eq (c : Dev nD) (t : Fin cfg0.N) (ht : t.val % 16 = 15) (r : Fin 1024) (n : Fin 1536) :
    out5 m c t (ix2 r n) = code (G := 12) rfl (qnRow m c (rowOf t r)) n := by
  unfold out5
  refine (qC_apply (qgrp _ ⟨n.val / 128, by have := n.isLt; omega⟩) r ⟨n.val % 128, Nat.mod_lt _ (by decide)⟩).trans ?_
  rw [← codeK_eq _ _ (qn_bound m hq c _)]
  unfold codeK
  have e1 : (fun j : Fin 128 => qgrp (k0_pay7 (accQ (accs m c t.val t.isLt)) (iblk m c 3 t)) ⟨n.val / 128, by have := n.isLt; omega⟩ (ix2 r j))
      = gr (G := 12) rfl (qnRow m c (rowOf t r)) (gOf (G := 12) rfl n) := funext fun j => qn_eq m hx c t ht r _
  have e2 : qgrp (k0_pay7 (accQ (accs m c t.val t.isLt)) (iblk m c 3 t)) ⟨n.val / 128, by have := n.isLt; omega⟩ (ix2 r ⟨n.val % 128, Nat.mod_lt _ (by decide)⟩)
      = qnRow m c (rowOf t r) n := (qn_eq m hx c t ht r _).trans (congrArg (qnRow m c (rowOf t r)) (Fin.ext (Nat.div_add_mod _ _)))
  rw [e1, e2]

include hx hq in
/-- The scales of `q`. -/
theorem out6_eq (c : Dev nD) (t : Fin cfg0.N) (ht : t.val % 16 = 15) (r : Fin 1024) (g : Fin 12) :
    out6 m c t (ix2 r g) = scale (G := 12) rfl (qnRow m c (rowOf t r)) g := by
  unfold out6
  refine (qS_apply (qgrp _ g) r).trans ?_
  rw [← scaleK_eq _ _ (qn_bound m hq c _)]
  unfold scaleK
  have e1 : (fun j : Fin 128 => qgrp (k0_pay7 (accQ (accs m c t.val t.isLt)) (iblk m c 3 t)) g (ix2 r j))
      = gr (G := 12) rfl (qnRow m c (rowOf t r)) g := funext fun j => qn_eq m hx c t ht r _
  rw [e1]

include hx in
/-- The codes of `x`. -/
theorem out9_eq (c : Dev nD) (t : Fin cfg0.N) (r j : Fin 1024) :
    out9 m c t (ix2 r j) = code (G := 128) rfl (xRow m c (rowOf t r)) (colOf t j) := by
  rw [← codeK_eq _ _ (hx c _)]
  exact gC_blk m c t r j

include hx in
/-- The scales of `x`. -/
theorem good10_eq (c : Dev nD) (t : Fin cfg0.N) (ht : t.val % 16 = 15) (X : Vec Ideal S1024x128 .f32) (h : good10 m c t X) (r : Fin 1024) (g : Fin 128) :
    X (ix2 r g) = scale (G := 128) rfl (xRow m c (rowOf t r)) g := by
  have hg := g.isLt
  have hN : t.val < 192 := t.isLt
  have hs : 16 * (t.val / 16) + g.val / 8 < cfg0.N := by show _ < 192; omega
  rw [← scaleK_eq _ _ (hx c _)]
  have e1 : rowOf (⟨16 * (t.val / 16) + g.val / 8, hs⟩ : Fin cfg0.N) r = rowOf t r := Fin.ext (by
    show 1024 * ((16 * (t.val / 16) + g.val / 8) / 16) + r.val = 1024 * (t.val / 16) + r.val
    omega)
  have hm : (16 * (t.val / 16) + g.val / 8) % 16 = g.val / 8 := by omega
  refine (h ⟨16 * (t.val / 16) + g.val / 8, hs⟩ (by show (16 * (t.val / 16) + g.val / 8) / 16 = _; omega) (by show 16 * (t.val / 16) + g.val / 8 ≤ t.val; omega)
    ⟨g.val % 8, Nat.mod_lt _ (by decide)⟩ (ix2 r g) (by show g.val = 8 * ((16 * (t.val / 16) + g.val / 8) % 16) + g.val % 8; omega)).trans ?_
  refine (gS_apply _ r).trans ?_
  unfold scaleK
  rw [grp_row m c _ _ r g (by show g.val = 8 * ((16 * (t.val / 16) + g.val / 8) % 16) + g.val % 8; omega), e1]

end Cert.KernelIdeal.Gen

end
-- ==== Proof.KFin.lean ====
/- The kernel's final arrays, over the extended reals. -/
module

public import proofs.«01_k».proof.Proof.KArr

@[expose] public section

set_option maxRecDepth 16384

noncomputable section

namespace Cert.KernelIdeal.Gen

open Idealize.ShloMosaic hiding ix1 ix2 ix3
open Idealize.ShloMosaic.TcCoe Idealize.ShloMosaic.Tactic
open Idealize.ShloMosaic.ValueIdx
open Idealize.SL Idealize.SL.RA Idealize.SL.Sem
open Idealize.ShloMosaic.Pipeline (Dat Cfg Window)
open Cert.Math

variable (m : (ℓ : Loc nD τ sig) → Buf (Elt Ideal) ℓ)

/-- An index in its coordinates. -/
theorem at2 {α : Type} {a b : ℕ} (f : (⟨2, ![a, b]⟩ : Shape).Idx → α) (j : (⟨2, ![a, b]⟩ : Shape).Idx) : f j = f (ix2 (j 0) (j 1)) :=
  congrArg f (funext fun x => by
    match x with
    | ⟨0, _⟩ => rfl
    | ⟨1, _⟩ => rfl)

variable (hx : ∀ c R k, ∃ r : ℝ, xRow m c R k = r ∧ |r| ≤ 40 * (2 : ℝ) ^ (128 : ℤ))
variable (hq : ∀ c n, ∃ r : ℝ, mq m c (ix2 (0 : Fin 1) n) = r ∧ |r| ≤ (2 : ℝ) ^ (128 : ℤ))

theorem idx5 : ∀ t : Fin cfg0.N, win0_5.index t = ![t.val / 16, 0] := (by decide +kernel : ∀ t : Fin grid0.N, _)
theorem idx6 : ∀ t : Fin cfg0.N, win0_6.index t = ![t.val / 16, 0] := (by decide +kernel : ∀ t : Fin grid0.N, _)
theorem idx7 : ∀ t : Fin cfg0.N, win0_7.index t = ![t.val / 16, 0] := (by decide +kernel : ∀ t : Fin grid0.N, _)
theorem idx8 : ∀ t : Fin cfg0.N, win0_8.index t = ![t.val / 16, 0] := (by decide +kernel : ∀ t : Fin grid0.N, _)
theorem idx9 : ∀ t : Fin cfg0.N, win0_9.index t = ![t.val / 16, t.val % 16] := (by decide +kernel : ∀ t : Fin grid0.N, _)
theorem idx10 : ∀ t : Fin cfg0.N, win0_10.index t = ![t.val / 16, 0] := (by decide +kernel : ∀ t : Fin grid0.N, _)

include hx hq in
/-- The codes of `q`. -/
theorem arr5 (c : Dev nD) (dat : Dat τ (Elt Ideal) Unit ℕ (UR sig nD τ) ℕ cfg0 c) (hd : ∀ t : Fin cfg0.N, t.val % 16 = 15 → dat.after 5 t = out5 m c t) :
    dat.arrAt 5 cfg0.N = fun i : S12288x1536.Idx => code (G := 12) rfl (qnRow m c (i 0)) (i 1) := by
  refine dat.arrAt_eq_of_covers 5 _ (by decide +kernel) fun t hf y => ?_
  blk_simp
  have ht := (flush0_5 t).mp hf
  rw [hd t ht]
  refine (at2 _ y).trans ((out5_eq m hx hq c t ht (y 0) (y 1)).trans ?_)
  refine congrArg₂ (fun (a : Fin 12288) (b : Fin 1536) => code (G := 12) rfl (qnRow m c a) b) ?_ ?_
  · refine Fin.ext ?_
    show 1024 * (t.val / 16) + (y 0).val = ((win0_5.blk t).view.emb y 0).val
    blk_simp [idx5]
    exact congrArg (fun a => a + (y 0).val) (Nat.mul_comm _ _)
  · refine Fin.ext ?_
    show (y 1).val = ((win0_5.blk t).view.emb y 1).val
    blk_simp [idx5]

include hx hq in
/-- The scales of `q`. -/
theorem arr6 (c : Dev nD) (dat : Dat τ (Elt Ideal) Unit ℕ (UR sig nD τ) ℕ cfg0 c) (hd : ∀ t : Fin cfg0.N, t.val % 16 = 15 → dat.after 6 t = out6 m c t) :
    dat.arrAt 6 cfg0.N = fun i : S12288x12.Idx => scale (G := 12) rfl (qnRow m c (i 0)) (i 1) := by
  refine dat.arrAt_eq_of_covers 6 _ (by decide +kernel) fun t hf y => ?_
  blk_simp
  have ht := (flush0_6 t).mp hf
  rw [hd t ht]
  refine (at2 _ y).trans ((out6_eq m hx hq c t ht (y 0) (y 1)).trans ?_)
  refine congrArg₂ (fun (a : Fin 12288) (b : Fin 12) => scale (G := 12) rfl (qnRow m c a) b) ?_ ?_
  · refine Fin.ext ?_
    show 1024 * (t.val / 16) + (y 0).val = ((win0_6.blk t).view.emb y 0).val
    blk_simp [idx6]
    exact congrArg (fun a => a + (y 0).val) (Nat.mul_comm _ _)
  · refine Fin.ext ?_
    show (y 1).val = ((win0_6.blk t).view.emb y 1).val
    blk_simp [idx6]

include hx in
/-- The normalised `kv`. -/
theorem arr7 (c : Dev nD) (dat : Dat τ (Elt Ideal) Unit ℕ (UR sig nD τ) ℕ cfg0 c) (hd : ∀ t : Fin cfg0.N, t.val % 16 = 15 → dat.after 7 t = out7 m c t) :
    dat.arrAt 7 cfg0.N = fun i : S12288x512.Idx => kvnRow m c (i 0) (i 1) := by
  refine dat.arrAt_eq_of_covers 7 _ (by decide +kernel) fun t hf y => ?_
  blk_simp
  have ht := (flush0_7 t).mp hf
  rw [hd t ht]
  refine (at2 _ y).trans ((out7_eq m hx c t ht (y 0) (y 1)).trans ?_)
  refine congrArg₂ (fun (a : Fin 12288) (b : Fin 512) => kvnRow m c a b) ?_ ?_
  · refine Fin.ext ?_
    show 1024 * (t.val / 16) + (y 0).val = ((win0_7.blk t).view.emb y 0).val
    blk_simp [idx7]
    exact congrArg (fun a => a + (y 0).val) (Nat.mul_comm _ _)
  · refine Fin.ext ?_
    show (y 1).val = ((win0_7.blk t).view.emb y 1).val
    blk_simp [idx7]

include hx in
/-- The rotary part. -/
theorem arr8 (c : Dev nD) (dat : Dat τ (Elt Ideal) Unit ℕ (UR sig nD τ) ℕ cfg0 c) (hd : ∀ t : Fin cfg0.N, t.val % 16 = 15 → dat.after 8 t = out8 m c t) :
    dat.arrAt 8 cfg0.N = fun i : S12288x64.Idx => peRow (aRow m c (i 0)) (i 1) := by
  refine dat.arrAt_eq_of_covers 8 _ (by decide +kernel) fun t hf y => ?_
  blk_simp
  have ht := (flush0_8 t).mp hf
  rw [hd t ht]
  refine (at2 _ y).trans ((out8_eq m hx c t ht (y 0) (y 1)).trans ?_)
  refine congrArg₂ (fun (a : Fin 12288) (b : Fin 64) => peRow (aRow m c a) b) ?_ ?_
  · refine Fin.ext ?_
    show 1024 * (t.val / 16) + (y 0).val = ((win0_8.blk t).view.emb y 0).val
    blk_simp [idx8]
    exact congrArg (fun a => a + (y 0).val) (Nat.mul_comm _ _)
  · refine Fin.ext ?_
    show (y 1).val = ((win0_8.blk t).view.emb y 1).val
    blk_simp [idx8]

include hx in
/-- The codes of `x`. -/
theorem arr9 (c : Dev nD) (dat : Dat τ (Elt Ideal) Unit ℕ (UR sig nD τ) ℕ cfg0 c) (hd : ∀ t, dat.after 9 t = out9 m c t) :
    dat.arrAt 9 cfg0.N = fun i : S12288x16384.Idx => code (G := 128) rfl (xRow m c (i 0)) (i 1) := by
  refine dat.arrAt_eq_of_covers 9 _ (by decide +kernel) fun t hf y => ?_
  blk_simp
  rw [hd t]
  refine (at2 _ y).trans ((out9_eq m hx c t (y 0) (y 1)).trans ?_)
  refine congrArg₂ (fun (a : Fin 12288) (b : Fin 16384) => code (G := 128) rfl (xRow m c a) b) ?_ ?_
  · refine Fin.ext ?_
    show 1024 * (t.val / 16) + (y 0).val = ((win0_9.blk t).view.emb y 0).val
    blk_simp [idx9]
    exact congrArg (fun a => a + (y 0).val) (Nat.mul_comm _ _)
  · refine Fin.ext ?_
    show 1024 * (t.val % 16) + (y 1).val = ((win0_9.blk t).view.emb y 1).val
    blk_simp [idx9]
    exact congrArg (fun a => a + (y 1).val) (Nat.mul_comm _ _)

include hx in
/-- The scales of `x`. -/
theorem arr10 (c : Dev nD) (dat : Dat τ (Elt Ideal) Unit ℕ (UR sig nD τ) ℕ cfg0 c) (hd : ∀ t : Fin cfg0.N, t.val % 16 = 15 → good10 m c t (dat.after 10 t)) :
    dat.arrAt 10 cfg0.N = fun i : S12288x128.Idx => scale (G := 128) rfl (xRow m c (i 0)) (i 1) := by
  refine dat.arrAt_eq_of_covers 10 _ (by decide +kernel) fun t hf y => ?_
  blk_simp
  have ht := (flush0_10 t).mp hf
  refine (at2 _ y).trans ((good10_eq m hx c t ht _ (hd t ht) (y 0) (y 1)).trans ?_)
  refine congrArg₂ (fun (a : Fin 12288) (b : Fin 128) => scale (G := 128) rfl (xRow m c a) b) ?_ ?_
  · refine Fin.ext ?_
    show 1024 * (t.val / 16) + (y 0).val = ((win0_10.blk t).view.emb y 0).val
    blk_simp [idx10]
    exact congrArg (fun a => a + (y 0).val) (Nat.mul_comm _ _)
  · refine Fin.ext ?_
    show (y 1).val = ((win0_10.blk t).view.emb y 1).val
    blk_simp [idx10]

end Cert.KernelIdeal.Gen

end
-- ==== Proof.KRun.lean ====
/- The kernel's run: the six results and the arguments. -/
module

public import proofs.«01_k».proof.Proof.KFin
public import proofs.«01_k».proof.Pre_finite
public import Idealize.ShloMosaic.Lib.Pipeline.ArrRel
public import Idealize.ShloMosaic.Lib.ReduceAll

@[expose] public section

set_option maxRecDepth 16384

noncomputable section

namespace Cert.Pre_finite

open Idealize.ShloMosaic

/-- The side conditions of the precondition's operations. -/
theorem facts : Facts where
  bcast_S_S8x1536x16384 := by decide
  reducesTo_S8x1536x16384_S_d0_1_2 := by decide
  h_S_ := by decide
  bcast_S_S1536 := by decide
  reducesTo_S1536_S_d0 := by decide

/-- A bit made from a proposition is one when the proposition holds. -/
theorem of_ole (x y : EReal) (h : (Ideal.cmp .ole x y : BitVec 1) = 1#1) : x ≤ y :=
  of_decide_eq_true (((Cert.Math.ofBool_one _).mp h))

/-- Where the precondition holds, every entry of `x` and of the weight of the norm of `q` is real and bounded. -/
theorem bounds [Facts] (a0 : FVec Ideal S8x1536x16384 .bf16) (a1 : FVec Ideal S2112x16384 .fp8e4m3) (a2 : FVec Ideal S17x128 .f32) (a3 : FVec Ideal S1536 .bf16) (a4 : FVec Ideal S512 .bf16)
    (h : fn (F := Ideal) a0 a1 a2 a3 a4 = fun _ => 1#1) :
    (∀ i, ∃ r : ℝ, a0 i = r ∧ |r| ≤ (2 : ℝ) ^ (128 : ℤ)) ∧ (∀ i, ∃ r : ℝ, a3 i = r ∧ |r| ≤ (2 : ℝ) ^ (128 : ℤ)) := by
  haveI : Subsingleton S_.Idx := ⟨fun a b => funext fun x => x.elim0⟩
  have h0 := congrFun h (fun x => x.elim0)
  obtain ⟨h1, h2⟩ := IntOp.andi_eq_one.1 h0
  exact ⟨fun i => Cert.Math.real_of_le _ (of_ole _ _ (Host.reduce_andi_all _ _ _ _ _ h1 i)), fun i => Cert.Math.real_of_le _ (of_ole _ _ (Host.reduce_andi_all _ _ _ _ _ h2 i))⟩

end Cert.Pre_finite

namespace Cert.KernelIdeal.Gen

open Idealize.ShloMosaic hiding ix1 ix2 ix3
open Idealize.ShloMosaic.TcCoe Idealize.ShloMosaic.Tactic
open Idealize.ShloMosaic.ValueIdx
open Idealize.SL Idealize.SL.RA Idealize.SL.Sem
open Idealize.ShloMosaic.Pipeline (Dat Cfg Window)
open Cert.Math

variable (m : (ℓ : Loc nD τ sig) → Buf (Elt Ideal) ℓ) (ρ : Dev nD → PrngReg)

/-- The codes of `q`. -/
def v5 (c : Dev nD) : S12288x1536.Idx → EReal := fun i => code (G := 12) rfl (qnRow m c (i 0)) (i 1)
/-- The scales of `q`. -/
def v6 (c : Dev nD) : S12288x12.Idx → EReal := fun i => scale (G := 12) rfl (qnRow m c (i 0)) (i 1)
/-- The normalised `kv`. -/
def v7 (c : Dev nD) : S12288x512.Idx → EReal := fun i => kvnRow m c (i 0) (i 1)
/-- The rotary part. -/
def v8 (c : Dev nD) : S12288x64.Idx → EReal := fun i => peRow (aRow m c (i 0)) (i 1)
/-- The codes of `x`. -/
def v9 (c : Dev nD) : S12288x16384.Idx → EReal := fun i => code (G := 128) rfl (xRow m c (i 0)) (i 1)
/-- The scales of `x`. -/
def v10 (c : Dev nD) : S12288x128.Idx → EReal := fun i => scale (G := 128) rfl (xRow m c (i 0)) (i 1)

variable (hx : ∀ c R k, ∃ r : ℝ, xRow m c R k = r ∧ |r| ≤ 40 * (2 : ℝ) ^ (128 : ℤ))
variable (hq : ∀ c n, ∃ r : ℝ, mq m c (ix2 (0 : Fin 1) n) = r ∧ |r| ≤ (2 : ℝ) ^ (128 : ℤ))

include hx hq in
/-- The six results after any run. -/
theorem results (r : PUnit × MemSt nD τ sig (Elt Ideal)) (h : Pipeline.RDat.FramePost (cfgs 0) (fun c => rdat m c) (V m) r) (c : Dev nD) :
    r.2.mem ((c.tc : Thread nD τ).loc main_v3_0) = v5 m c
    ∧ r.2.mem ((c.tc : Thread nD τ).loc main_v3_1) = v6 m c
    ∧ r.2.mem ((c.tc : Thread nD τ).loc main_v3_2) = v7 m c
    ∧ r.2.mem ((c.tc : Thread nD τ).loc main_v3_3) = v8 m c
    ∧ r.2.mem ((c.tc : Thread nD τ).loc main_v3_4) = v9 m c
    ∧ r.2.mem ((c.tc : Thread nD τ).loc main_v3_5) = v10 m c := by
  obtain ⟨after, hL, hA⟩ := Pipeline.RDat.FramePost.exists_exact h c
  have hl : ∀ (w : Fin cfg0.W) (hw : forgets0 w = true) (t : Fin cfg0.N), (cfg0.win w).flush t = true → Rl m c w t (after w t) :=
    fun w hw t hf => (dats m 0 c).toRRel_leaves (fgt := forgets0) (Rl := Rl m c) hw (hL w t hf)
  refine ⟨(hA 5).trans ?_, (hA 6).trans ?_, (hA 7).trans ?_, (hA 8).trans ?_, (hA 9).trans ?_, (hA 10).trans ?_⟩
  · exact arr5 m hx hq c ((rdat m c).withAfter after) fun t ht => hl 5 rfl t ((flush0_5 t).mpr ht) ht
  · exact arr6 m hx hq c ((rdat m c).withAfter after) fun t ht => hl 6 rfl t ((flush0_6 t).mpr ht) ht
  · exact arr7 m hx c ((rdat m c).withAfter after) fun t ht => hl 7 rfl t ((flush0_7 t).mpr ht) ht
  · exact arr8 m hx c ((rdat m c).withAfter after) fun t ht => hl 8 rfl t ((flush0_8 t).mpr ht) ht
  · exact arr9 m hx c ((rdat m c).withAfter after) fun t => hl 9 rfl t (flush0_9 t)
  · exact arr10 m hx c ((rdat m c).withAfter after) fun t ht => hl 10 rfl t ((flush0_10 t).mpr ht)

include hx hq in
/-- The run: the six results, and the arguments unchanged. -/
theorem run_results : θ_run defs (onTc (τ := τ) (main (F := Ideal))) ⟨m, fun _ => 0, ρ⟩ (fun r => ∀ c : Dev nD,
    r.2.mem ((c.tc : Thread nD τ).loc main_v3_0) = v5 m c
    ∧ r.2.mem ((c.tc : Thread nD τ).loc main_v3_1) = v6 m c
    ∧ r.2.mem ((c.tc : Thread nD τ).loc main_v3_2) = v7 m c
    ∧ r.2.mem ((c.tc : Thread nD τ).loc main_v3_3) = v8 m c
    ∧ r.2.mem ((c.tc : Thread nD τ).loc main_v3_4) = v9 m c
    ∧ r.2.mem ((c.tc : Thread nD τ).loc main_v3_5) = v10 m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)) := by
  refine (θ_run defs _ _).mono (fun r h c => ?_) (θ_run_and (run_main_quiescent m ρ) (unchanged m ρ))
  obtain ⟨h0, h1, h2, h3, h4, h5⟩ := results m hx hq r h.1.1 c
  exact ⟨h0, h1, h2, h3, h4, h5, h.2 c⟩

/-- What the precondition says of a row of `x`. -/
theorem x_bound (h0 : ∀ (c : Dev nD) i, ∃ r : ℝ, @Eq EReal (m ((c.tc : Thread nD τ).loc main_arg0) i) r ∧ |r| ≤ (2 : ℝ) ^ (128 : ℤ)) (c : Dev nD) (R : Fin 12288) (k : Fin 16384) :
    ∃ r : ℝ, xRow m c R k = r ∧ |r| ≤ 40 * (2 : ℝ) ^ (128 : ℤ) := by
  obtain ⟨r, hr, hr'⟩ := h0 c (Shape.reshapeEquiv (shapeCasts_S8x1536x16384_S12288x16384) (ix2 R k))
  exact ⟨r, hr, hr'.trans (by have : (0 : ℝ) ≤ 2 ^ (128 : ℤ) := by positivity
                              linarith)⟩

/-- What the precondition says of the weight of the norm of `q`. -/
theorem q_bound (h0 : ∀ (c : Dev nD) i, ∃ r : ℝ, @Eq EReal (m ((c.tc : Thread nD τ).loc main_arg3) i) r ∧ |r| ≤ (2 : ℝ) ^ (128 : ℤ)) (c : Dev nD) (n : Fin 1536) :
    ∃ r : ℝ, mq m c (ix2 (0 : Fin 1) n) = r ∧ |r| ≤ (2 : ℝ) ^ (128 : ℤ) :=
  h0 c (Shape.reshapeEquiv (shapeCasts_S1536_S1x1536) (ix2 (0 : Fin 1) n))

end Cert.KernelIdeal.Gen

end
-- ==== Proof.RVal.lean ====
/- What the reference's values are at an entry, over the extended reals. -/
module

public import proofs.«01_k».proof.Proof.Gen.ReferenceIdeal.Frame
public import proofs.«01_k».proof.Proof.Spec
public import Idealize.ShloMosaic.Lib.MatmulPlain
public import Idealize.ShloMosaic.Lib.ValueLayout
public import Idealize.ShloMosaic.Lib.ValueLayoutCasts
public import Idealize.ShloMosaic.Lib.Pipeline.Value
public import Idealize.ShloMosaic.Lib.Pipeline.ValueKit.Tiles
public import Idealize.ShloMosaic.Lib.Pipeline.ValueKit.Acc

@[expose] public section

set_option maxRecDepth 16384

noncomputable section

namespace Cert.ReferenceIdeal.Gen

open Idealize.ShloMosaic
open Idealize.ShloMosaic.TcCoe Idealize.ShloMosaic.Tactic
open Idealize.ShloMosaic.ValueIdx
open Cert.Math

/-- The sum over a row. -/
theorem row_sum {a b : ℕ} (v : FVec Ideal ⟨2, ![a, b]⟩ .f32) (h : (⟨2, ![a, b]⟩ : Shape).Reduces [1] ⟨1, ![a]⟩) (hφ : FKind.Formats .f32)
    (hacc : (0x00000000#32 : BitVec 32) = FKind.add.neutral .f32 hφ) (r : Fin a) :
    multiReduction .add [1] ⟨1, ![a]⟩ v 0x00000000#32 h hφ hacc (ix1 r) = ∑ k : Fin b, v (ix2 r k) := by
  rw [Ideal.multiReduction_add_single]
  refine Finset.sum_congr rfl fun k _ => congrArg v (funext fun x => Fin.ext ?_)
  match x with
  | ⟨0, _⟩ => rfl
  | ⟨1, _⟩ => rfl

/-- The largest absolute value of a group. -/
theorem grp_max {a b c : ℕ} (v : FVec Ideal ⟨3, ![a, b, c]⟩ .f32) (h : (⟨3, ![a, b, c]⟩ : Shape).Reduces [2] ⟨2, ![a, b]⟩) (hφ : FKind.Formats .f32)
    (hacc : (0xFF800000#32 : BitVec 32) = FKind.maximumf.neutral .f32 hφ) (r : Fin a) (g : Fin b) :
    multiReduction .maximumf [2] ⟨2, ![a, b]⟩ (absf v) 0xFF800000#32 h hφ hacc (ix2 r g) = amaxF (fun j : Fin c => v (ix3 r g j)) := by
  rw [Ideal.multiReduction_maximumf_single]
  unfold amaxF
  refine congrArg (fun f => (Finset.univ : Finset (Fin c)).fold max (Ideal.ofBits .f32 0xFF800000#32) f) (funext fun k => congrArg (absf v) (funext fun x => Fin.ext ?_))
  match x with
  | ⟨0, _⟩ => rfl
  | ⟨1, _⟩ => rfl
  | ⟨2, _⟩ => rfl

/-- A row's entry, broadcast along the row. -/
theorem bcast_col {α : Type} {a b : ℕ} (hb : a ≠ 1) (v : (⟨2, ![a, 1]⟩ : Shape).Idx → α) (h : (⟨2, ![a, 1]⟩ : Shape).Broadcasts ⟨2, ![a, b]⟩) (r : Fin a) (c : Fin b) :
    broadcastTo ⟨2, ![a, b]⟩ v h (ix2 r c) = v (ix2 r (0 : Fin 1)) :=
  broadcastTo_apply v h _ _ fun x => by
    match x with
    | ⟨0, _⟩ => exact (if_neg hb).symm
    | ⟨1, _⟩ => rfl

/-- A group's value, given a third axis of one and broadcast along the group. -/
theorem bcast_grp {α : Type} {a b c : ℕ} (ha : a ≠ 1) (hb : b ≠ 1) (v : (⟨2, ![a, b]⟩ : Shape).Idx → α) (h1 : (⟨2, ![a, b]⟩ : Shape).ShapeCasts ⟨3, ![a, b, 1]⟩)
    (h2 : (⟨3, ![a, b, 1]⟩ : Shape).Broadcasts ⟨3, ![a, b, c]⟩) (r : Fin a) (g : Fin b) (j : Fin c) :
    broadcastTo ⟨3, ![a, b, c]⟩ (shapeCast ⟨3, ![a, b, 1]⟩ v h1) h2 (ix3 r g j) = v (ix2 r g) := by
  rw [broadcastTo_apply _ h2 (ix3 r g j) (ix3 r g (0 : Fin 1)) fun x => by
    match x with
    | ⟨0, _⟩ => exact (if_neg ha).symm
    | ⟨1, _⟩ => exact (if_neg hb).symm
    | ⟨2, _⟩ => rfl]
  refine shapeCast_apply v h1 _ _ ?_
  rw [Shape.rowMajor_val_three, Shape.rowMajor_val_two]
  show r.val * b + g.val = (r.val * b + g.val) * 1 + 0
  omega

/-- Rows cut into groups of 128. -/
theorem cut_grp {α : Type} {a N G : ℕ} (hN : N = 128 * G) (v : (⟨2, ![a, N]⟩ : Shape).Idx → α) (h : (⟨2, ![a, N]⟩ : Shape).ShapeCasts ⟨3, ![a, G, 128]⟩)
    (r : Fin a) (g : Fin G) (j : Fin 128) :
    shapeCast ⟨3, ![a, G, 128]⟩ v h (ix3 r g j) = v (ix2 r ⟨128 * g.val + j.val, by have := g.isLt; have := j.isLt; omega⟩) := by
  subst hN
  refine shapeCast_apply v h _ _ ?_
  rw [Shape.rowMajor_val_three, Shape.rowMajor_val_two]
  show r.val * (128 * G) + (128 * g.val + j.val) = (r.val * G + g.val) * 128 + j.val
  ring

/-- Groups of 128 put back into rows. -/
theorem join_grp {α : Type} {a N G : ℕ} (hN : N = 128 * G) (v : (⟨3, ![a, G, 128]⟩ : Shape).Idx → α) (h : (⟨3, ![a, G, 128]⟩ : Shape).ShapeCasts ⟨2, ![a, N]⟩)
    (r : Fin a) (k : Fin N) :
    shapeCast ⟨2, ![a, N]⟩ v h (ix2 r k) = v (ix3 r (gOf hN k) ⟨k.val % 128, Nat.mod_lt _ (by decide)⟩) := by
  subst hN
  refine shapeCast_apply v h _ _ ?_
  rw [Shape.rowMajor_val_three, Shape.rowMajor_val_two]
  show (r.val * G + k.val / 128) * 128 + k.val % 128 = r.val * (128 * G) + k.val
  have := Nat.div_add_mod k.val 128
  calc (r.val * G + k.val / 128) * 128 + k.val % 128 = r.val * (128 * G) + (128 * (k.val / 128) + k.val % 128) := by ring
    _ = _ := by rw [this]

/-- The entry of a row in its group. -/
theorem in_grp {N G : ℕ} (hN : N = 128 * G) (k : Fin N) (h) : (⟨128 * (gOf hN k).val + k.val % 128, h⟩ : Fin N) = k :=
  Fin.ext (Nat.div_add_mod k.val 128)

/-- A row of an array. -/
def row {a b : ℕ} {φ : FTy} (v : FVec Ideal ⟨2, ![a, b]⟩ φ) (r : Fin a) : Fin b → EReal := fun c => v (ix2 r c)

/-- `x` in groups. -/
theorem pay1_apply (x : FVec Ideal S12288x16384 .bf16) (r : Fin 12288) (g j : Fin 128) :
    k0_pay1 (F := Ideal) x (ix3 r g j) = gr (G := 128) rfl (row (φ := .bf16) x r) g j := by
  unfold k0_pay1
  rw [shapeCast_self]
  exact cut_grp (N := 16384) (G := 128) rfl x _ r g j

/-- The exponent of the scale, entry by entry. -/
theorem rE_vec {s : Shape} (v : FVec Ideal s .f32) (i : s.Idx) :
    select (cmpf .oeq (select (cmpf .olt v (broadcast s (Scalar.ofBits .f32 0x00800000#32))) (broadcast s (Scalar.ofBits .f32 0x00000000#32)) v) (broadcast s (Scalar.ofBits .f32 0x00000000#32)))
      (broadcast s (Scalar.ofBits .f32 0x00000000#32))
      (addf (floor (divf (log (select (cmpf .olt v (broadcast s (Scalar.ofBits .f32 0x00800000#32))) (broadcast s (Scalar.ofBits .f32 0x00000000#32)) v))
        (log (broadcast s (Scalar.ofBits .f32 0x40000000#32))))) (broadcast s (Scalar.ofBits .f32 0x3F800000#32))) i = rE (v i) := by
  rfl

/-- A group's largest absolute value over 448. -/
theorem t_vec {a b c : ℕ} (v : FVec Ideal ⟨3, ![a, b, c]⟩ .f32) (h : (⟨3, ![a, b, c]⟩ : Shape).Reduces [2] ⟨2, ![a, b]⟩) (hφ : FKind.Formats .f32)
    (hacc : (0xFF800000#32 : BitVec 32) = FKind.maximumf.neutral .f32 hφ) (r : Fin a) (g : Fin b) (f : Fin c → EReal) (hf : ∀ j, v (ix3 r g j) = f j) :
    mulf (multiReduction .maximumf [2] ⟨2, ![a, b]⟩ (absf v) 0xFF800000#32 h hφ hacc) (broadcast ⟨2, ![a, b]⟩ (Scalar.ofBits .f32 0x3B124925#32)) (ix2 r g)
      = amaxF f * Ideal.ofBits .f32 0x3B124925#32 :=
  congrArg (fun t : EReal => t * Ideal.ofBits .f32 0x3B124925#32) ((grp_max v h hφ hacc r g).trans (congrArg amaxF (funext hf)))

/-- The inverse of the scale, entry by entry. -/
theorem inv_vec {s : Shape} (v : FVec Ideal s .f32) (i : s.Idx) :
    exp2 (subf (broadcast s (Scalar.ofBits .f32 0x00000000#32)) v) i = Ideal.exp2 (Ideal.ofBits .f32 0x00000000#32 - v i) := rfl

/-- The scale, entry by entry. -/
theorem exp2_vec {s : Shape} (v : FVec Ideal s .f32) (i : s.Idx) : exp2 v i = Ideal.exp2 (v i) := rfl

/-- A change of format, entry by entry. -/
theorem trunc_vec {s : Shape} (v : FVec Ideal s .f32) (h : FTy.bf16.bits < FTy.f32.bits) (i : s.Idx) : truncf .bf16 v h i = v i := rfl

/-- A clipped product. -/
theorem clip_vec {s : Shape} (v w : FVec Ideal s .f32) (h : FTy.fp8e4m3.bits < FTy.f32.bits) (i : s.Idx) :
    truncf .fp8e4m3 (minimumf (broadcast s (Scalar.ofBits .f32 0x43E00000#32)) (maximumf (broadcast s (Scalar.ofBits .f32 0xC3E00000#32)) (mulf v w))) h i = clip (v i * w i) := rfl

/-- The exponents of the scales of `x`, entry by entry. -/
theorem pay2_vec (x : FVec Ideal S12288x16384 .bf16) :
    k0_pay2 (F := Ideal) x = fun i => rE (mulf (multiReduction .maximumf [2] S12288x128 (absf (k0_pay1 (F := Ideal) x)) 0xFF800000#32 reduces_S12288x128x128_S12288x128 (.inl rfl) rfl)
      (broadcast S12288x128 (Scalar.ofBits .f32 0x3B124925#32)) i) :=
  funext fun i => rE_vec _ i

/-- The exponents of the scales of `x`. -/
theorem pay2_apply (x : FVec Ideal S12288x16384 .bf16) (r : Fin 12288) (g : Fin 128) :
    k0_pay2 (F := Ideal) x (ix2 r g) = rE (tF (gr (G := 128) rfl (row (φ := .bf16) x r) g)) := by
  rw [pay2_vec]
  unfold tF
  have h := t_vec (k0_pay1 (F := Ideal) x) reduces_S12288x128x128_S12288x128 (.inl rfl) rfl r g
  exact congrArg rE (h _ (fun j => pay1_apply x r g j))

/-- The scales of `x`. -/
theorem pay3_apply (x : FVec Ideal S12288x16384 .bf16) (r : Fin 12288) (g : Fin 128) :
    k0_pay3 (F := Ideal) x (ix2 r g) = scale (G := 128) rfl (row (φ := .bf16) x r) g := by
  unfold k0_pay3 scale rS
  exact (exp2_vec _ _).trans (congrArg Ideal.exp2 (pay2_apply x r g))

/-- The codes of `x`. -/
theorem pay4_apply (x : FVec Ideal S12288x16384 .bf16) (r : Fin 12288) (k : Fin 16384) :
    k0_pay4 (F := Ideal) x (ix2 r k) = code (G := 128) rfl (row (φ := .bf16) x r) k := by
  unfold k0_pay4 code rI
  refine (join_grp (N := 16384) (G := 128) rfl _ _ r k).trans ((clip_vec _ _ _ _).trans ?_)
  refine congrArg₂ (fun u w : EReal => clip (u * w)) ?_ ?_
  · refine (pay1_apply x r _ _).trans ?_
    exact congrArg (row (φ := .bf16) x r) (in_grp (G := 128) rfl k _)
  · refine (bcast_grp (by decide) (by decide) _ _ _ r _ _).trans ((inv_vec _ _).trans ?_)
    rw [pay2_apply x r]

/-- The dequantised `x`. -/
theorem pay5_apply (x : FVec Ideal S12288x16384 .bf16) (r : Fin 12288) (k : Fin 16384) :
    k0_pay5 (F := Ideal) x (ix2 r k) = deqX (row (φ := .bf16) x r) k := by
  unfold k0_pay5 deqX
  refine congrArg₂ (fun u w : EReal => u * w) (pay4_apply x r k) ?_
  refine (join_grp (N := 16384) (G := 128) rfl _ _ r k).trans ?_
  refine (bcast_grp (by decide) (by decide) _ _ _ r _ _).trans ?_
  exact (trunc_vec _ _ _).trans (pay3_apply x r (gOf rfl k))

/-- The scales of the weights, over the rows of their tiles. -/
theorem pay6_apply (s : FVec Ideal S17x128 .f32) (a : Fin 17) (b c : Fin 128) : k0_pay6 (F := Ideal) s (ix3 a b c) = s (ix2 a c) := by
  unfold k0_pay6
  rw [broadcastTo_apply _ _ (ix3 a b c) (ix3 a (0 : Fin 1) c) fun x => by
    match x with
    | ⟨0, _⟩ => rfl
    | ⟨1, _⟩ => rfl
    | ⟨2, _⟩ => rfl]
  refine shapeCast_apply s _ _ _ ?_
  rw [Shape.rowMajor_val_three, Shape.rowMajor_val_two]
  show a.val * 128 + c.val = (a.val * 1 + 0) * 128 + c.val
  omega

/-- The scales of the weights, entry by entry of the weights. -/
theorem wscale_apply (s : FVec Ideal S17x128 .f32) (n : Fin 2112) (k : Fin 16384) :
    shapeCast S2112x16384 (broadcastTo S2112x128x128 (shapeCast S2112x128x1 (extractStridedSlice S2112x128 ![0, 0]
      (shapeCast S2176x128 (k0_pay6 (F := Ideal) s) shapeCasts_S17x128x128_S2176x128) slices_S2176x128_o0_0_S2112x128) shapeCasts_S2112x128_S2112x128x1)
      broadcasts_S2112x128x1_S2112x128x128) shapeCasts_S2112x128x128_S2112x16384 (ix2 n k)
    = s (ix2 ⟨n.val / 128, by have := n.isLt; omega⟩ (gOf (G := 128) rfl k)) := by
  have hn := n.isLt
  refine (join_grp (N := 16384) (G := 128) rfl _ _ n k).trans ?_
  refine (bcast_grp (by decide) (by decide) _ _ _ n _ _).trans ?_
  refine (extractStridedSlice_apply _ _ _ _ (ix2 (⟨n.val, by omega⟩ : Fin 2176) (gOf (G := 128) rfl k)) fun a => by
    match a with
    | ⟨0, _⟩ => show n.val = 0 + n.val; omega
    | ⟨1, _⟩ => show k.val / 128 = 0 + k.val / 128; omega).trans ?_
  refine (shapeCast_apply _ _ _ (ix3 (⟨n.val / 128, by omega⟩ : Fin 17) (⟨n.val % 128, Nat.mod_lt _ (by decide)⟩ : Fin 128) (gOf (G := 128) rfl k)) ?_).trans ?_
  · rw [Shape.rowMajor_val_three, Shape.rowMajor_val_two]
    show (n.val / 128 * 128 + n.val % 128) * 128 + k.val / 128 = n.val * 128 + k.val / 128
    omega
  · exact pay6_apply s _ _ _

/-- The product. -/
theorem pay7_apply (x : FVec Ideal S12288x16384 .bf16) (s : FVec Ideal S17x128 .f32) (w : FVec Ideal S2112x16384 .fp8e4m3) (r : Fin 12288) (n : Fin 2112) :
    k0_pay7 (F := Ideal) (k0_pay5 (F := Ideal) x) (k0_pay6 (F := Ideal) s) w (ix2 r n)
      = prod (row (φ := .bf16) x r) (fun n k => w (ix2 n k)) (fun a b => s (ix2 a b)) n := by
  unfold k0_pay7 prod
  refine ((Ideal.matmul_transposedRhs_apply (M := 12288) (K := 16384) (N := 2112) (φ₁ := .bf16) (φ₂ := .bf16) none _ _ (constant S12288x2112 .f32 0x00000000#32) r n)).trans ?_
  refine (congrArg (fun z : EReal => z + _) (Ideal.ofBits_zero_f32)).trans ?_
  rw [zero_add]
  refine Finset.sum_congr rfl fun k _ => ?_
  refine congrArg₂ (fun u w : EReal => u * w) (pay5_apply x r k) ?_
  exact congrArg (fun z : EReal => w (ix2 n k) * z) (wscale_apply s n k)

/-- The product of a row. -/
abbrev aRow (x : FVec Ideal S12288x16384 .bf16) (s : FVec Ideal S17x128 .f32) (w : FVec Ideal S2112x16384 .fp8e4m3) (r : Fin 12288) : Fin 2112 → EReal :=
  prod (row (φ := .bf16) x r) (fun n k => w (ix2 n k)) (fun a b => s (ix2 a b))

/-- The normalised `q` of a row. -/
abbrev qnRow (x : FVec Ideal S12288x16384 .bf16) (s : FVec Ideal S17x128 .f32) (w : FVec Ideal S2112x16384 .fp8e4m3) (g : FVec Ideal S1x1536 .bf16) (r : Fin 12288) :
    Fin 1536 → EReal := qRow (aRow x s w r) (fun n => g (ix2 (0 : Fin 1) n))

/-- The normalised `q` in groups. -/
theorem pay8_apply (x : FVec Ideal S12288x16384 .bf16) (s : FVec Ideal S17x128 .f32) (w : FVec Ideal S2112x16384 .fp8e4m3) (g : FVec Ideal S1x1536 .bf16)
    (r : Fin 12288) (q : Fin 12) (j : Fin 128) :
    k0_pay8 (F := Ideal) (k0_pay5 (F := Ideal) x) (k0_pay6 (F := Ideal) s) w g (ix3 r q j) = gr (G := 12) rfl (qnRow x s w g r) q j := by
  unfold k0_pay8
  have hs : ∀ n : Fin 1536, extractStridedSlice S12288x1536 ![0, 0] (k0_pay7 (F := Ideal) (k0_pay5 (F := Ideal) x) (k0_pay6 (F := Ideal) s) w) slices_S12288x2112_o0_0_S12288x1536 (ix2 r n)
      = aRow x s w r ⟨n.val, by have := n.isLt; omega⟩ := fun n =>
    (extractStridedSlice_apply _ _ _ _ (ix2 r (⟨n.val, by have := n.isLt; omega⟩ : Fin 2112)) fun a => by
      match a with
      | ⟨0, _⟩ => show r.val = 0 + r.val; omega
      | ⟨1, _⟩ => show n.val = 0 + n.val; omega).trans (pay7_apply x s w r _)
  rw [shapeCast_self]
  refine (cut_grp (N := 1536) (G := 12) rfl _ _ r q j).trans ?_
  refine congrArg₂ (fun u w : EReal => u * w) (congrArg₂ (fun u w : EReal => u * w) (hs _) ?_) (broadcastTo_1b_ab_apply _ _ r _)
  refine (bcast_col (by decide) _ _ r _).trans ?_
  refine congrArg (fun x : EReal => Ideal.rsqrt (Ideal.div x (Ideal.ofBits .f32 0x44C00000#32) + Ideal.ofBits .f32 0x358637BD#32)) ?_
  refine (shapeCast_a_a1_apply _ shapeCasts_S12288_S12288x1 r 0).trans ((row_sum _ _ _ _ r).trans ?_)
  exact Finset.sum_congr rfl fun n _ => congrArg₂ (fun u w : EReal => u * w) (hs n) (hs n)

/-- The exponents of the scales of `q`, entry by entry. -/
theorem pay12_vec (x : FVec Ideal S12288x16384 .bf16) (s : FVec Ideal S17x128 .f32) (w : FVec Ideal S2112x16384 .fp8e4m3) (g : FVec Ideal S1x1536 .bf16) :
    k0_pay12 (k0_pay10 (F := Ideal) (k0_pay5 (F := Ideal) x) (k0_pay6 (F := Ideal) s) w g) (k0_pay11 (F := Ideal) (k0_pay5 (F := Ideal) x) (k0_pay6 (F := Ideal) s) w g) (Scalar.ofBits .f32 0x00000000#32)
      = fun i => rE (mulf (multiReduction .maximumf [2] S12288x12 (absf (k0_pay8 (F := Ideal) (k0_pay5 (F := Ideal) x) (k0_pay6 (F := Ideal) s) w g)) 0xFF800000#32 reduces_S12288x12x128_S12288x12 (.inl rfl) rfl)
      (broadcast S12288x12 (Scalar.ofBits .f32 0x3B124925#32)) i) :=
  funext fun i => rE_vec _ i

/-- The exponents of the scales of `q`. -/
theorem pay12_apply (x : FVec Ideal S12288x16384 .bf16) (s : FVec Ideal S17x128 .f32) (w : FVec Ideal S2112x16384 .fp8e4m3) (g : FVec Ideal S1x1536 .bf16)
    (r : Fin 12288) (q : Fin 12) :
    k0_pay12 (k0_pay10 (F := Ideal) (k0_pay5 (F := Ideal) x) (k0_pay6 (F := Ideal) s) w g) (k0_pay11 (F := Ideal) (k0_pay5 (F := Ideal) x) (k0_pay6 (F := Ideal) s) w g) (Scalar.ofBits .f32 0x00000000#32) (ix2 r q)
      = rE (tF (gr (G := 12) rfl (qnRow x s w g r) q)) := by
  rw [pay12_vec]
  unfold tF
  have h := t_vec (k0_pay8 (F := Ideal) (k0_pay5 (F := Ideal) x) (k0_pay6 (F := Ideal) s) w g) reduces_S12288x12x128_S12288x12 (.inl rfl) rfl r q
  exact congrArg rE (h _ (fun j => pay8_apply x s w g r q j))

/-- The scales of `q`. -/
theorem pay13_apply (x : FVec Ideal S12288x16384 .bf16) (s : FVec Ideal S17x128 .f32) (w : FVec Ideal S2112x16384 .fp8e4m3) (g : FVec Ideal S1x1536 .bf16)
    (r : Fin 12288) (q : Fin 12) :
    k0_pay13 (k0_pay10 (F := Ideal) (k0_pay5 (F := Ideal) x) (k0_pay6 (F := Ideal) s) w g) (k0_pay11 (F := Ideal) (k0_pay5 (F := Ideal) x) (k0_pay6 (F := Ideal) s) w g) (Scalar.ofBits .f32 0x00000000#32) (ix2 r q)
      = scale (G := 12) rfl (qnRow x s w g r) q := by
  unfold k0_pay13 scale rS
  exact (exp2_vec _ _).trans (congrArg Ideal.exp2 (pay12_apply x s w g r q))

/-- The codes of `q`. -/
theorem pay14_apply (x : FVec Ideal S12288x16384 .bf16) (s : FVec Ideal S17x128 .f32) (w : FVec Ideal S2112x16384 .fp8e4m3) (g : FVec Ideal S1x1536 .bf16)
    (r : Fin 12288) (k : Fin 1536) :
    k0_pay14 (k0_pay8 (F := Ideal) (k0_pay5 (F := Ideal) x) (k0_pay6 (F := Ideal) s) w g) (k0_pay10 (F := Ideal) (k0_pay5 (F := Ideal) x) (k0_pay6 (F := Ideal) s) w g) (k0_pay11 (F := Ideal) (k0_pay5 (F := Ideal) x) (k0_pay6 (F := Ideal) s) w g) (Scalar.ofBits .f32 0x00000000#32) (ix2 r k)
      = code (G := 12) rfl (qnRow x s w g r) k := by
  unfold k0_pay14 code rI
  refine (join_grp (N := 1536) (G := 12) rfl _ _ r k).trans ((clip_vec _ _ _ _).trans ?_)
  refine congrArg₂ (fun u w : EReal => clip (u * w)) ?_ ?_
  · refine (pay8_apply x s w g r _ _).trans ?_
    exact congrArg (qnRow x s w g r) (in_grp (G := 12) rfl k _)
  · refine (bcast_grp (by decide) (by decide) _ _ _ r _ _).trans ((inv_vec _ _).trans ?_)
    rw [pay12_apply x s w g r]

/-- The normalised `kv`. -/
theorem pay15_apply (x : FVec Ideal S12288x16384 .bf16) (s : FVec Ideal S17x128 .f32) (w : FVec Ideal S2112x16384 .fp8e4m3) (g : FVec Ideal S1x512 .bf16)
    (r : Fin 12288) (k : Fin 512) :
    k0_pay15 (F := Ideal) (k0_pay7 (F := Ideal) (k0_pay5 (F := Ideal) x) (k0_pay6 (F := Ideal) s) w) g (ix2 r k) = kvRow (aRow x s w r) (fun n => g (ix2 (0 : Fin 1) n)) k := by
  unfold k0_pay15
  have hs : ∀ n : Fin 512, extractStridedSlice S12288x512 ![0, 1536] (k0_pay7 (F := Ideal) (k0_pay5 (F := Ideal) x) (k0_pay6 (F := Ideal) s) w) slices_S12288x2112_o0_1536_S12288x512 (ix2 r n)
      = aRow x s w r ⟨1536 + n.val, by have := n.isLt; omega⟩ := fun n =>
    (extractStridedSlice_apply _ _ _ _ (ix2 r (⟨1536 + n.val, by have := n.isLt; omega⟩ : Fin 2112)) fun a => by
      match a with
      | ⟨0, _⟩ => show r.val = 0 + r.val; omega
      | ⟨1, _⟩ => rfl).trans (pay7_apply x s w r _)
  rw [shapeCast_self]
  refine congrArg₂ (fun u w : EReal => u * w) (congrArg₂ (fun u w : EReal => u * w) (hs _) ?_) (broadcastTo_1b_ab_apply _ _ r _)
  refine (bcast_col (by decide) _ _ r _).trans ?_
  refine congrArg (fun x : EReal => Ideal.rsqrt (Ideal.div x (Ideal.ofBits .f32 0x44000000#32) + Ideal.ofBits .f32 0x358637BD#32)) ?_
  refine (shapeCast_a_a1_apply _ shapeCasts_S12288_S12288x1 r 0).trans ((row_sum _ _ _ _ r).trans ?_)
  exact Finset.sum_congr rfl fun n _ => congrArg₂ (fun u w : EReal => u * w) (hs n) (hs n)

/-- The rotary part. -/
theorem pay16_apply (x : FVec Ideal S12288x16384 .bf16) (s : FVec Ideal S17x128 .f32) (w : FVec Ideal S2112x16384 .fp8e4m3)
    (r : Fin 12288) (k : Fin 64) :
    k0_pay16 (F := Ideal) (k0_pay7 (F := Ideal) (k0_pay5 (F := Ideal) x) (k0_pay6 (F := Ideal) s) w) (ix2 r k) = peRow (aRow x s w r) k := by
  unfold k0_pay16
  refine (trunc_vec _ _ _).trans ?_
  exact (extractStridedSlice_apply _ _ _ _ (ix2 r (⟨2048 + k.val, by have := k.isLt; omega⟩ : Fin 2112)) fun a => by
      match a with
      | ⟨0, _⟩ => show r.val = 0 + r.val; omega
      | ⟨1, _⟩ => rfl).trans (pay7_apply x s w r _)

end Cert.ReferenceIdeal.Gen

end
-- ==== Proof.RArr.lean ====
/- The reference's final arrays, over the extended reals. -/
module

public import proofs.«01_k».proof.Proof.RVal
public import Idealize.ShloMosaic.Lib.Claim
public import Idealize.ShloMosaic.Lib.Pipeline.ValueKit

@[expose] public section

set_option maxRecDepth 16384

noncomputable section

namespace Cert.ReferenceIdeal.Gen

open Idealize.ShloMosaic hiding ix1 ix2 ix3
open Idealize.ShloMosaic.TcCoe Idealize.ShloMosaic.Tactic
open Idealize.ShloMosaic.ValueIdx
open Idealize.ShloMosaic.Pipeline (Dat Cfg Window)
open Cert.Math

variable (m : (ℓ : Loc nD τ sig) → Buf (Elt Ideal) ℓ)

/-- `x` with its rows in one axis. -/
abbrev mx (c : Dev nD) : FVec Ideal S12288x16384 .bf16 := shapeCast S12288x16384 (m ((c : Thread nD τ).loc main_arg0)) shapeCasts_S8x1536x16384_S12288x16384
/-- The weights. -/
abbrev mw (c : Dev nD) : FVec Ideal S2112x16384 .fp8e4m3 := m ((c : Thread nD τ).loc main_arg1)
/-- The weights' scales. -/
abbrev ms (c : Dev nD) : FVec Ideal S17x128 .f32 := m ((c : Thread nD τ).loc main_arg2)
/-- The weight of the norm of `q`. -/
abbrev mq (c : Dev nD) : FVec Ideal S1x1536 .bf16 := shapeCast S1x1536 (m ((c : Thread nD τ).loc main_arg3)) shapeCasts_S1536_S1x1536
/-- The weight of the norm of `kv`. -/
abbrev mk (c : Dev nD) : FVec Ideal S1x512 .bf16 := shapeCast S1x512 (m ((c : Thread nD τ).loc main_arg4)) shapeCasts_S512_S1x512

theorem V_v0 (c : Dev nD) : V m c main_v0 = mx m c := by entry_read; rfl
theorem V_v1 (c : Dev nD) : V m c main_v1 = mq m c := by entry_read; rfl
theorem V_v2 (c : Dev nD) : V m c main_v2 = mk m c := by entry_read; rfl

theorem at2 {α : Type} {a b : ℕ} (f : (⟨2, ![a, b]⟩ : Shape).Idx → α) (j : (⟨2, ![a, b]⟩ : Shape).Idx) : f j = f (ix2 (j 0) (j 1)) :=
  congrArg f (funext fun x => by
    match x with
    | ⟨0, _⟩ => rfl
    | ⟨1, _⟩ => rfl)

theorem blk0 (c : Dev nD) : iblk m c 0 t0_0 = mx m c := by
  funext y
  refine Eq.trans ?_ (congrFun (V_v0 m c) y)
  have e : win0_0.index t0_0 = ![0, 0] := by decide +kernel
  blk_ext [iblk, e]

theorem blk1 (c : Dev nD) : iblk m c 1 t0_0 = mw m c := by
  funext y
  refine Eq.trans ?_ (congrFun (V_main_arg1 m c) y)
  have e : win0_1.index t0_0 = ![0, 0] := by decide +kernel
  blk_ext [iblk, e]

theorem blk2 (c : Dev nD) : iblk m c 2 t0_0 = ms m c := by
  funext y
  refine Eq.trans ?_ (congrFun (V_main_arg2 m c) y)
  have e : win0_2.index t0_0 = ![0, 0] := by decide +kernel
  blk_ext [iblk, e]

theorem blk3 (c : Dev nD) : iblk m c 3 t0_0 = mq m c := by
  funext y
  refine Eq.trans ?_ (congrFun (V_v1 m c) y)
  have e : win0_3.index t0_0 = ![0, 0] := by decide +kernel
  blk_ext [iblk, e]

theorem blk4 (c : Dev nD) : iblk m c 4 t0_0 = mk m c := by
  funext y
  refine Eq.trans ?_ (congrFun (V_v2 m c) y)
  have e : win0_4.index t0_0 = ![0, 0] := by decide +kernel
  blk_ext [iblk, e]

/-- The codes of `q`. -/
theorem arr5 (c : Dev nD) : (dats m 0 c).arrAt 5 (cfgs 0).N = fun i : S12288x1536.Idx => code (G := 12) rfl (qnRow (mx m c) (ms m c) (mw m c) (mq m c) (i 0)) (i 1) := by
  refine (dats m 0 c).arrAt_eq_of_after_last 5 t0_0 (by decide +kernel) _ fun j => ?_
  blk_simp
  rw [after0_5]
  unfold_out out0_5
  frame_out
  rw [blk0, blk1, blk2, blk3]
  exact (at2 _ j).trans (pay14_apply (mx m c) (ms m c) (mw m c) (mq m c) (j 0) (j 1))

/-- The scales of `q`. -/
theorem arr6 (c : Dev nD) : (dats m 0 c).arrAt 6 (cfgs 0).N = fun i : S12288x12.Idx => scale (G := 12) rfl (qnRow (mx m c) (ms m c) (mw m c) (mq m c) (i 0)) (i 1) := by
  refine (dats m 0 c).arrAt_eq_of_after_last 6 t0_0 (by decide +kernel) _ fun j => ?_
  blk_simp
  rw [after0_6]
  unfold_out out0_6
  frame_out
  rw [blk0, blk1, blk2, blk3]
  exact (at2 _ j).trans (pay13_apply (mx m c) (ms m c) (mw m c) (mq m c) (j 0) (j 1))

/-- The normalised `kv`. -/
theorem arr7 (c : Dev nD) : (dats m 0 c).arrAt 7 (cfgs 0).N = fun i : S12288x512.Idx => kvRow (aRow (mx m c) (ms m c) (mw m c) (i 0)) (fun n => mk m c (ix2 (0 : Fin 1) n)) (i 1) := by
  refine (dats m 0 c).arrAt_eq_of_after_last 7 t0_0 (by decide +kernel) _ fun j => ?_
  blk_simp
  rw [after0_7]
  unfold_out out0_7
  frame_out
  rw [blk0, blk1, blk2, blk4]
  exact (at2 _ j).trans (pay15_apply (mx m c) (ms m c) (mw m c) (mk m c) (j 0) (j 1))

/-- The rotary part. -/
theorem arr8 (c : Dev nD) : (dats m 0 c).arrAt 8 (cfgs 0).N = fun i : S12288x64.Idx => peRow (aRow (mx m c) (ms m c) (mw m c) (i 0)) (i 1) := by
  refine (dats m 0 c).arrAt_eq_of_after_last 8 t0_0 (by decide +kernel) _ fun j => ?_
  blk_simp
  rw [after0_8]
  unfold_out out0_8
  frame_out
  rw [blk0, blk1, blk2]
  exact (at2 _ j).trans (pay16_apply (mx m c) (ms m c) (mw m c) (j 0) (j 1))

/-- The codes of `x`. -/
theorem arr9 (c : Dev nD) : (dats m 0 c).arrAt 9 (cfgs 0).N = fun i : S12288x16384.Idx => code (G := 128) rfl (row (φ := .bf16) (mx m c) (i 0)) (i 1) := by
  refine (dats m 0 c).arrAt_eq_of_after_last 9 t0_0 (by decide +kernel) _ fun j => ?_
  blk_simp
  rw [after0_9]
  frame_out
  rw [blk0]
  exact (at2 _ j).trans (pay4_apply (mx m c) (j 0) (j 1))

/-- The scales of `x`. -/
theorem arr10 (c : Dev nD) : (dats m 0 c).arrAt 10 (cfgs 0).N = fun i : S12288x128.Idx => scale (G := 128) rfl (row (φ := .bf16) (mx m c) (i 0)) (i 1) := by
  refine (dats m 0 c).arrAt_eq_of_after_last 10 t0_0 (by decide +kernel) _ fun j => ?_
  blk_simp
  rw [after0_10]
  frame_out
  rw [blk0]
  exact (at2 _ j).trans (pay3_apply (mx m c) (j 0) (j 1))

end Cert.ReferenceIdeal.Gen

end
-- ==== Proof.RRun.lean ====
/- The reference's run: the six results and the arguments. -/
module

public import proofs.«01_k».proof.Proof.RArr

@[expose] public section

set_option maxRecDepth 16384

noncomputable section

namespace Cert.ReferenceIdeal.Gen

open Idealize.ShloMosaic hiding ix1 ix2 ix3
open Idealize.ShloMosaic.TcCoe Idealize.ShloMosaic.Tactic
open Idealize.ShloMosaic.ValueIdx
open Idealize.SL Idealize.SL.RA Idealize.SL.Sem
open Idealize.ShloMosaic.Pipeline (Dat Cfg Window)
open Cert.Math

/-- The codes of `q`. -/
def v5 (x : FVec Ideal S12288x16384 .bf16) (s : FVec Ideal S17x128 .f32) (w : FVec Ideal S2112x16384 .fp8e4m3) (g : FVec Ideal S1x1536 .bf16) : S12288x1536.Idx → EReal :=
  fun i => code (G := 12) rfl (qnRow x s w g (i 0)) (i 1)
/-- The scales of `q`. -/
def v6 (x : FVec Ideal S12288x16384 .bf16) (s : FVec Ideal S17x128 .f32) (w : FVec Ideal S2112x16384 .fp8e4m3) (g : FVec Ideal S1x1536 .bf16) : S12288x12.Idx → EReal :=
  fun i => scale (G := 12) rfl (qnRow x s w g (i 0)) (i 1)
/-- The normalised `kv`. -/
def v7 (x : FVec Ideal S12288x16384 .bf16) (s : FVec Ideal S17x128 .f32) (w : FVec Ideal S2112x16384 .fp8e4m3) (g : FVec Ideal S1x512 .bf16) : S12288x512.Idx → EReal :=
  fun i => kvRow (aRow x s w (i 0)) (fun n => g (ix2 (0 : Fin 1) n)) (i 1)
/-- The rotary part. -/
def v8 (x : FVec Ideal S12288x16384 .bf16) (s : FVec Ideal S17x128 .f32) (w : FVec Ideal S2112x16384 .fp8e4m3) : S12288x64.Idx → EReal :=
  fun i => peRow (aRow x s w (i 0)) (i 1)
/-- The codes of `x`. -/
def v9 (x : FVec Ideal S12288x16384 .bf16) : S12288x16384.Idx → EReal := fun i => code (G := 128) rfl (row (φ := .bf16) x (i 0)) (i 1)
/-- The scales of `x`. -/
def v10 (x : FVec Ideal S12288x16384 .bf16) : S12288x128.Idx → EReal := fun i => scale (G := 128) rfl (row (φ := .bf16) x (i 0)) (i 1)

variable (m : (ℓ : Loc nD τ sig) → Buf (Elt Ideal) ℓ) (ρ : Dev nD → PrngReg)

/-- The run: the six results, and the arguments unchanged. -/
theorem run_results : θ_run defs (onTc (τ := τ) (main (F := Ideal))) ⟨m, fun _ => 0, ρ⟩ (fun r => ∀ c : Dev nD,
    r.2.mem ((c.tc : Thread nD τ).loc main_v3_0) = v5 (mx m c) (ms m c) (mw m c) (mq m c)
    ∧ r.2.mem ((c.tc : Thread nD τ).loc main_v3_1) = v6 (mx m c) (ms m c) (mw m c) (mq m c)
    ∧ r.2.mem ((c.tc : Thread nD τ).loc main_v3_2) = v7 (mx m c) (ms m c) (mw m c) (mk m c)
    ∧ r.2.mem ((c.tc : Thread nD τ).loc main_v3_3) = v8 (mx m c) (ms m c) (mw m c)
    ∧ r.2.mem ((c.tc : Thread nD τ).loc main_v3_4) = v9 (mx m c)
    ∧ r.2.mem ((c.tc : Thread nD τ).loc main_v3_5) = v10 (mx m c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)) := by
  refine (θ_run defs _ _).mono (fun r h c => ?_) (run_main m ρ)
  refine ⟨((h c).1 5).trans (arr5 m c), ((h c).1 6).trans (arr6 m c), ((h c).1 7).trans (arr7 m c), ((h c).1 8).trans (arr8 m c), ((h c).1 9).trans (arr9 m c),
    ((h c).1 10).trans (arr10 m c), ?_, ?_, ?_, ?_, ?_⟩
  · exact ((h c).2 main_arg0 (Pipeline.mem_restRefs_of main_arg0 (by decide) (by decide))).trans (V_main_arg0 m c)
  · exact ((h c).1 1).trans (((dats m 0 c).arrAt_in 1 rfl _).trans ((A_eq m c 1).trans (V_main_arg1 m c)))
  · exact ((h c).1 2).trans (((dats m 0 c).arrAt_in 2 rfl _).trans ((A_eq m c 2).trans (V_main_arg2 m c)))
  · exact ((h c).2 main_arg3 (Pipeline.mem_restRefs_of main_arg3 (by decide) (by decide))).trans (V_main_arg3 m c)
  · exact ((h c).2 main_arg4 (Pipeline.mem_restRefs_of main_arg4 (by decide) (by decide))).trans (V_main_arg4 m c)

end Cert.ReferenceIdeal.Gen

end
-- ==== Proof.lean ====
/- The proof of the certificate's claim: the three frames, `preserves` and the equality of the results. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.IFrame
public import proofs.«01_k».proof.Proof.KFrame
public import proofs.«01_k».proof.Proof.KRun
public import proofs.«01_k».proof.Proof.RRun
public import Idealize.ShloMosaic.Adequacy
public import Idealize.ShloMosaic.Init

@[expose] public section

noncomputable section

namespace Cert.Proof

open Idealize.ShloMosaic Idealize.SL.Sem Cert.Kernel

/-- The kernel and the reference end with equal results. -/
theorem equal_results : @Cert.algebraic_KernelIdeal_ReferenceIdeal_pre_finite Cert.KernelIdeal.Gen.facts Cert.ReferenceIdeal.Gen.facts Cert.Pre_finite.facts := by
  intro m g m' g' hp ha
  have hb := fun c => @Cert.Pre_finite.bounds Cert.Pre_finite.facts _ _ _ _ _ (hp c)
  have hx := fun c => Cert.KernelIdeal.Gen.x_bound m (fun c i => (hb c).1 i) c
  have hq := fun c => Cert.KernelIdeal.Gen.q_bound m (fun c i => (hb c).2 i) c
  refine ⟨Cert.KernelIdeal.Gen.v5 m, Cert.KernelIdeal.Gen.v6 m, Cert.KernelIdeal.Gen.v7 m, Cert.KernelIdeal.Gen.v8 m, Cert.KernelIdeal.Gen.v9 m, Cert.KernelIdeal.Gen.v10 m,
    Cert.KernelIdeal.Gen.run_results m g hx hq, ?_⟩
  refine (θ_run _ _ _).mono (fun r h c => ?_) (Cert.ReferenceIdeal.Gen.run_results m' g')
  obtain ⟨h0, h1, h2, h3, h4, h5, hk⟩ := h c
  obtain ⟨a0, a1, a2, a3, a4⟩ := ha c
  have ex : Cert.ReferenceIdeal.Gen.mx m' c = Cert.KernelIdeal.Gen.mx m c := congrArg (fun z => shapeCast _ z Cert.ReferenceIdeal.Gen.shapeCasts_S8x1536x16384_S12288x16384) a0
  have eq : Cert.ReferenceIdeal.Gen.mq m' c = Cert.KernelIdeal.Gen.mq m c := congrArg (fun z => shapeCast _ z Cert.ReferenceIdeal.Gen.shapeCasts_S1536_S1x1536) a3
  have ek : Cert.ReferenceIdeal.Gen.mk m' c = Cert.KernelIdeal.Gen.mk m c := congrArg (fun z => shapeCast _ z Cert.ReferenceIdeal.Gen.shapeCasts_S512_S1x512) a4
  have ew : Cert.ReferenceIdeal.Gen.mw m' c = Cert.KernelIdeal.Gen.mw m c := a1
  have es : Cert.ReferenceIdeal.Gen.ms m' c = Cert.KernelIdeal.Gen.ms m c := a2
  rw [ex, es, ew, eq] at h0 h1
  rw [ex, es, ew, ek] at h2
  rw [ex, es, ew] at h3
  rw [ex] at h4 h5
  exact ⟨h0, h1, h2, h3, h4, h5, hk⟩

/-- The claim. -/
theorem claim : Cert.Claim := ⟨Cert.Kernel.Gen.facts, Cert.KernelIdeal.Gen.facts, Cert.ReferenceIdeal.Gen.facts, Cert.Pre_finite.facts,
  Cert.Kernel.Gen.quiescent, fun m ρ _ => Cert.KernelIdeal.Gen.frame m ρ, fun m ρ _ => Cert.KernelIdeal.Gen.frame m ρ,
  fun m ρ _ => Cert.ReferenceIdeal.Gen.frame m ρ, fun m ρ _ => Cert.ReferenceIdeal.Gen.frame m ρ, trivial, equal_results⟩

end Cert.Proof

end
